-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slopes_at_most_one [hPre_slopes_at_most_one : Cert.Pre_slopes_at_most_one.Facts] (m : (ℓ : Loc Cert.KernelIdeal.nD Cert.KernelIdeal.τ Cert.KernelIdeal.sig) → Buf (Elt Ideal) ℓ) : Prop :=
  ∀ c : Dev Cert.KernelIdeal.nD,
    (Cert.Pre_slopes_at_most_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slopes_at_most_one [hPre_slopes_at_most_one : Cert.Pre_slopes_at_most_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slopes_at_most_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_slopes_at_most_one [hKernelIdeal : Cert.KernelIdeal.Facts] [hPre_slopes_at_most_one : Cert.Pre_slopes_at_most_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slopes_at_most_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_slopes_at_most_one [hReferenceIdeal : Cert.ReferenceIdeal.Facts] [hPre_slopes_at_most_one : Cert.Pre_slopes_at_most_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slopes_at_most_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "seventh" .f32 0x3E124925#32 ((7⁻¹ : ℝ) : EReal)

def algebraic_KernelIdeal_ReferenceIdeal_pre_slopes_at_most_one [hKernelIdeal : Cert.KernelIdeal.Facts] [hReferenceIdeal : Cert.ReferenceIdeal.Facts] [hPre_slopes_at_most_one : Cert.Pre_slopes_at_most_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slopes_at_most_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_slopes_at_most_one : Cert.Pre_slopes_at_most_one.Facts),
    quiescent_Kernel (hKernel := hKernel)
    ∧ quiescent_KernelIdeal (hKernelIdeal := hKernelIdeal)
    ∧ quiescent_KernelIdeal_pre_slopes_at_most_one (hKernelIdeal := hKernelIdeal) (hPre_slopes_at_most_one := hPre_slopes_at_most_one)
    ∧ quiescent_ReferenceIdeal (hReferenceIdeal := hReferenceIdeal)
    ∧ quiescent_ReferenceIdeal_pre_slopes_at_most_one (hReferenceIdeal := hReferenceIdeal) (hPre_slopes_at_most_one := hPre_slopes_at_most_one)
    ∧ preserves_Kernel_KernelIdeal
    ∧ algebraic_KernelIdeal_ReferenceIdeal_pre_slopes_at_most_one (hKernelIdeal := hKernelIdeal) (hReferenceIdeal := hReferenceIdeal) (hPre_slopes_at_most_one := hPre_slopes_at_most_one)
-- ==== Pre_slopes_at_most_one.lean ====
abbrev S8192x8x128 : Shape := ⟨3, ![8192, 8, 128]⟩
abbrev S8192x8x8 : Shape := ⟨3, ![8192, 8, 8]⟩
abbrev S64x128 : Shape := ⟨2, ![64, 128]⟩
abbrev S64 : Shape := ⟨1, ![64]⟩
abbrev S1 : Shape := ⟨1, ![1]⟩
abbrev S128x64 : Shape := ⟨2, ![128, 64]⟩
abbrev S128 : Shape := ⟨1, ![128]⟩
abbrev S1x64x64 : Shape := ⟨3, ![1, 64, 64]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel

variable [Facts]

def fn {F : FTy → Type} [FloatOps F] (main_arg0 : FVec F S8192x8x128 .f32) (main_arg1 : FVec F S8192x8x128 .f32) (main_arg2 : FVec F S8192x8x128 .f32) (main_arg3 : FVec F S8192x8x128 .f32) (main_arg4 : FVec F S8192x8x8 .f32) (main_arg5 : FVec F S8192x8x8 .f32) (main_arg6 : FVec F S64x128 .f32) (main_arg7 : FVec F S64 .f32) (main_arg8 : FVec F S1 .f32) (main_arg9 : FVec F S128x64 .f32) (main_arg10 : FVec F S128 .f32) (main_arg11 : FVec F S1 .f32) (main_arg12 : FVec F S1x64x64 .f32) (main_arg13 : FVec F S1 .f32) (main_arg14 : FVec F S1x64x64 .f32) (main_arg15 : FVec F S1 .f32) : IVec S_ 1 :=
  let main_cst : FVec F S_ .f32 := constant S_ .f32 0x3F800000#32
  let main_v0 : FVec F S1 .f32 := broadcastInDim S1 ![] bcast_S_S1 main_cst
  let main_v1 : IVec S1 1 := cmpf .ole main_arg8 main_v0
  let main_c : IVec S_ 1 := constantI S_ 1 1#1
  let main_v2 : IVec S_ 1 := (fun x v => Host.reduce IntOp.andi x v reducesTo_S1_S_d0 h_S_) main_v1 main_c
  let main_cst_0 : FVec F S_ .f32 := constant S_ .f32 0x3F800000#32
  let main_v3 : FVec F S1 .f32 := broadcastInDim S1 ![] bcast_S_S1 main_cst_0
  let main_v4 : IVec S1 1 := cmpf .ole main_arg11 main_v3
  let main_c_1 : IVec S_ 1 := constantI S_ 1 1#1
  let main_v5 : IVec S_ 1 := (fun x v => Host.reduce IntOp.andi x v reducesTo_S1_S_d0 h_S_) main_v4 main_c_1
  let main_v6 : IVec S_ 1 := andi main_v2 main_v5
  main_v6
-- ==== Kernel.lean ====
abbrev S8192x8x128 : Shape := ⟨3, ![8192, 8, 128]⟩
abbrev S8192x8x8 : Shape := ⟨3, ![8192, 8, 8]⟩
abbrev S64x128 : Shape := ⟨2, ![64, 128]⟩
abbrev S64 : Shape := ⟨1, ![64]⟩
abbrev S1 : Shape := ⟨1, ![1]⟩
abbrev S128x64 : Shape := ⟨2, ![128, 64]⟩
abbrev S128 : Shape := ⟨1, ![128]⟩
abbrev S1x64x64 : Shape := ⟨3, ![1, 64, 64]⟩
abbrev S_ : Shape := ⟨0, ![]⟩
abbrev S128x128 : Shape := ⟨2, ![128, 128]⟩
abbrev S1x128 : Shape := ⟨2, ![1, 128]⟩
abbrev S64x64 : Shape := ⟨2, ![64, 64]⟩
abbrev S32 : Shape := ⟨1, ![32]⟩
abbrev S32x1 : Shape := ⟨2, ![32, 1]⟩
abbrev S32x128 : Shape := ⟨2, ![32, 128]⟩
abbrev S8x8x8192 : Shape := ⟨3, ![8, 8, 8192]⟩
abbrev S1x1 : Shape := ⟨2, ![1, 1]⟩
abbrev S16384x1 : Shape := ⟨2, ![16384, 1]⟩
abbrev S512x8x128 : Shape := ⟨3, ![512, 8, 128]⟩
abbrev S8x8x512 : Shape := ⟨3, ![8, 8, 512]⟩
abbrev S512x8x8 : Shape := ⟨3, ![512, 8, 8]⟩
abbrev S512x8x120 : Shape := ⟨3, ![512, 8, 120]⟩
abbrev S4096x128 : Shape := ⟨2, ![4096, 128]⟩
abbrev S16x128 : Shape := ⟨2, ![16, 128]⟩
abbrev S512x128 : Shape := ⟨2, ![512, 128]⟩
abbrev S512 : Shape := ⟨1, ![512]⟩
abbrev S512x1 : Shape := ⟨2, ![512, 1]⟩
abbrev S511x128 : Shape := ⟨2, ![511, 128]⟩

abbrev nBuf : Space → Nat
  | .hbm => 147
  | .vmem => 29
  | .smem => 4
  | _ => 0

abbrev hbmTy0_0 (i : Nat) : BufTy := match i % 128 with
  | 0 => ⟨S8192x8x128, .f32⟩
  | 1 => ⟨S8192x8x128, .f32⟩
  | 2 => ⟨S8192x8x128, .f32⟩
  | 3 => ⟨S8192x8x128, .f32⟩
  | 4 => ⟨S8192x8x8, .f32⟩
  | 5 => ⟨S8192x8x8, .f32⟩
  | 6 => ⟨S64x128, .f32⟩
  | 7 => ⟨S64, .f32⟩
  | 8 => ⟨S1, .f32⟩
  | 9 => ⟨S128x64, .f32⟩
  | 10 => ⟨S128, .f32⟩
  | 11 => ⟨S1, .f32⟩
  | 12 => ⟨S1x64x64, .f32⟩
  | 13 => ⟨S1, .f32⟩
  | 14 => ⟨S1x64x64, .f32⟩
  | 15 => ⟨S1, .f32⟩
  | 16 => ⟨S_, .f32⟩
  | 17 => ⟨S128x64, .f32⟩
  | 18 => ⟨S128x64, .f32⟩
  | 19 => ⟨S128x128, .f32⟩
  | 20 => ⟨S128x64, .f32⟩
  | 21 => ⟨S128x128, .f32⟩
  | 22 => ⟨S128, .f32⟩
  | 23 => ⟨S1x128, .f32⟩
  | 24 => ⟨S_, .f32⟩
  | 25 => ⟨S64x128, .f32⟩
  | 26 => ⟨S64x128, .f32⟩
  | 27 => ⟨S128x128, .f32⟩
  | 28 => ⟨S_, .f32⟩
  | 29 => ⟨S64x64, .f32⟩
  | 30 => ⟨S64x64, .f32⟩
  | 31 => ⟨S64x128, .f32⟩
  | 32 => ⟨S_, .f32⟩
  | 33 => ⟨S64x128, .f32⟩
  | 34 => ⟨S128x128, .f32⟩
  | 35 => ⟨S64x64, .f32⟩
  | 36 => ⟨S64x128, .f32⟩
  | 37 => ⟨S_, .f32⟩
  | 38 => ⟨S64x128, .f32⟩
  | 39 => ⟨S128x128, .f32⟩
  | 40 => ⟨S32, .i32⟩
  | 41 => ⟨S32x1, .i32⟩
  | 42 => ⟨S128, .i32⟩
  | 43 => ⟨S1x128, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S32x1, .i32⟩
  | 51 => ⟨S32x1, .i32⟩
  | 52 => ⟨S_, .i32⟩
  | 53 => ⟨S32x1, .i32⟩
  | 54 => ⟨S32x1, .i1⟩
  | 55 => ⟨S_, .i32⟩
  | 56 => ⟨S32x1, .i32⟩
  | 57 => ⟨S32x1, .i1⟩
  | 58 => ⟨S_, .i32⟩
  | 59 => ⟨S_, .i1⟩
  | 60 => ⟨S32x1, .i1⟩
  | 61 => ⟨S32x1, .i1⟩
  | 62 => ⟨S32x1, .i1⟩
  | 63 => ⟨S32x1, .i32⟩
  | 64 => ⟨S32x1, .i32⟩
  | 65 => ⟨S32x1, .i32⟩
  | 66 => ⟨S_, .i32⟩
  | 67 => ⟨S32x1, .i32⟩
  | 68 => ⟨S32x1, .i1⟩
  | 69 => ⟨S_, .i32⟩
  | 70 => ⟨S_, .i32⟩
  | 71 => ⟨S1x128, .i32⟩
  | 72 => ⟨S1x128, .i32⟩
  | 73 => ⟨S1x128, .i32⟩
  | 74 => ⟨S_, .i32⟩
  | 75 => ⟨S1x128, .i32⟩
  | 76 => ⟨S1x128, .i1⟩
  | 77 => ⟨S1x128, .i32⟩
  | 78 => ⟨S1x128, .i32⟩
  | 79 => ⟨S_, .i32⟩
  | 80 => ⟨S1x128, .i32⟩
  | 81 => ⟨S1x128, .i1⟩
  | 82 => ⟨S1x128, .i1⟩
  | 83 => ⟨S_, .i32⟩
  | 84 => ⟨S1x128, .i32⟩
  | 85 => ⟨S1x128, .i32⟩
  | 86 => ⟨S1x128, .i32⟩
  | 87 => ⟨S32x128, .i32⟩
  | 88 => ⟨S32x128, .i32⟩
  | 89 => ⟨S32x128, .i1⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S1x128, .i32⟩
  | 97 => ⟨S1x128, .i32⟩
  | 98 => ⟨S_, .i32⟩
  | 99 => ⟨S1x128, .i32⟩
  | 100 => ⟨S1x128, .i1⟩
  | 101 => ⟨S_, .i32⟩
  | 102 => ⟨S1x128, .i32⟩
  | 103 => ⟨S1x128, .i1⟩
  | 104 => ⟨S_, .i32⟩
  | 105 => ⟨S_, .i1⟩
  | 106 => ⟨S1x128, .i1⟩
  | 107 => ⟨S1x128, .i1⟩
  | 108 => ⟨S1x128, .i1⟩
  | 109 => ⟨S1x128, .i32⟩
  | 110 => ⟨S1x128, .i32⟩
  | 111 => ⟨S1x128, .i32⟩
  | 112 => ⟨S_, .i32⟩
  | 113 => ⟨S1x128, .i32⟩
  | 114 => ⟨S1x128, .i1⟩
  | 115 => ⟨S32x128, .i1⟩
  | 116 => ⟨S32x128, .i1⟩
  | 117 => ⟨S_, .i32⟩
  | 118 => ⟨S32x1, .i32⟩
  | 119 => ⟨S32x1, .i32⟩
  | 120 => ⟨S_, .i32⟩
  | 121 => ⟨S32x1, .i32⟩
  | 122 => ⟨S32x1, .i32⟩
  | 123 => ⟨S32x128, .i32⟩
  | 124 => ⟨S32x128, .i32⟩
  | 125 => ⟨S32x128, .i1⟩
  | 126 => ⟨S32x128, .i1⟩
  | 127 => ⟨S32x128, .i1⟩
  | _ => ⟨S8192x8x128, .f32⟩

abbrev hbmTy0_1 (i : Nat) : BufTy := match i % 128 with
  | 0 => ⟨S_, .f32⟩
  | 1 => ⟨S_, .f32⟩
  | 2 => ⟨S32x128, .f32⟩
  | 3 => ⟨S32x128, .f32⟩
  | 4 => ⟨S32x128, .f32⟩
  | 5 => ⟨S32x128, .bf16⟩
  | 6 => ⟨S8x8x8192, .f32⟩
  | 7 => ⟨S8x8x8192, .f32⟩
  | 8 => ⟨S128x128, .bf16⟩
  | 9 => ⟨S128x128, .bf16⟩
  | 10 => ⟨S1x1, .f32⟩
  | 11 => ⟨S128x128, .bf16⟩
  | 12 => ⟨S1x128, .f32⟩
  | 13 => ⟨S1x1, .f32⟩
  | 14 => ⟨S1x1, .f32⟩
  | 15 => ⟨S1x1, .f32⟩
  | 16 => ⟨S8192x8x128, .f32⟩
  | 17 => ⟨S8192x8x128, .f32⟩
  | 18 => ⟨S16384x1, .f32⟩
  | _ => ⟨S8192x8x128, .f32⟩

abbrev hbmTy (i : Nat) : BufTy := match i / 128 with
  | 0 => hbmTy0_0 i
  | 1 => hbmTy0_1 i
  | _ => ⟨S8192x8x128, .f32⟩

abbrev bufTy : (tb : Table) → Fin (tcTables nBuf tb) → BufTy
  | .hbm, ⟨i, _⟩ => hbmTy i
  | .local _ .vmem, ⟨0, _⟩ => ⟨S512x8x128, .f32⟩
  | .local _ .vmem, ⟨1, _⟩ => ⟨S512x8x128, .f32⟩
  | .local _ .vmem, ⟨2, _⟩ => ⟨S512x8x128, .f32⟩
  | .local _ .vmem, ⟨3, _⟩ => ⟨S512x8x128, .f32⟩
  | .local _ .vmem, ⟨4, _⟩ => ⟨S512x8x128, .f32⟩
  | .local _ .vmem, ⟨5, _⟩ => ⟨S512x8x128, .f32⟩
  | .local _ .vmem, ⟨6, _⟩ => ⟨S512x8x128, .f32⟩
  | .local _ .vmem, ⟨7, _⟩ => ⟨S512x8x128, .f32⟩
  | .local _ .vmem, ⟨8, _⟩ => ⟨S8x8x512, .f32⟩
  | .local _ .vmem, ⟨9, _⟩ => ⟨S8x8x512, .f32⟩
  | .local _ .vmem, ⟨10, _⟩ => ⟨S8x8x512, .f32⟩
  | .local _ .vmem, ⟨11, _⟩ => ⟨S8x8x512, .f32⟩
  | .local _ .vmem, ⟨12, _⟩ => ⟨S128x128, .bf16⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S1x128, .f32⟩
  | .local _ .vmem, ⟨17, _⟩ => ⟨S128x128, .f32⟩
  | .local _ .vmem, ⟨18, _⟩ => ⟨S128x128, .f32⟩
  | .local _ .vmem, ⟨19, _⟩ => ⟨S32x128, .bf16⟩
  | .local _ .vmem, ⟨20, _⟩ => ⟨S512x8x128, .f32⟩
  | .local _ .vmem, ⟨21, _⟩ => ⟨S512x8x128, .f32⟩
  | .local _ .vmem, ⟨22, _⟩ => ⟨S512x8x128, .f32⟩
  | .local _ .vmem, ⟨23, _⟩ => ⟨S512x8x128, .f32⟩
  | .local _ .vmem, ⟨24, _⟩ => ⟨S16384x1, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_1 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_call0_v0 : Ref sig .tc := ⟨.hbm, 45, rfl⟩
abbrev main_call0_c : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_c_1 : Ref sig .tc := ⟨.hbm, 52, rfl⟩
abbrev main_call0_v5 : Ref sig .tc := ⟨.hbm, 53, rfl⟩
abbrev main_call0_v6 : Ref sig .tc := ⟨.hbm, 54, rfl⟩
abbrev main_call0_c_2 : Ref sig .tc := ⟨.hbm, 55, rfl⟩
abbrev main_call0_v7 : Ref sig .tc := ⟨.hbm, 56, rfl⟩
abbrev main_call0_v8 : Ref sig .tc := ⟨.hbm, 57, rfl⟩
abbrev main_call0_c_3 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_v23 : Ref sig .tc := ⟨.hbm, 65, rfl⟩
abbrev main_c_4 : Ref sig .tc := ⟨.hbm, 66, rfl⟩
abbrev main_v24 : Ref sig .tc := ⟨.hbm, 67, rfl⟩
abbrev main_v25 : Ref sig .tc := ⟨.hbm, 68, rfl⟩
abbrev main_c_5 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_c : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_0 : Ref sig .tc := ⟨.hbm, 83, rfl⟩
abbrev main_call1_v12 : Ref sig .tc := ⟨.hbm, 84, rfl⟩
abbrev main_call1_v13 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_c_6 : Ref sig .tc := ⟨.hbm, 90, rfl⟩
abbrev main_call2_v0 : Ref sig .tc := ⟨.hbm, 91, rfl⟩
abbrev main_call2_c : Ref sig .tc := ⟨.hbm, 92, rfl⟩
abbrev main_call2_v1 : Ref sig .tc := ⟨.hbm, 93, rfl⟩
abbrev main_call2_c_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_c_1 : Ref sig .tc := ⟨.hbm, 98, rfl⟩
abbrev main_call2_v5 : Ref sig .tc := ⟨.hbm, 99, rfl⟩
abbrev main_call2_v6 : Ref sig .tc := ⟨.hbm, 100, rfl⟩
abbrev main_call2_c_2 : Ref sig .tc := ⟨.hbm, 101, rfl⟩
abbrev main_call2_v7 : Ref sig .tc := ⟨.hbm, 102, rfl⟩
abbrev main_call2_v8 : Ref sig .tc := ⟨.hbm, 103, rfl⟩
abbrev main_call2_c_3 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_call2_v12 : Ref sig .tc := ⟨.hbm, 108, rfl⟩
abbrev main_call2_v13 : Ref sig .tc := ⟨.hbm, 109, rfl⟩
abbrev main_call2_v14 : Ref sig .tc := ⟨.hbm, 110, rfl⟩
abbrev main_v30 : Ref sig .tc := ⟨.hbm, 111, rfl⟩
abbrev main_c_7 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_v34 : Ref sig .tc := ⟨.hbm, 116, rfl⟩
abbrev main_c_8 : Ref sig .tc := ⟨.hbm, 117, rfl⟩
abbrev main_v35 : Ref sig .tc := ⟨.hbm, 118, rfl⟩
abbrev main_v36 : Ref sig .tc := ⟨.hbm, 119, rfl⟩
abbrev main_c_9 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_v41 : Ref sig .tc := ⟨.hbm, 125, rfl⟩
abbrev main_call3_v0 : Ref sig .tc := ⟨.hbm, 126, rfl⟩
abbrev main_v42 : Ref sig .tc := ⟨.hbm, 127, rfl⟩
abbrev main_cst_10 : Ref sig .tc := ⟨.hbm, 128, rfl⟩
abbrev main_cst_11 : Ref sig .tc := ⟨.hbm, 129, rfl⟩
abbrev main_call4_v0 : Ref sig .tc := ⟨.hbm, 130, rfl⟩
abbrev main_call4_v1 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_v49 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_v55_1 : Ref sig .tc := ⟨.hbm, 144, rfl⟩
abbrev main_v55_2 : Ref sig .tc := ⟨.hbm, 145, rfl⟩
abbrev main_v55_0 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg13_0 : Ref sig .tc := ⟨.vmem, 17, rfl⟩
abbrev cc0_stg15_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_stg9_0 : Ref sig .tc := ⟨.smem, 0, rfl⟩
abbrev cc0_stg12_0 : Ref sig .tc := ⟨.smem, 1, rfl⟩
abbrev cc0_stg14_0 : Ref sig .tc := ⟨.smem, 2, rfl⟩
abbrev cc0_stg16_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c512_i32 : BitVec 32 := 512#32
  let v538 : BitVec 32 := Scalar.muli arg0 c512_i32
  let v539 : Index := Scalar.indexCast v538
  let c0_186 : Index := 0#32
  ![v539.toNat, 0]
def k0_off2 (i : grid0.Coords) : Fin 2 → Nat :=
  let c8192_i32 : BitVec 32 := 8192#32
  let arg0 : BitVec 32 := BitVec.ofNat 32 (i 0).val
  let c512_i32_193 : BitVec 32 := 512#32
  let v556 : BitVec 32 := Scalar.muli arg0 c512_i32_193
  let v557 : BitVec 32 := Scalar.addi c8192_i32 v556
  let v558 : Index := Scalar.indexCast v557
  let c0_194 : Index := 0#32
  ![v558.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .smem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S16384x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== KernelIdeal.lean ====
variable {F : FTy → Type} [FloatOps F] [Named F]
def κ : String → Option EReal := fun
  | "seventh" => some ((7⁻¹ : ℝ) : EReal)
  | _ => none
-- ==== ReferenceIdeal.lean ====
abbrev S8192x8x128 : Shape := ⟨3, ![8192, 8, 128]⟩
abbrev S8192x8x8 : Shape := ⟨3, ![8192, 8, 8]⟩
abbrev S64x128 : Shape := ⟨2, ![64, 128]⟩
abbrev S64 : Shape := ⟨1, ![64]⟩
abbrev S1 : Shape := ⟨1, ![1]⟩
abbrev S128x64 : Shape := ⟨2, ![128, 64]⟩
abbrev S128 : Shape := ⟨1, ![128]⟩
abbrev S1x64x64 : Shape := ⟨3, ![1, 64, 64]⟩
abbrev S8192x8x64 : Shape := ⟨3, ![8192, 8, 64]⟩
abbrev S1x1x64 : Shape := ⟨3, ![1, 1, 64]⟩
abbrev S_ : Shape := ⟨0, ![]⟩
abbrev S1x1x1 : Shape := ⟨3, ![1, 1, 1]⟩
abbrev S1x1x128 : Shape := ⟨3, ![1, 1, 128]⟩
abbrev S8192x1x64 : Shape := ⟨3, ![8192, 1, 64]⟩
abbrev S8192x64 : Shape := ⟨2, ![8192, 64]⟩
abbrev S8192x7x64 : Shape := ⟨3, ![8192, 7, 64]⟩
abbrev S1x64x8192 : Shape := ⟨3, ![1, 64, 8192]⟩
abbrev S8192x1 : Shape := ⟨2, ![8192, 1]⟩
abbrev S1x1 : Shape := ⟨2, ![1, 1]⟩
abbrev S1x64 : Shape := ⟨2, ![1, 64]⟩
abbrev S8191x64 : Shape := ⟨2, ![8191, 64]⟩
abbrev S16384x1 : Shape := ⟨2, ![16384, 1]⟩
abbrev S16384x2 : Shape := ⟨2, ![16384, 2]⟩
abbrev S16384 : Shape := ⟨1, ![16384]⟩

abbrev nBuf : Space → Nat
  | .hbm => 139
  | .vmem => 0
  | .smem => 0
  | _ => 0

abbrev hbmTy0_0 (i : Nat) : BufTy := match i % 128 with
  | 0 => ⟨S8192x8x128, .f32⟩
  | 1 => ⟨S8192x8x128, .f32⟩
  | 2 => ⟨S8192x8x128, .f32⟩
  | 3 => ⟨S8192x8x128, .f32⟩
  | 4 => ⟨S8192x8x8, .f32⟩
  | 5 => ⟨S8192x8x8, .f32⟩
  | 6 => ⟨S64x128, .f32⟩
  | 7 => ⟨S64, .f32⟩
  | 8 => ⟨S1, .f32⟩
  | 9 => ⟨S128x64, .f32⟩
  | 10 => ⟨S128, .f32⟩
  | 11 => ⟨S1, .f32⟩
  | 12 => ⟨S1x64x64, .f32⟩
  | 13 => ⟨S1, .f32⟩
  | 14 => ⟨S1x64x64, .f32⟩
  | 15 => ⟨S1, .f32⟩
  | 16 => ⟨S8192x8x64, .f32⟩
  | 17 => ⟨S8192x8x64, .f32⟩
  | 18 => ⟨S1x1x64, .f32⟩
  | 19 => ⟨S8192x8x64, .f32⟩
  | 20 => ⟨S8192x8x64, .f32⟩
  | 21 => ⟨S_, .f32⟩
  | 22 => ⟨S8192x8x64, .f32⟩
  | 23 => ⟨S8192x8x64, .i1⟩
  | 24 => ⟨S1x1x1, .f32⟩
  | 25 => ⟨S8192x8x64, .f32⟩
  | 26 => ⟨S8192x8x64, .f32⟩
  | 27 => ⟨S8192x8x64, .f32⟩
  | 28 => ⟨S8192x8x64, .f32⟩
  | 29 => ⟨S8192x8x64, .f32⟩
  | 30 => ⟨S1x1x64, .f32⟩
  | 31 => ⟨S8192x8x64, .f32⟩
  | 32 => ⟨S8192x8x64, .f32⟩
  | 33 => ⟨S_, .f32⟩
  | 34 => ⟨S8192x8x64, .f32⟩
  | 35 => ⟨S8192x8x64, .i1⟩
  | 36 => ⟨S1x1x1, .f32⟩
  | 37 => ⟨S8192x8x64, .f32⟩
  | 38 => ⟨S8192x8x64, .f32⟩
  | 39 => ⟨S8192x8x64, .f32⟩
  | 40 => ⟨S8192x8x64, .f32⟩
  | 41 => ⟨S8192x8x64, .f32⟩
  | 42 => ⟨S1x1x64, .f32⟩
  | 43 => ⟨S8192x8x64, .f32⟩
  | 44 => ⟨S8192x8x64, .f32⟩
  | 45 => ⟨S_, .f32⟩
  | 46 => ⟨S8192x8x64, .f32⟩
  | 47 => ⟨S8192x8x64, .i1⟩
  | 48 => ⟨S1x1x1, .f32⟩
  | 49 => ⟨S8192x8x64, .f32⟩
  | 50 => ⟨S8192x8x64, .f32⟩
  | 51 => ⟨S8192x8x64, .f32⟩
  | 52 => ⟨S8192x8x64, .f32⟩
  | 53 => ⟨S8192x8x64, .f32⟩
  | 54 => ⟨S1x1x64, .f32⟩
  | 55 => ⟨S8192x8x64, .f32⟩
  | 56 => ⟨S8192x8x64, .f32⟩
  | 57 => ⟨S_, .f32⟩
  | 58 => ⟨S8192x8x64, .f32⟩
  | 59 => ⟨S8192x8x64, .i1⟩
  | 60 => ⟨S1x1x1, .f32⟩
  | 61 => ⟨S8192x8x64, .f32⟩
  | 62 => ⟨S8192x8x64, .f32⟩
  | 63 => ⟨S8192x8x64, .f32⟩
  | 64 => ⟨S8192x8x128, .f32⟩
  | 65 => ⟨S8192x8x128, .f32⟩
  | 66 => ⟨S1x1x128, .f32⟩
  | 67 => ⟨S8192x8x128, .f32⟩
  | 68 => ⟨S8192x8x128, .f32⟩
  | 69 => ⟨S_, .f32⟩
  | 70 => ⟨S8192x8x128, .f32⟩
  | 71 => ⟨S8192x8x128, .i1⟩
  | 72 => ⟨S1x1x1, .f32⟩
  | 73 => ⟨S8192x8x128, .f32⟩
  | 74 => ⟨S8192x8x128, .f32⟩
  | 75 => ⟨S8192x8x128, .f32⟩
  | 76 => ⟨S8192x8x128, .f32⟩
  | 77 => ⟨S8192x8x128, .f32⟩
  | 78 => ⟨S1x1x128, .f32⟩
  | 79 => ⟨S8192x8x128, .f32⟩
  | 80 => ⟨S8192x8x128, .f32⟩
  | 81 => ⟨S_, .f32⟩
  | 82 => ⟨S8192x8x128, .f32⟩
  | 83 => ⟨S8192x8x128, .i1⟩
  | 84 => ⟨S1x1x1, .f32⟩
  | 85 => ⟨S8192x8x128, .f32⟩
  | 86 => ⟨S8192x8x128, .f32⟩
  | 87 => ⟨S8192x8x128, .f32⟩
  | 88 => ⟨S8192x1x64, .f32⟩
  | 89 => ⟨S8192x64, .f32⟩
  | 90 => ⟨S8192x1x64, .f32⟩
  | 91 => ⟨S8192x64, .f32⟩
  | 92 => ⟨S8192x7x64, .f32⟩
  | 93 => ⟨S_, .f32⟩
  | 94 => ⟨S8192x64, .f32⟩
  | 95 => ⟨S_, .f32⟩
  | 96 => ⟨S8192x64, .f32⟩
  | 97 => ⟨S8192x64, .f32⟩
  | 98 => ⟨S8192x7x64, .f32⟩
  | 99 => ⟨S_, .f32⟩
  | 100 => ⟨S8192x64, .f32⟩
  | 101 => ⟨S_, .f32⟩
  | 102 => ⟨S8192x64, .f32⟩
  | 103 => ⟨S8192x64, .f32⟩
  | 104 => ⟨S1x64x8192, .f32⟩
  | 105 => ⟨S8192x1, .f32⟩
  | 106 => ⟨S1x1, .f32⟩
  | 107 => ⟨S8192x1, .f32⟩
  | 108 => ⟨S8192x1, .f32⟩
  | 109 => ⟨S1x64, .f32⟩
  | 110 => ⟨S8191x64, .f32⟩
  | 111 => ⟨S8192x64, .f32⟩
  | 112 => ⟨S1x64x8192, .f32⟩
  | 113 => ⟨S8192x1, .f32⟩
  | 114 => ⟨S1x1, .f32⟩
  | 115 => ⟨S8192x1, .f32⟩
  | 116 => ⟨S8192x1, .f32⟩
  | 117 => ⟨S16384x1, .f32⟩
  | 118 => ⟨S1x64x8192, .f32⟩
  | 119 => ⟨S8192x1, .f32⟩
  | 120 => ⟨S1x1, .f32⟩
  | 121 => ⟨S8192x1, .f32⟩
  | 122 => ⟨S8192x1, .f32⟩
  | 123 => ⟨S1x64, .f32⟩
  | 124 => ⟨S8191x64, .f32⟩
  | 125 => ⟨S8192x64, .f32⟩
  | 126 => ⟨S1x64x8192, .f32⟩
  | 127 => ⟨S8192x1, .f32⟩
  | _ => ⟨S8192x8x128, .f32⟩

abbrev hbmTy0_1 (i : Nat) : BufTy := match i % 128 with
  | 0 => ⟨S1x1, .f32⟩
  | 1 => ⟨S8192x1, .f32⟩
  | 2 => ⟨S8192x1, .f32⟩
  | 3 => ⟨S16384x1, .f32⟩
  | 4 => ⟨S16384x2, .f32⟩
  | 5 => ⟨S_, .f32⟩
  | 6 => ⟨S16384, .f32⟩
  | 7 => ⟨S_, .f32⟩
  | 8 => ⟨S16384, .f32⟩
  | 9 => ⟨S16384, .f32⟩
  | 10 => ⟨S16384x1, .f32⟩
  | _ => ⟨S8192x8x128, .f32⟩

abbrev hbmTy (i : Nat) : BufTy := match i / 128 with
  | 0 => hbmTy0_0 i
  | 1 => hbmTy0_1 i
  | _ => ⟨S8192x8x128, .f32⟩

abbrev bufTy : (tb : Table) → Fin (tcTables nBuf tb) → BufTy
  | .hbm, ⟨i, _⟩ => hbmTy i
  | _, _ => ⟨S8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_1 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_3 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_4 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_5 : Ref sig .tc := ⟨.hbm, 93, rfl⟩
abbrev main_v71 : Ref sig .tc := ⟨.hbm, 94, rfl⟩
abbrev main_cst_6 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_7 : Ref sig .tc := ⟨.hbm, 99, rfl⟩
abbrev main_v75 : Ref sig .tc := ⟨.hbm, 100, rfl⟩
abbrev main_cst_8 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_9 : Ref sig .tc := ⟨.hbm, 133, rfl⟩
abbrev main_v107 : Ref sig .tc := ⟨.hbm, 134, rfl⟩
abbrev main_cst_10 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩

abbrev nD : Nat := 1
abbrev τ : Topo := Topo.v7x

variable {F : FTy → Type} [FloatOps F]
-- ==== Proof.Block.lean ====
/- What one grid point of the kernel computes, as named arrays of the blocks it reads: the chain of the skeleton's payloads, cut at the
   arrays the proofs speak of. -/
module

public import proofs.«01_k».proof.Proof.Gen.KernelIdeal.Skeleton
public import Idealize.ShloMosaic.Lib.Pointwise

@[expose] public section

noncomputable section

namespace Cert.KernelIdeal.Fused

open Idealize.ShloMosaic Idealize.SL.Sem Cert.KernelIdeal Cert.KernelIdeal.Gen

/-- The blocks a grid point reads, one for each input window. -/
structure Blk (F : FTy → Type) where
  (x0 x1 x2 x3 : Vec F S512x8x128 .f32)
  (x4 x5 : Vec F S8x8x512 .f32)
  (x6 x7 : Vec F S128x128 .bf16)
  (x8 : Vec F S1x128 .f32)
  (x9 : Vec F S1x1 .f32)
  (x10 : Vec F S128x128 .bf16)
  (x11 : Vec F S1x128 .f32)
  (x12 : Vec F S1x1 .f32)
  (x13 : Vec F S128x128 .f32)
  (x14 : Vec F S1x1 .f32)
  (x15 : Vec F S128x128 .f32)
  (x16 : Vec F S1x1 .f32)
  (x17 : Vec F S32x128 .bf16)

namespace Blk

variable {F : FTy → Type} [FloatOps F] [Named F] (b : Blk F)

/-- The adjacency of the first pair of graphs, laid out in blocks along the diagonal of each group of 128 rows. -/
def bd1 : FVec F S4096x128 .bf16 :=
  k0_pay4 b.x4

/-- The same for the second pair. -/
def bd2 : FVec F S4096x128 .bf16 :=
  k0_pay5 b.x5

/-- The features of the first sequence in the left lanes. -/
def fts1 : FVec F S4096x128 .f32 :=
  k0_pay6 b.x0 b.x6

/-- The features of sequences two and four, side by side. -/
def fts24 : FVec F S4096x128 .f32 :=
  k0_pay8 b.x1 b.x6 b.x3 b.x7

/-- The encoder's activations of sequences one and three, side by side in the lanes. -/
def h13 : FVec F S4096x128 .f32 :=
  k0_pay33 (b.x9 (ix2 0 0)) b.bd1 (k0_pay7 b.fts1 b.x2 b.x7) (k0_pay9 b.bd1 b.fts1 b.x2 b.x7) (k0_pay10 b.bd1 b.fts1 b.x2 b.x7) (k0_pay11 b.bd1 b.fts1 b.x2 b.x7) (k0_pay12 b.bd1 b.fts1 b.x2 b.x7) (k0_pay13 b.bd1 b.fts1 b.x2 b.x7) (k0_pay14 b.bd1 b.fts1 b.x2 b.x7) (k0_pay15 b.bd1 b.fts1 b.x2 b.x7) (k0_pay17 (k0_pay7 b.fts1 b.x2 b.x7) (k0_pay16 b.bd1)) (k0_pay18 b.bd1 (k0_pay7 b.fts1 b.x2 b.x7)) (k0_pay19 b.bd1 (k0_pay7 b.fts1 b.x2 b.x7)) (k0_pay20 b.bd1 (k0_pay7 b.fts1 b.x2 b.x7)) (k0_pay21 b.bd1 (k0_pay7 b.fts1 b.x2 b.x7)) (k0_pay22 b.bd1 (k0_pay7 b.fts1 b.x2 b.x7)) (k0_pay23 b.bd1 (k0_pay7 b.fts1 b.x2 b.x7)) (k0_pay24 b.bd1 (k0_pay7 b.fts1 b.x2 b.x7)) (k0_pay25 b.bd1 (k0_pay7 b.fts1 b.x2 b.x7)) (k0_pay26 b.bd1 (k0_pay7 b.fts1 b.x2 b.x7)) (k0_pay27 b.bd1 (k0_pay7 b.fts1 b.x2 b.x7)) (k0_pay28 b.bd1 (k0_pay7 b.fts1 b.x2 b.x7)) (k0_pay29 b.bd1 (k0_pay7 b.fts1 b.x2 b.x7)) (k0_pay30 b.bd1 (k0_pay7 b.fts1 b.x2 b.x7)) (k0_pay31 b.bd1 (k0_pay7 b.fts1 b.x2 b.x7)) (k0_pay32 b.bd1) b.x8

/-- The aggregated features of sequences two and four, before the bias. -/
def agg24 : FVec F S4096x128 .f32 :=
  k0_pay55 b.bd2 b.fts24 (k0_pay34 b.bd2 b.fts24) (k0_pay35 b.bd2 b.fts24) (k0_pay38 (k0_pay36 b.bd2) (k0_pay37 b.fts24) (constant S128x128 .f32 0x00000000#32)) (k0_pay39 b.bd2 b.fts24) (k0_pay40 b.bd2 b.fts24) (k0_pay41 b.bd2 b.fts24) (k0_pay42 b.bd2 b.fts24) (k0_pay43 b.bd2 b.fts24) (k0_pay44 b.bd2 b.fts24) (k0_pay45 b.bd2 b.fts24) (k0_pay46 b.bd2 b.fts24) (k0_pay47 b.bd2 b.fts24) (k0_pay48 b.bd2 b.fts24) (k0_pay49 b.bd2 b.fts24) (k0_pay50 b.bd2 b.fts24) (k0_pay51 b.bd2 b.fts24) (k0_pay52 b.bd2 b.fts24) (k0_pay53 b.bd2) (k0_pay54 b.fts24) (constant S128x128 .f32 0x00000000#32)

/-- The encoder's activations of sequences two and four. -/
def hb24 : FVec F S4096x128 .bf16 :=
  k0_pay57 (b.x9 (ix2 0 0)) b.agg24 b.x8

/-- The sums over the first seven members of each graph, sequences one and three. -/
def sum13 : FVec F S512x128 .f32 :=
  k0_pay103 (k0_pay70 b.h13 b.x17) (k0_pay71 b.h13 b.x17) (k0_pay72 b.h13 b.x17) (k0_pay73 b.h13 b.x17) (k0_pay75 (k0_pay58 b.x17) (k0_pay74 b.h13) (constant S32x128 .f32 0x00000000#32)) (k0_pay76 (k0_pay56 b.h13) (k0_pay58 b.x17)) (k0_pay77 (k0_pay56 b.h13) (k0_pay58 b.x17)) (k0_pay78 (k0_pay56 b.h13) (k0_pay58 b.x17)) (k0_pay79 (k0_pay56 b.h13) (k0_pay58 b.x17)) (k0_pay80 (k0_pay56 b.h13) (k0_pay58 b.x17)) (k0_pay81 (k0_pay56 b.h13) (k0_pay58 b.x17)) (k0_pay82 (k0_pay56 b.h13) (k0_pay58 b.x17)) (k0_pay83 (k0_pay56 b.h13) (k0_pay58 b.x17)) (k0_pay84 (k0_pay56 b.h13) (k0_pay58 b.x17)) (k0_pay85 (k0_pay56 b.h13) (k0_pay58 b.x17)) (k0_pay86 (k0_pay56 b.h13) (k0_pay58 b.x17)) (k0_pay87 (k0_pay56 b.h13) (k0_pay58 b.x17)) (k0_pay88 (k0_pay56 b.h13) (k0_pay58 b.x17)) (k0_pay89 (k0_pay56 b.h13) (k0_pay58 b.x17)) (k0_pay90 (k0_pay56 b.h13) (k0_pay58 b.x17)) (k0_pay91 (k0_pay56 b.h13) (k0_pay58 b.x17)) (k0_pay92 (k0_pay59 b.h13 b.x17)) (k0_pay93 (k0_pay60 b.h13 b.x17)) (k0_pay94 (k0_pay61 b.h13 b.x17)) (k0_pay95 (k0_pay62 b.h13 b.x17)) (k0_pay96 (k0_pay63 b.h13 b.x17)) (k0_pay97 (k0_pay64 b.h13 b.x17)) (k0_pay98 (k0_pay65 b.h13 b.x17)) (k0_pay99 (k0_pay66 b.h13 b.x17)) (k0_pay100 (k0_pay67 b.h13 b.x17)) (k0_pay101 (k0_pay68 b.h13 b.x17)) (k0_pay102 (k0_pay69 b.h13 b.x17))

/-- The last member of each graph, sequences one and three. -/
def hm13 : FVec F S512x128 .f32 :=
  k0_pay104 (k0_pay59 b.h13 b.x17) (k0_pay60 b.h13 b.x17) (k0_pay61 b.h13 b.x17) (k0_pay62 b.h13 b.x17) (k0_pay63 b.h13 b.x17) (k0_pay64 b.h13 b.x17) (k0_pay65 b.h13 b.x17) (k0_pay66 b.h13 b.x17) (k0_pay67 b.h13 b.x17) (k0_pay68 b.h13 b.x17) (k0_pay69 b.h13 b.x17) (k0_pay70 b.h13 b.x17) (k0_pay71 b.h13 b.x17) (k0_pay72 b.h13 b.x17) (k0_pay73 b.h13 b.x17) (k0_pay75 (k0_pay58 b.x17) (k0_pay74 b.h13) (constant S32x128 .f32 0x00000000#32)) (k0_pay76 (k0_pay56 b.h13) (k0_pay58 b.x17)) (k0_pay77 (k0_pay56 b.h13) (k0_pay58 b.x17)) (k0_pay78 (k0_pay56 b.h13) (k0_pay58 b.x17)) (k0_pay79 (k0_pay56 b.h13) (k0_pay58 b.x17)) (k0_pay80 (k0_pay56 b.h13) (k0_pay58 b.x17)) (k0_pay81 (k0_pay56 b.h13) (k0_pay58 b.x17)) (k0_pay82 (k0_pay56 b.h13) (k0_pay58 b.x17)) (k0_pay83 (k0_pay56 b.h13) (k0_pay58 b.x17)) (k0_pay84 (k0_pay56 b.h13) (k0_pay58 b.x17)) (k0_pay85 (k0_pay56 b.h13) (k0_pay58 b.x17)) (k0_pay86 (k0_pay56 b.h13) (k0_pay58 b.x17)) (k0_pay87 (k0_pay56 b.h13) (k0_pay58 b.x17)) (k0_pay88 (k0_pay56 b.h13) (k0_pay58 b.x17)) (k0_pay89 (k0_pay56 b.h13) (k0_pay58 b.x17)) (k0_pay90 (k0_pay56 b.h13) (k0_pay58 b.x17)) (k0_pay91 (k0_pay56 b.h13) (k0_pay58 b.x17))

/-- The means over the first seven members, sequences one and three. -/
def cc13 : FVec F S512x128 .f32 :=
  k0_pay168 b.sum13

/-- The means over the first seven members, sequences two and four. -/
def cc24 : FVec F S512x128 .f32 :=
  k0_pay169 (k0_pay136 b.hb24 (k0_pay58 b.x17)) (k0_pay137 b.hb24 (k0_pay58 b.x17)) (k0_pay138 b.hb24 (k0_pay58 b.x17)) (k0_pay139 (k0_pay105 b.hb24 (k0_pay58 b.x17))) (k0_pay140 (k0_pay107 (k0_pay58 b.x17) (k0_pay106 b.hb24) (constant S32x128 .f32 0x00000000#32))) (k0_pay141 (k0_pay108 b.hb24 (k0_pay58 b.x17))) (k0_pay142 (k0_pay109 b.hb24 (k0_pay58 b.x17))) (k0_pay143 (k0_pay110 b.hb24 (k0_pay58 b.x17))) (k0_pay144 (k0_pay111 b.hb24 (k0_pay58 b.x17))) (k0_pay145 (k0_pay112 b.hb24 (k0_pay58 b.x17))) (k0_pay146 (k0_pay113 b.hb24 (k0_pay58 b.x17))) (k0_pay147 (k0_pay114 b.hb24 (k0_pay58 b.x17))) (k0_pay148 (k0_pay115 b.hb24 (k0_pay58 b.x17))) (k0_pay149 (k0_pay116 b.hb24 (k0_pay58 b.x17))) (k0_pay150 (k0_pay117 b.hb24 (k0_pay58 b.x17))) (k0_pay151 (k0_pay118 b.hb24 (k0_pay58 b.x17))) (k0_pay152 (k0_pay119 b.hb24 (k0_pay58 b.x17))) (k0_pay153 (k0_pay120 b.hb24 (k0_pay58 b.x17))) (k0_pay154 (k0_pay121 b.hb24 (k0_pay58 b.x17))) (k0_pay155 (k0_pay122 b.hb24 (k0_pay58 b.x17))) (k0_pay156 (k0_pay123 b.hb24 (k0_pay58 b.x17))) (k0_pay157 (k0_pay124 b.hb24 (k0_pay58 b.x17))) (k0_pay158 (k0_pay125 b.hb24 (k0_pay58 b.x17))) (k0_pay159 (k0_pay126 b.hb24 (k0_pay58 b.x17))) (k0_pay160 (k0_pay58 b.x17) (k0_pay127 b.hb24) (constant S32x128 .f32 0x00000000#32)) (k0_pay161 b.hb24 (k0_pay58 b.x17)) (k0_pay162 b.hb24 (k0_pay58 b.x17)) (k0_pay163 b.hb24 (k0_pay58 b.x17)) (k0_pay164 b.hb24 (k0_pay58 b.x17)) (k0_pay165 b.hb24 (k0_pay58 b.x17)) (k0_pay166 b.hb24 (k0_pay58 b.x17)) (k0_pay167 b.hb24 (k0_pay58 b.x17))

/-- The last members of the second sequence through the first bilinear form. -/
def m2 : FVec F S512x128 .f32 :=
  k0_pay170 (k0_pay105 b.hb24 (k0_pay58 b.x17)) (k0_pay107 (k0_pay58 b.x17) (k0_pay106 b.hb24) (constant S32x128 .f32 0x00000000#32)) (k0_pay108 b.hb24 (k0_pay58 b.x17)) (k0_pay109 b.hb24 (k0_pay58 b.x17)) (k0_pay110 b.hb24 (k0_pay58 b.x17)) (k0_pay111 b.hb24 (k0_pay58 b.x17)) (k0_pay112 b.hb24 (k0_pay58 b.x17)) (k0_pay113 b.hb24 (k0_pay58 b.x17)) (k0_pay114 b.hb24 (k0_pay58 b.x17)) (k0_pay115 b.hb24 (k0_pay58 b.x17)) (k0_pay116 b.hb24 (k0_pay58 b.x17)) (k0_pay117 b.hb24 (k0_pay58 b.x17)) (k0_pay118 b.hb24 (k0_pay58 b.x17)) (k0_pay119 b.hb24 (k0_pay58 b.x17)) (k0_pay120 b.hb24 (k0_pay58 b.x17)) (k0_pay121 b.hb24 (k0_pay58 b.x17)) (k0_pay122 b.hb24 (k0_pay58 b.x17)) (k0_pay123 b.hb24 (k0_pay58 b.x17)) (k0_pay124 b.hb24 (k0_pay58 b.x17)) (k0_pay125 b.hb24 (k0_pay58 b.x17)) (k0_pay126 b.hb24 (k0_pay58 b.x17)) (k0_pay128 (k0_pay58 b.x17) (k0_pay127 b.hb24) (constant S32x128 .f32 0x00000000#32)) (k0_pay129 b.hb24 (k0_pay58 b.x17)) (k0_pay130 b.hb24 (k0_pay58 b.x17)) (k0_pay131 b.hb24 (k0_pay58 b.x17)) (k0_pay132 b.hb24 (k0_pay58 b.x17)) (k0_pay133 b.hb24 (k0_pay58 b.x17)) (k0_pay134 b.hb24 (k0_pay58 b.x17)) (k0_pay135 b.hb24 (k0_pay58 b.x17)) (k0_pay136 b.hb24 (k0_pay58 b.x17)) (k0_pay137 b.hb24 (k0_pay58 b.x17)) (k0_pay138 b.hb24 (k0_pay58 b.x17)) b.x13

/-- The last members of the first sequence through the second bilinear form. -/
def m1 : FVec F S512x128 .f32 :=
  k0_pay171 b.hm13 b.x15

/-- Half the sum of the two biases. -/
def hbias : F .f32 :=
  k0_pay172 (b.x14 (ix2 0 0)) (b.x16 (ix2 0 0))

/-- The decoder's features of sequence three. -/
def ftsf1 : FVec F S4096x128 .f32 :=
  k0_pay183 (k0_pay56 b.h13) b.x10

/-- The decoder's features of sequence four. -/
def ftsf2 : FVec F S4096x128 .f32 :=
  k0_pay184 b.hb24 b.x10

/-- The decoder's bias. -/
def bdec : FVec F S1x128 .f32 :=
  k0_pay185 b.x11

/-- The first reconstruction, as rows. -/
def f1 : FVec F S4096x128 .f32 :=
  k0_pay213 (b.x12 (ix2 0 0)) b.bd1 b.ftsf1 b.bdec (k0_pay186 b.bd1 (k0_pay56 b.h13) b.x10) (k0_pay187 b.bd1 (k0_pay56 b.h13) b.x10) (k0_pay188 b.bd1 (k0_pay56 b.h13) b.x10) (k0_pay189 b.bd1 (k0_pay56 b.h13) b.x10) (k0_pay190 b.bd1 (k0_pay56 b.h13) b.x10) (k0_pay191 b.bd1 (k0_pay56 b.h13) b.x10) (k0_pay192 b.bd1 (k0_pay56 b.h13) b.x10) (k0_pay193 b.bd1 (k0_pay56 b.h13) b.x10) (k0_pay196 (k0_pay194 b.bd1) (k0_pay195 (k0_pay56 b.h13) b.x10)) (k0_pay197 b.bd1 b.ftsf1) (k0_pay198 b.bd1 b.ftsf1) (k0_pay199 b.bd1 b.ftsf1) (k0_pay200 b.bd1 b.ftsf1) (k0_pay201 b.bd1 b.ftsf1) (k0_pay202 b.bd1 b.ftsf1) (k0_pay203 b.bd1 b.ftsf1) (k0_pay204 b.bd1 b.ftsf1) (k0_pay205 b.bd1 b.ftsf1) (k0_pay206 b.bd1 b.ftsf1) (k0_pay207 b.bd1 b.ftsf1) (k0_pay208 b.bd1 b.ftsf1) (k0_pay209 b.bd1 b.ftsf1) (k0_pay210 b.bd1 b.ftsf1) (k0_pay211 b.bd1) (k0_pay212 b.ftsf1)

/-- The second reconstruction, as rows. -/
def f2 : FVec F S4096x128 .f32 :=
  k0_pay234 (b.x12 (ix2 0 0)) b.bd2 b.ftsf2 b.bdec (k0_pay214 b.bd2 b.ftsf2) (k0_pay215 b.bd2 b.ftsf2) (k0_pay216 b.bd2 b.ftsf2) (k0_pay217 b.bd2 b.ftsf2) (k0_pay218 b.bd2 b.ftsf2) (k0_pay219 b.bd2 b.ftsf2) (k0_pay220 b.bd2 b.ftsf2) (k0_pay221 b.bd2 b.ftsf2) (k0_pay222 b.bd2 b.ftsf2) (k0_pay223 b.bd2 b.ftsf2) (k0_pay224 b.bd2 b.ftsf2) (k0_pay225 b.bd2 b.ftsf2) (k0_pay226 b.bd2 b.ftsf2) (k0_pay227 b.bd2 b.ftsf2) (k0_pay228 b.bd2 b.ftsf2) (k0_pay229 b.bd2 b.ftsf2) (k0_pay230 b.bd2 b.ftsf2) (k0_pay231 b.bd2 b.ftsf2) (k0_pay232 b.bd2 b.ftsf2) (k0_pay233 b.bd2 b.ftsf2)

/-- What the point stores into the first reconstruction. -/
def out1 : FVec F S512x8x128 .f32 :=
  k0_pay235 b.f1

/-- What the point stores into the second reconstruction. -/
def out2 : FVec F S512x8x128 .f32 :=
  k0_pay1 b.f2

/-- The scores of the matching pairs. -/
def sa : FVec F S512x1 .f32 :=
  k0_pay175 b.hbias (k0_pay173 b.sum13 (k0_pay105 b.hb24 (k0_pay58 b.x17)) (k0_pay107 (k0_pay58 b.x17) (k0_pay106 b.hb24) (constant S32x128 .f32 0x00000000#32)) (k0_pay108 b.hb24 (k0_pay58 b.x17)) (k0_pay109 b.hb24 (k0_pay58 b.x17)) (k0_pay110 b.hb24 (k0_pay58 b.x17)) (k0_pay111 b.hb24 (k0_pay58 b.x17)) (k0_pay112 b.hb24 (k0_pay58 b.x17)) (k0_pay113 b.hb24 (k0_pay58 b.x17)) (k0_pay114 b.hb24 (k0_pay58 b.x17)) (k0_pay115 b.hb24 (k0_pay58 b.x17)) (k0_pay116 b.hb24 (k0_pay58 b.x17)) (k0_pay117 b.hb24 (k0_pay58 b.x17)) (k0_pay118 b.hb24 (k0_pay58 b.x17)) (k0_pay119 b.hb24 (k0_pay58 b.x17)) (k0_pay120 b.hb24 (k0_pay58 b.x17)) (k0_pay121 b.hb24 (k0_pay58 b.x17)) (k0_pay122 b.hb24 (k0_pay58 b.x17)) (k0_pay123 b.hb24 (k0_pay58 b.x17)) (k0_pay124 b.hb24 (k0_pay58 b.x17)) (k0_pay125 b.hb24 (k0_pay58 b.x17)) (k0_pay126 b.hb24 (k0_pay58 b.x17)) (k0_pay128 (k0_pay58 b.x17) (k0_pay127 b.hb24) (constant S32x128 .f32 0x00000000#32)) (k0_pay129 b.hb24 (k0_pay58 b.x17)) (k0_pay130 b.hb24 (k0_pay58 b.x17)) (k0_pay131 b.hb24 (k0_pay58 b.x17)) (k0_pay132 b.hb24 (k0_pay58 b.x17)) (k0_pay133 b.hb24 (k0_pay58 b.x17)) (k0_pay134 b.hb24 (k0_pay58 b.x17)) (k0_pay135 b.hb24 (k0_pay58 b.x17)) (k0_pay136 b.hb24 (k0_pay58 b.x17)) (k0_pay137 b.hb24 (k0_pay58 b.x17)) (k0_pay138 b.hb24 (k0_pay58 b.x17)) b.x13) (k0_pay174 b.hm13 (k0_pay136 b.hb24 (k0_pay58 b.x17)) (k0_pay137 b.hb24 (k0_pay58 b.x17)) (k0_pay138 b.hb24 (k0_pay58 b.x17)) (k0_pay139 (k0_pay105 b.hb24 (k0_pay58 b.x17))) (k0_pay140 (k0_pay107 (k0_pay58 b.x17) (k0_pay106 b.hb24) (constant S32x128 .f32 0x00000000#32))) (k0_pay141 (k0_pay108 b.hb24 (k0_pay58 b.x17))) (k0_pay142 (k0_pay109 b.hb24 (k0_pay58 b.x17))) (k0_pay143 (k0_pay110 b.hb24 (k0_pay58 b.x17))) (k0_pay144 (k0_pay111 b.hb24 (k0_pay58 b.x17))) (k0_pay145 (k0_pay112 b.hb24 (k0_pay58 b.x17))) (k0_pay146 (k0_pay113 b.hb24 (k0_pay58 b.x17))) (k0_pay147 (k0_pay114 b.hb24 (k0_pay58 b.x17))) (k0_pay148 (k0_pay115 b.hb24 (k0_pay58 b.x17))) (k0_pay149 (k0_pay116 b.hb24 (k0_pay58 b.x17))) (k0_pay150 (k0_pay117 b.hb24 (k0_pay58 b.x17))) (k0_pay151 (k0_pay118 b.hb24 (k0_pay58 b.x17))) (k0_pay152 (k0_pay119 b.hb24 (k0_pay58 b.x17))) (k0_pay153 (k0_pay120 b.hb24 (k0_pay58 b.x17))) (k0_pay154 (k0_pay121 b.hb24 (k0_pay58 b.x17))) (k0_pay155 (k0_pay122 b.hb24 (k0_pay58 b.x17))) (k0_pay156 (k0_pay123 b.hb24 (k0_pay58 b.x17))) (k0_pay157 (k0_pay124 b.hb24 (k0_pay58 b.x17))) (k0_pay158 (k0_pay125 b.hb24 (k0_pay58 b.x17))) (k0_pay159 (k0_pay126 b.hb24 (k0_pay58 b.x17))) (k0_pay160 (k0_pay58 b.x17) (k0_pay127 b.hb24) (constant S32x128 .f32 0x00000000#32)) (k0_pay161 b.hb24 (k0_pay58 b.x17)) (k0_pay162 b.hb24 (k0_pay58 b.x17)) (k0_pay163 b.hb24 (k0_pay58 b.x17)) (k0_pay164 b.hb24 (k0_pay58 b.x17)) (k0_pay165 b.hb24 (k0_pay58 b.x17)) (k0_pay166 b.hb24 (k0_pay58 b.x17)) (k0_pay167 b.hb24 (k0_pay58 b.x17)) b.x15)

/-- The scores of the shifted pairs, from the means of the row before the point's first. -/
def sb (p13 p24 : FVec F S1x128 .f32) : FVec F S512x1 .f32 :=
  k0_pay176 b.cc13 b.cc24 b.m2 b.m1 b.hbias p13 p24

/-- The first row of `m1`. -/
def m1first : FVec F S1x128 .f32 := k0_pay177 b.m1
/-- The first row of `m2`. -/
def m2first : FVec F S1x128 .f32 := k0_pay178 b.m2
/-- The last row of the means, sequences one and three. -/
def last13 : FVec F S1x128 .f32 := k0_pay179 b.cc13
/-- The last row of the means, sequences two and four. -/
def last24 : FVec F S1x128 .f32 := k0_pay181 (k0_pay180 b.cc24)
/-- The score that wraps around, from the first rows of `m1` and `m2`. -/
def wrap (q1 q2 : FVec F S1x128 .f32) : FVec F S1x1 .f32 :=
  k0_pay182 (b.x14 (ix2 0 0)) (b.x16 (ix2 0 0)) b.cc13 b.cc24 q2 q1

end Blk

end Cert.KernelIdeal.Fused

end
-- ==== Proof.Rows.lean ====
/- What a grid point leaves in the resident column of scores, read back from its stores. -/
module

public import proofs.«01_k».proof.Proof.Block
public import proofs.«01_k».proof.Proof.Gen.KernelIdeal.Frame
public import Idealize.ShloMosaic.Lib.WritesUnit
public import Idealize.ShloMosaic.Lib.VecWindow

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

/-- The column of scores after point `g` has stored its two pieces over `y`. -/
def upd (g : ℕ) (sa sb : FVec F S512x1 .f32) (y : Vec F S16384x1 .f32) : Vec F S16384x1 .f32 := fun j =>
  if h : 512 * g + 8192 ≤ (j 0).val ∧ (j 0).val < 512 * g + 8192 + 512 then sb (ix2 ⟨(j 0).val - (512 * g + 8192), by omega⟩ 0)
  else if h : 512 * g ≤ (j 0).val ∧ (j 0).val < 512 * g + 512 then sa (ix2 ⟨(j 0).val - 512 * g, by omega⟩ 0)
  else y j

/-- The column of scores after the last point has stored the score that wraps around. -/
def updWrap (w : FVec F S1x1 .f32) (y : Vec F S16384x1 .f32) : Vec F S16384x1 .f32 := fun j =>
  if (j 0).val = 8192 then w (ix2 0 0) else y j

theorem local_eq {n : ℕ} {o : ℕ} (j : S16384x1.Idx) (h) (hn : (j 0).val - o < n) :
    Rect.unitLocal (s := S16384x1) (off := ![o, 0]) (size := ![n, 1]) j h = ix2 ⟨(j 0).val - o, hn⟩ (0 : Fin 1) := by
  funext a
  apply Fin.ext
  match a with
  | ⟨0, _⟩ => rfl
  | ⟨1, _⟩ => exact Nat.lt_one_iff.mp (Rect.unitLocal (s := S16384x1) (off := ![o, 0]) (size := ![n, 1]) j h 1).isLt

/-- The two stores of a point, read back. -/
theorem read_upd {κ : Kind} {sp : Space} (v : View sig κ sp S16384x1 .f32) (f : v.ty.Contents (Elt F)) (i : grid0.Coords)
    (sa sb : FVec F S512x1 .f32) (inb1 inb2) :
    v.read (Elt F) (v.writes (Elt F) f [⟨Rect.unit (s := S16384x1) (k0_off2 i) S512x1.size inb2, sb⟩,
      ⟨Rect.unit (s := S16384x1) (k0_off1 i) S512x1.size inb1, sa⟩]) = upd (i 0).val sa sb (v.read (Elt F) f) := by
  funext j
  refine (View.read_writes_cons_rows v f (o := 512 * (i 0).val + 8192) (W := 512) inb2 sb _ j (k0_off2_eq i) rfl rfl).trans ?_
  unfold upd
  by_cases h : 512 * (i 0).val + 8192 ≤ (j 0).val ∧ (j 0).val < 512 * (i 0).val + 8192 + 512
  · rw [dif_pos h, dif_pos h]
    exact congrArg sb (local_eq (n := 512) j _ _)
  · rw [dif_neg h, dif_neg h]
    refine (View.read_writes_cons_rows v f (o := 512 * (i 0).val) (W := 512) inb1 sa _ j (k0_off1_eq i) rfl rfl).trans ?_
    by_cases h' : 512 * (i 0).val ≤ (j 0).val ∧ (j 0).val < 512 * (i 0).val + 512
    · rw [dif_pos h', dif_pos h']
      exact congrArg sa (local_eq (n := 512) j _ _)
    · rw [dif_neg h', dif_neg h']
      rfl

/-- The last point's extra store, read back. -/
theorem read_updWrap {κ : Kind} {sp : Space} (v : View sig κ sp S16384x1 .f32) (f : v.ty.Contents (Elt F))
    (w : FVec F S1x1 .f32) (L : List (View.Piece (Elt F) S16384x1 .f32)) (inb) :
    v.read (Elt F) (v.writes (Elt F) f (⟨Rect.unit (s := S16384x1) ![8192, 0] S1x1.size inb, w⟩ :: L))
      = updWrap w (v.read (Elt F) (v.writes (Elt F) f L)) := by
  funext j
  refine (View.read_writes_cons_rows v f (o := 8192) (W := 1) inb w _ j rfl rfl rfl).trans ?_
  unfold updWrap
  by_cases h : (j 0).val = 8192
  · rw [dif_pos (by omega), if_pos h]
    refine (congrArg w (local_eq (n := 1) j _ (by omega))).trans ?_
    exact congrArg w (congrArg (fun a => ix2 a (0 : Fin 1)) (Subsingleton.elim _ _))
  · rw [dif_neg (by omega), if_neg h]

/-- The only index of a one by one block. -/
theorem one_idx (j : S1x1.Idx) : j = ix2 0 0 := funext fun a => Fin.ext (by
    match a with
    | ⟨0, _⟩ => exact Nat.lt_one_iff.mp (j 0).isLt
    | ⟨1, _⟩ => exact Nat.lt_one_iff.mp (j 1).isLt)

end Cert.KernelIdeal.Fused

end
-- ==== Proof.Column.lean ====
/- The blocks of every grid point and the column of scores they fill, point after point. -/
module

public import proofs.«01_k».proof.Proof.Rows

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The blocks of grid point `t`. -/
def blkAt (c : Dev nD) (t : Fin cfg0.N) : Blk F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t
  x17 := iblk m c 17 t

/-- The blocks of grid point `n`, for any number. -/
def bk (c : Dev nD) (n : ℕ) : Blk F := blkAt m c ⟨n % 16, lt_of_lt_of_eq (Nat.mod_lt n (by decide)) (show 16 = cfg0.N from N_0.symm)⟩

theorem bk_val (c : Dev nD) (t : Fin cfg0.N) : bk m c t.val = blkAt m c t :=
  congrArg (blkAt m c) (Fin.ext (Nat.mod_eq_of_lt (lt_of_lt_of_eq t.isLt (show cfg0.N = 16 from N_0))))

/-- The scores of the shifted pairs that point `n` stores. -/
def sbAt (c : Dev nD) : ℕ → FVec F S512x1 .f32
  | 0 => (bk m c 0).sb k0_pay2 k0_pay3
  | n + 1 => (bk m c (n + 1)).sb (bk m c n).last13 (bk m c n).last24

/-- The score that wraps around. -/
def wrapAt (c : Dev nD) : FVec F S1x1 .f32 := (bk m c 15).wrap (bk m c 0).m1first (bk m c 0).m2first

/-- The whole column of scores. -/
def column (c : Dev nD) : Vec F S16384x1 .f32 := fun j =>
  if (j 0).val = 8192 then wrapAt m c (ix2 0 0)
  else if (j 0).val < 8192 then (bk m c ((j 0).val / 512)).sa (ix2 ⟨(j 0).val % 512, Nat.mod_lt _ (by decide)⟩ 0)
  else sbAt m c (((j 0).val - 8192) / 512) (ix2 ⟨((j 0).val - 8192) % 512, Nat.mod_lt _ (by decide)⟩ 0)

/-- The rows that points up to `n` have stored hold the column's values, row 8192 only after the last point. -/
def Filled (c : Dev nD) (n : ℕ) (X : Vec F S16384x1 .f32) : Prop :=
  ∀ j : S16384x1.Idx, ((j 0).val < 512 * (n + 1) ∨ 8192 ≤ (j 0).val ∧ (j 0).val < 512 * (n + 1) + 8192) → ((j 0).val = 8192 → n = 15) →
    X j = column m c j

/-- The last point's two pieces without the score that wraps around: every row but 8192. -/
def FilledBut (c : Dev nD) (n : ℕ) (X : Vec F S16384x1 .f32) : Prop :=
  ∀ j : S16384x1.Idx, ((j 0).val < 512 * (n + 1) ∨ 8192 ≤ (j 0).val ∧ (j 0).val < 512 * (n + 1) + 8192) → (j 0).val ≠ 8192 →
    X j = column m c j

theorem filledBut_upd (c : Dev nD) (n : ℕ) (hn : n < 16) (y : Vec F S16384x1 .f32) (hy : ∀ k, n = k + 1 → FilledBut m c k y) :
    FilledBut m c n (upd n (bk m c n).sa (sbAt m c n) y) := by
  intro j hj h8
  unfold upd column
  rw [if_neg h8]
  by_cases h : 512 * n + 8192 ≤ (j 0).val ∧ (j 0).val < 512 * n + 8192 + 512
  · have e1 : ((j 0).val - 8192) / 512 = n := by omega
    have e2 : ((j 0).val - 8192) % 512 = (j 0).val - (512 * n + 8192) := by omega
    rw [dif_pos h, if_neg (by omega)]
    simp only [e1, e2]
  · rw [dif_neg h]
    by_cases h' : 512 * n ≤ (j 0).val ∧ (j 0).val < 512 * n + 512
    · have e1 : (j 0).val / 512 = n := by omega
      have e2 : (j 0).val % 512 = (j 0).val - 512 * n := by omega
      rw [dif_pos h', if_pos (by omega)]
      simp only [e1, e2]
    · rw [dif_neg h']
      obtain ⟨k, rfl⟩ : ∃ k, n = k + 1 := ⟨n - 1, by omega⟩
      refine (hy k rfl j (by omega) h8).trans ?_
      unfold column
      rw [if_neg h8]

theorem FilledBut.filled {c : Dev nD} {n : ℕ} {X : Vec F S16384x1 .f32} (hn : n < 15) (h : FilledBut m c n X) : Filled m c n X :=
  fun j hj h8 => h j hj fun e => absurd (h8 e) (by omega)

theorem Filled.but {c : Dev nD} {n : ℕ} {X : Vec F S16384x1 .f32} (hn : n < 15) (h : Filled m c n X) : FilledBut m c n X :=
  fun j hj h8 => h j hj fun e => absurd e h8

theorem filled_updWrap (c : Dev nD) (X : Vec F S16384x1 .f32) (h : FilledBut m c 15 X) : Filled m c 15 (updWrap (wrapAt m c) X) := by
  intro j hj _
  unfold updWrap
  by_cases h8 : (j 0).val = 8192
  · rw [if_pos h8]; unfold column; rw [if_pos h8]
  · rw [if_neg h8]; exact h j hj h8

theorem Filled.eq {c : Dev nD} {X : Vec F S16384x1 .f32} (h : Filled m c 15 X) : X = column m c :=
  funext fun j => h j (by have : (j 0).val < 16384 := (j 0).isLt; omega) fun _ => rfl

end Cert.KernelIdeal.Fused

end
-- ==== Proof.RunA.lean ====
/- The kernel's body at the first grid point, run once: what each buffer holds afterwards. -/
module

public import proofs.«01_k».proof.Proof.Rows

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At the first point the column of means starts from zero and the first rows are kept. -/
theorem runA (c : Dev nD) (i : grid0.Coords) (arg1 : Memref sig .tc .vmem S512x8x128 .f32) (harg1 : arg1.IsWhole) (arg2 : Memref sig .tc .vmem S512x8x128 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S8x8x512 .f32) (harg5 : arg5.IsWhole) (arg6 : Memref sig .tc .vmem S8x8x512 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .smem S1x1 .f32) (harg10 : arg10.IsWhole) (arg11 : Memref sig .tc .vmem S128x128 .bf16) (harg11 : arg11.IsWhole) (arg12 : Memref sig .tc .vmem S1x128 .f32) (harg12 : arg12.IsWhole) (arg13 : Memref sig .tc .smem S1x1 .f32) (harg13 : arg13.IsWhole) (arg14 : Memref sig .tc .vmem S128x128 .f32) (harg14 : arg14.IsWhole) (arg15 : Memref sig .tc .smem S1x1 .f32) (harg15 : arg15.IsWhole) (arg16 : Memref sig .tc .vmem S128x128 .f32) (harg16 : arg16.IsWhole) (arg17 : Memref sig .tc .smem S1x1 .f32) (harg17 : arg17.IsWhole) (arg18 : Memref sig .tc .vmem S32x128 .bf16) (harg18 : arg18.IsWhole) (arg19 : Memref sig .tc .vmem S512x8x128 .f32) (harg19 : arg19.IsWhole) (arg20 : Memref sig .tc .vmem S512x8x128 .f32) (harg20 : arg20.IsWhole) (arg21 : Memref sig .tc .vmem S16384x1 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128 .f32) (harg25 : arg25.IsWhole)
   (hc0 : ((Scalar.cmpi .ne (Scalar.extui (Scalar.cmpi .eq (BitVec.ofNat 32 (i 0).val) 0#32)) 0#32) = 1#1)) (hc2 : ¬((Scalar.cmpi .ne (Scalar.extui (Scalar.cmpi .eq (BitVec.ofNat 32 (i 0).val) 15#32)) 0#32) = 1#1)) (b : Blk F) (y : Vec F S16384x1 .f32) (s0 s1 s2 s3 : Vec F S1x128 .f32) (E : Set ℕ) (K : PUnit → sProp 𝕄) :
   iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ owns (c : Thread nD τ) arg12 fullShare b.x11 ∗ owns (c : Thread nD τ) arg13 fullShare b.x12 ∗ owns (c : Thread nD τ) arg14 fullShare b.x13 ∗ owns (c : Thread nD τ) arg15 fullShare b.x14 ∗ owns (c : Thread nD τ) arg16 fullShare b.x15 ∗ owns (c : Thread nD τ) arg17 fullShare b.x16 ∗ owns (c : Thread nD τ) arg18 fullShare b.x17 ∗ (∃ d, owns (c : Thread nD τ) arg19 fullShare d) ∗ (∃ d, owns (c : Thread nD τ) arg20 fullShare d) ∗ owns (c : Thread nD τ) arg21 fullShare y ∗ owns (c : Thread nD τ) arg22 fullShare s0 ∗ owns (c : Thread nD τ) arg23 fullShare s1 ∗ owns (c : Thread nD τ) arg24 fullShare s2 ∗ owns (c : Thread nD τ) arg25 fullShare s3 ∗ (iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ owns (c : Thread nD τ) arg12 fullShare b.x11 ∗ owns (c : Thread nD τ) arg13 fullShare b.x12 ∗ owns (c : Thread nD τ) arg14 fullShare b.x13 ∗ owns (c : Thread nD τ) arg15 fullShare b.x14 ∗ owns (c : Thread nD τ) arg16 fullShare b.x15 ∗ owns (c : Thread nD τ) arg17 fullShare b.x16 ∗ owns (c : Thread nD τ) arg18 fullShare b.x17 ∗ owns (c : Thread nD τ) arg19 fullShare b.out1 ∗ owns (c : Thread nD τ) arg20 fullShare b.out2 ∗ owns (c : Thread nD τ) arg21 fullShare (upd (i 0).val b.sa (b.sb k0_pay2 k0_pay3) y) ∗ owns (c : Thread nD τ) arg22 fullShare b.last13 ∗ owns (c : Thread nD τ) arg23 fullShare b.last24 ∗ owns (c : Thread nD τ) arg24 fullShare b.m1first ∗ owns (c : Thread nD τ) arg25 fullShare b.m2first) -∗ K ⟨⟩)) ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%f20, %hf20, H20⟩, ⟨%fs0, %hs0, HS0⟩, ⟨%fs1, %hs1, HS1⟩, ⟨%fs2, %hs2, HS2⟩, ⟨%fs3, %hs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg21.eq_unread hf20; obtain rfl := harg22.eq_unread hs0; obtain rfl := harg23.eq_unread hs1; obtain rfl := harg24.eq_unread hs2; obtain rfl := harg25.eq_unread hs3
  sl_exec (disch := first | sl_exact hc0 | sl_exact hc2)
  sl_step
  iapply Hk
  have hx0 : View.readAt (Elt F) arg1.view (Rect.unit (s := S512x8x128) ![0, 0, 0] S512x8x128.size inb_S512x8x128_S512x8x128_0_0_0).toLoadRect (harg1.unread b.x0) = b.x0 := (View.readAt_full _ _ _).trans (harg1.read_unread b.x0)
  have hx1 : View.readAt (Elt F) arg2.view (Rect.unit (s := S512x8x128) ![0, 0, 0] S512x8x128.size inb_S512x8x128_S512x8x128_0_0_0).toLoadRect (harg2.unread b.x1) = b.x1 := (View.readAt_full _ _ _).trans (harg2.read_unread b.x1)
  have hx2 : View.readAt (Elt F) arg3.view (Rect.unit (s := S512x8x128) ![0, 0, 0] S512x8x128.size inb_S512x8x128_S512x8x128_0_0_0).toLoadRect (harg3.unread b.x2) = b.x2 := (View.readAt_full _ _ _).trans (harg3.read_unread b.x2)
  have hx3 : View.readAt (Elt F) arg4.view (Rect.unit (s := S512x8x128) ![0, 0, 0] S512x8x128.size inb_S512x8x128_S512x8x128_0_0_0).toLoadRect (harg4.unread b.x3) = b.x3 := (View.readAt_full _ _ _).trans (harg4.read_unread b.x3)
  have hx4 : View.readAt (Elt F) arg5.view (Rect.unit (s := S8x8x512) ![0, 0, 0] S8x8x512.size inb_S8x8x512_S8x8x512_0_0_0).toLoadRect (harg5.unread b.x4) = b.x4 := (View.readAt_full _ _ _).trans (harg5.read_unread b.x4)
  have hx5 : View.readAt (Elt F) arg6.view (Rect.unit (s := S8x8x512) ![0, 0, 0] S8x8x512.size inb_S8x8x512_S8x8x512_0_0_0).toLoadRect (harg6.unread b.x5) = b.x5 := (View.readAt_full _ _ _).trans (harg6.read_unread b.x5)
  have hx6 : View.readAt (Elt F) arg7.view (Rect.unit (s := S128x128) ![0, 0] S128x128.size inb_S128x128_S128x128_0_0).toLoadRect (harg7.unread b.x6) = b.x6 := (View.readAt_full _ _ _).trans (harg7.read_unread b.x6)
  have hx7 : View.readAt (Elt F) arg8.view (Rect.unit (s := S128x128) ![0, 0] S128x128.size inb_S128x128_S128x128_0_0).toLoadRect (harg8.unread b.x7) = b.x7 := (View.readAt_full _ _ _).trans (harg8.read_unread b.x7)
  have hx8 : View.readAt (Elt F) arg9.view (Rect.unit (s := S1x128) ![0, 0] S1x128.size inb_S1x128_S1x128_0_0).toLoadRect (harg9.unread b.x8) = b.x8 := (View.readAt_full _ _ _).trans (harg9.read_unread b.x8)
  have hx9 : View.readAt (Elt F) arg10.view (Rect.unit (s := S1x1) ![0, 0] S1x1.size inb_S1x1_S1x1_0_0).toLoadRect (harg10.unread b.x9) (Shape.Idx.first (by decide)) = b.x9 (ix2 0 0) := (congrFun ((View.readAt_full _ _ _).trans (harg10.read_unread b.x9)) _).trans (congrArg b.x9 (one_idx _))
  have hx10 : View.readAt (Elt F) arg11.view (Rect.unit (s := S128x128) ![0, 0] S128x128.size inb_S128x128_S128x128_0_0).toLoadRect (harg11.unread b.x10) = b.x10 := (View.readAt_full _ _ _).trans (harg11.read_unread b.x10)
  have hx11 : View.readAt (Elt F) arg12.view (Rect.unit (s := S1x128) ![0, 0] S1x128.size inb_S1x128_S1x128_0_0).toLoadRect (harg12.unread b.x11) = b.x11 := (View.readAt_full _ _ _).trans (harg12.read_unread b.x11)
  have hx12 : View.readAt (Elt F) arg13.view (Rect.unit (s := S1x1) ![0, 0] S1x1.size inb_S1x1_S1x1_0_0).toLoadRect (harg13.unread b.x12) (Shape.Idx.first (by decide)) = b.x12 (ix2 0 0) := (congrFun ((View.readAt_full _ _ _).trans (harg13.read_unread b.x12)) _).trans (congrArg b.x12 (one_idx _))
  have hx13 : View.readAt (Elt F) arg14.view (Rect.unit (s := S128x128) ![0, 0] S128x128.size inb_S128x128_S128x128_0_0).toLoadRect (harg14.unread b.x13) = b.x13 := (View.readAt_full _ _ _).trans (harg14.read_unread b.x13)
  have hx14 : View.readAt (Elt F) arg15.view (Rect.unit (s := S1x1) ![0, 0] S1x1.size inb_S1x1_S1x1_0_0).toLoadRect (harg15.unread b.x14) (Shape.Idx.first (by decide)) = b.x14 (ix2 0 0) := (congrFun ((View.readAt_full _ _ _).trans (harg15.read_unread b.x14)) _).trans (congrArg b.x14 (one_idx _))
  have hx15 : View.readAt (Elt F) arg16.view (Rect.unit (s := S128x128) ![0, 0] S128x128.size inb_S128x128_S128x128_0_0).toLoadRect (harg16.unread b.x15) = b.x15 := (View.readAt_full _ _ _).trans (harg16.read_unread b.x15)
  have hx16 : View.readAt (Elt F) arg17.view (Rect.unit (s := S1x1) ![0, 0] S1x1.size inb_S1x1_S1x1_0_0).toLoadRect (harg17.unread b.x16) (Shape.Idx.first (by decide)) = b.x16 (ix2 0 0) := (congrFun ((View.readAt_full _ _ _).trans (harg17.read_unread b.x16)) _).trans (congrArg b.x16 (one_idx _))
  have hx17 : View.readAt (Elt F) arg18.view (Rect.unit (s := S32x128) ![0, 0] S32x128.size inb_S32x128_S32x128_0_0).toLoadRect (harg18.unread b.x17) = b.x17 := (View.readAt_full _ _ _).trans (harg18.read_unread b.x17)
  have e0 : runA.sl.r c arg10 harg10 b = (b.x9 (ix2 0 0)) := by
    unfold runA.sl.r
    rw [hx9]
  have e1 : runA.sl.r_1 c arg13 harg13 b = (b.x12 (ix2 0 0)) := by
    unfold runA.sl.r_1
    rw [hx12]
  have e2 : runA.sl.r_2 c arg15 harg15 b = (b.x14 (ix2 0 0)) := by
    unfold runA.sl.r_2
    rw [hx14]
  have e3 : runA.sl.r_3 c arg17 harg17 b = (b.x16 (ix2 0 0)) := by
    unfold runA.sl.r_3
    rw [hx16]
  have e4 : runA.sl.r_4 c arg5 harg5 b = b.bd1 := by
    unfold runA.sl.r_4 Blk.bd1
    rw [hx4]
  have e5 : runA.sl.r_5 c arg6 harg6 b = b.bd2 := by
    unfold runA.sl.r_5 Blk.bd2
    rw [hx5]
  have e6 : runA.sl.r_6 c arg1 harg1 arg7 harg7 b = b.fts1 := by
    unfold runA.sl.r_6 Blk.fts1
    rw [hx0, hx6]
  have e7 : runA.sl.r_7 c arg3 harg3 b = b.x2 := by
    unfold runA.sl.r_7
    rw [hx2]
  have e8 : runA.sl.r_8 c arg1 harg1 arg3 harg3 arg7 harg7 arg8 harg8 b = (k0_pay7 b.fts1 b.x2 b.x7) := by
    unfold runA.sl.r_8
    rw [e6, e7, hx7]
  have e9 : runA.sl.r_9 c arg2 harg2 arg4 harg4 arg7 harg7 arg8 harg8 b = b.fts24 := by
    unfold runA.sl.r_9 Blk.fts24
    rw [hx1, hx6, hx3, hx7]
  have e10 : runA.sl.r_10 c arg1 harg1 arg3 harg3 arg5 harg5 arg7 harg7 arg8 harg8 b = (k0_pay9 b.bd1 b.fts1 b.x2 b.x7) := by
    unfold runA.sl.r_10
    rw [e4, e6, e7, hx7]
  have e11 : runA.sl.r_11 c arg1 harg1 arg3 harg3 arg5 harg5 arg7 harg7 arg8 harg8 b = (k0_pay10 b.bd1 b.fts1 b.x2 b.x7) := by
    unfold runA.sl.r_11
    rw [e4, e6, e7, hx7]
  have e12 : runA.sl.r_12 c arg1 harg1 arg3 harg3 arg5 harg5 arg7 harg7 arg8 harg8 b = (k0_pay11 b.bd1 b.fts1 b.x2 b.x7) := by
    unfold runA.sl.r_12
    rw [e4, e6, e7, hx7]
  have e13 : runA.sl.r_13 c arg1 harg1 arg3 harg3 arg5 harg5 arg7 harg7 arg8 harg8 b = (k0_pay12 b.bd1 b.fts1 b.x2 b.x7) := by
    unfold runA.sl.r_13
    rw [e4, e6, e7, hx7]
  have e14 : runA.sl.r_14 c arg1 harg1 arg3 harg3 arg5 harg5 arg7 harg7 arg8 harg8 b = (k0_pay13 b.bd1 b.fts1 b.x2 b.x7) := by
    unfold runA.sl.r_14
    rw [e4, e6, e7, hx7]
  have e15 : runA.sl.r_15 c arg1 harg1 arg3 harg3 arg5 harg5 arg7 harg7 arg8 harg8 b = (k0_pay14 b.bd1 b.fts1 b.x2 b.x7) := by
    unfold runA.sl.r_15
    rw [e4, e6, e7, hx7]
  have e16 : runA.sl.r_16 c arg1 harg1 arg3 harg3 arg5 harg5 arg7 harg7 arg8 harg8 b = (k0_pay15 b.bd1 b.fts1 b.x2 b.x7) := by
    unfold runA.sl.r_16
    rw [e4, e6, e7, hx7]
  have e17 : runA.sl.r_17 c arg5 harg5 b = (k0_pay16 b.bd1) := by
    unfold runA.sl.r_17
    rw [e4]
  have e18 : runA.sl.r_18 c arg1 harg1 arg3 harg3 arg5 harg5 arg7 harg7 arg8 harg8 b = (k0_pay17 (k0_pay7 b.fts1 b.x2 b.x7) (k0_pay16 b.bd1)) := by
    unfold runA.sl.r_18
    rw [e8, e17]
  have e19 : runA.sl.r_19 c arg1 harg1 arg3 harg3 arg5 harg5 arg7 harg7 arg8 harg8 b = (k0_pay18 b.bd1 (k0_pay7 b.fts1 b.x2 b.x7)) := by
    unfold runA.sl.r_19
    rw [e4, e8]
  have e20 : runA.sl.r_20 c arg1 harg1 arg3 harg3 arg5 harg5 arg7 harg7 arg8 harg8 b = (k0_pay19 b.bd1 (k0_pay7 b.fts1 b.x2 b.x7)) := by
    unfold runA.sl.r_20
    rw [e4, e8]
  have e21 : runA.sl.r_21 c arg1 harg1 arg3 harg3 arg5 harg5 arg7 harg7 arg8 harg8 b = (k0_pay20 b.bd1 (k0_pay7 b.fts1 b.x2 b.x7)) := by
    unfold runA.sl.r_21
    rw [e4, e8]
  have e22 : runA.sl.r_22 c arg1 harg1 arg3 harg3 arg5 harg5 arg7 harg7 arg8 harg8 b = (k0_pay21 b.bd1 (k0_pay7 b.fts1 b.x2 b.x7)) := by
    unfold runA.sl.r_22
    rw [e4, e8]
  have e23 : runA.sl.r_23 c arg1 harg1 arg3 harg3 arg5 harg5 arg7 harg7 arg8 harg8 b = (k0_pay22 b.bd1 (k0_pay7 b.fts1 b.x2 b.x7)) := by
    unfold runA.sl.r_23
    rw [e4, e8]
  have e24 : runA.sl.r_24 c arg1 harg1 arg3 harg3 arg5 harg5 arg7 harg7 arg8 harg8 b = (k0_pay23 b.bd1 (k0_pay7 b.fts1 b.x2 b.x7)) := by
    unfold runA.sl.r_24
    rw [e4, e8]
  have e25 : runA.sl.r_25 c arg1 harg1 arg3 harg3 arg5 harg5 arg7 harg7 arg8 harg8 b = (k0_pay24 b.bd1 (k0_pay7 b.fts1 b.x2 b.x7)) := by
    unfold runA.sl.r_25
    rw [e4, e8]
  have e26 : runA.sl.r_26 c arg1 harg1 arg3 harg3 arg5 harg5 arg7 harg7 arg8 harg8 b = (k0_pay25 b.bd1 (k0_pay7 b.fts1 b.x2 b.x7)) := by
    unfold runA.sl.r_26
    rw [e4, e8]
  have e27 : runA.sl.r_27 c arg1 harg1 arg3 harg3 arg5 harg5 arg7 harg7 arg8 harg8 b = (k0_pay26 b.bd1 (k0_pay7 b.fts1 b.x2 b.x7)) := by
    unfold runA.sl.r_27
    rw [e4, e8]
  have e28 : runA.sl.r_28 c arg1 harg1 arg3 harg3 arg5 harg5 arg7 harg7 arg8 harg8 b = (k0_pay27 b.bd1 (k0_pay7 b.fts1 b.x2 b.x7)) := by
    unfold runA.sl.r_28
    rw [e4, e8]
  have e29 : runA.sl.r_29 c arg1 harg1 arg3 harg3 arg5 harg5 arg7 harg7 arg8 harg8 b = (k0_pay28 b.bd1 (k0_pay7 b.fts1 b.x2 b.x7)) := by
    unfold runA.sl.r_29
    rw [e4, e8]
  have e30 : runA.sl.r_30 c arg1 harg1 arg3 harg3 arg5 harg5 arg7 harg7 arg8 harg8 b = (k0_pay29 b.bd1 (k0_pay7 b.fts1 b.x2 b.x7)) := by
    unfold runA.sl.r_30
    rw [e4, e8]
  have e31 : runA.sl.r_31 c arg1 harg1 arg3 harg3 arg5 harg5 arg7 harg7 arg8 harg8 b = (k0_pay30 b.bd1 (k0_pay7 b.fts1 b.x2 b.x7)) := by
    unfold runA.sl.r_31
    rw [e4, e8]
  have e32 : runA.sl.r_32 c arg1 harg1 arg3 harg3 arg5 harg5 arg7 harg7 arg8 harg8 b = (k0_pay31 b.bd1 (k0_pay7 b.fts1 b.x2 b.x7)) := by
    unfold runA.sl.r_32
    rw [e4, e8]
  have e33 : runA.sl.r_33 c arg5 harg5 b = (k0_pay32 b.bd1) := by
    unfold runA.sl.r_33
    rw [e4]
  have e34 : runA.sl.r_34 c arg1 harg1 arg3 harg3 arg5 harg5 arg7 harg7 arg8 harg8 arg9 harg9 arg10 harg10 b = b.h13 := by
    unfold runA.sl.r_34 Blk.h13
    rw [e0, e4, e8, e10, e11, e12, e13, e14, e15, e16, e18, e19, e20, e21, e22, e23, e24, e25, e26, e27, e28, e29, e30, e31, e32, e33, hx8]
  have e35 : runA.sl.r_35 c arg2 harg2 arg4 harg4 arg6 harg6 arg7 harg7 arg8 harg8 b = (k0_pay34 b.bd2 b.fts24) := by
    unfold runA.sl.r_35
    rw [e5, e9]
  have e36 : runA.sl.r_36 c arg2 harg2 arg4 harg4 arg6 harg6 arg7 harg7 arg8 harg8 b = (k0_pay35 b.bd2 b.fts24) := by
    unfold runA.sl.r_36
    rw [e5, e9]
  have e37 : runA.sl.r_37 c arg6 harg6 b = (k0_pay36 b.bd2) := by
    unfold runA.sl.r_37
    rw [e5]
  have e38 : runA.sl.r_38 c arg2 harg2 arg4 harg4 arg7 harg7 arg8 harg8 b = (k0_pay37 b.fts24) := by
    unfold runA.sl.r_38
    rw [e9]
  have e39 : runA.sl.r_39 c arg2 harg2 arg4 harg4 arg6 harg6 arg7 harg7 arg8 harg8 b = (k0_pay38 (k0_pay36 b.bd2) (k0_pay37 b.fts24) (constant S128x128 .f32 0x00000000#32)) := by
    unfold runA.sl.r_39 runA.sl.cst_77
    rw [e37, e38]
  have e40 : runA.sl.r_40 c arg2 harg2 arg4 harg4 arg6 harg6 arg7 harg7 arg8 harg8 b = (k0_pay39 b.bd2 b.fts24) := by
    unfold runA.sl.r_40
    rw [e5, e9]
  have e41 : runA.sl.r_41 c arg2 harg2 arg4 harg4 arg6 harg6 arg7 harg7 arg8 harg8 b = (k0_pay40 b.bd2 b.fts24) := by
    unfold runA.sl.r_41
    rw [e5, e9]
  have e42 : runA.sl.r_42 c arg2 harg2 arg4 harg4 arg6 harg6 arg7 harg7 arg8 harg8 b = (k0_pay41 b.bd2 b.fts24) := by
    unfold runA.sl.r_42
    rw [e5, e9]
  have e43 : runA.sl.r_43 c arg2 harg2 arg4 harg4 arg6 harg6 arg7 harg7 arg8 harg8 b = (k0_pay42 b.bd2 b.fts24) := by
    unfold runA.sl.r_43
    rw [e5, e9]
  have e44 : runA.sl.r_44 c arg2 harg2 arg4 harg4 arg6 harg6 arg7 harg7 arg8 harg8 b = (k0_pay43 b.bd2 b.fts24) := by
    unfold runA.sl.r_44
    rw [e5, e9]
  have e45 : runA.sl.r_45 c arg2 harg2 arg4 harg4 arg6 harg6 arg7 harg7 arg8 harg8 b = (k0_pay44 b.bd2 b.fts24) := by
    unfold runA.sl.r_45
    rw [e5, e9]
  have e46 : runA.sl.r_46 c arg2 harg2 arg4 harg4 arg6 harg6 arg7 harg7 arg8 harg8 b = (k0_pay45 b.bd2 b.fts24) := by
    unfold runA.sl.r_46
    rw [e5, e9]
  have e47 : runA.sl.r_47 c arg2 harg2 arg4 harg4 arg6 harg6 arg7 harg7 arg8 harg8 b = (k0_pay46 b.bd2 b.fts24) := by
    unfold runA.sl.r_47
    rw [e5, e9]
  have e48 : runA.sl.r_48 c arg2 harg2 arg4 harg4 arg6 harg6 arg7 harg7 arg8 harg8 b = (k0_pay47 b.bd2 b.fts24) := by
    unfold runA.sl.r_48
    rw [e5, e9]
  have e49 : runA.sl.r_49 c arg2 harg2 arg4 harg4 arg6 harg6 arg7 harg7 arg8 harg8 b = (k0_pay48 b.bd2 b.fts24) := by
    unfold runA.sl.r_49
    rw [e5, e9]
  have e50 : runA.sl.r_50 c arg2 harg2 arg4 harg4 arg6 harg6 arg7 harg7 arg8 harg8 b = (k0_pay49 b.bd2 b.fts24) := by
    unfold runA.sl.r_50
    rw [e5, e9]
  have e51 : runA.sl.r_51 c arg2 harg2 arg4 harg4 arg6 harg6 arg7 harg7 arg8 harg8 b = (k0_pay50 b.bd2 b.fts24) := by
    unfold runA.sl.r_51
    rw [e5, e9]
  have e52 : runA.sl.r_52 c arg2 harg2 arg4 harg4 arg6 harg6 arg7 harg7 arg8 harg8 b = (k0_pay51 b.bd2 b.fts24) := by
    unfold runA.sl.r_52
    rw [e5, e9]
  have e53 : runA.sl.r_53 c arg2 harg2 arg4 harg4 arg6 harg6 arg7 harg7 arg8 harg8 b = (k0_pay52 b.bd2 b.fts24) := by
    unfold runA.sl.r_53
    rw [e5, e9]
  have e54 : runA.sl.r_54 c arg6 harg6 b = (k0_pay53 b.bd2) := by
    unfold runA.sl.r_54
    rw [e5]
  have e55 : runA.sl.r_55 c arg2 harg2 arg4 harg4 arg7 harg7 arg8 harg8 b = (k0_pay54 b.fts24) := by
    unfold runA.sl.r_55
    rw [e9]
  have e56 : runA.sl.r_56 c arg2 harg2 arg4 harg4 arg6 harg6 arg7 harg7 arg8 harg8 b = b.agg24 := by
    unfold runA.sl.r_56 Blk.agg24 runA.sl.cst_77
    rw [e5, e9, e35, e36, e39, e40, e41, e42, e43, e44, e45, e46, e47, e48, e49, e50, e51, e52, e53, e54, e55]
  have e57 : runA.sl.r_57 c arg1 harg1 arg3 harg3 arg5 harg5 arg7 harg7 arg8 harg8 arg9 harg9 arg10 harg10 b = (k0_pay56 b.h13) := by
    unfold runA.sl.r_57
    rw [e34]
  have e58 : runA.sl.r_58 c arg2 harg2 arg4 harg4 arg6 harg6 arg7 harg7 arg8 harg8 arg9 harg9 arg10 harg10 b = b.hb24 := by
    unfold runA.sl.r_58 Blk.hb24
    rw [e0, e56, hx8]
  have e59 : runA.sl.r_59 c arg18 harg18 b = (k0_pay58 b.x17) := by
    unfold runA.sl.r_59
    rw [hx17]
  have e60 : runA.sl.r_60 c arg1 harg1 arg3 harg3 arg5 harg5 arg7 harg7 arg8 harg8 arg9 harg9 arg10 harg10 arg18 harg18 b = (k0_pay59 b.h13 b.x17) := by
    unfold runA.sl.r_60
    rw [e34, hx17]
  have e61 : runA.sl.r_61 c arg1 harg1 arg3 harg3 arg5 harg5 arg7 harg7 arg8 harg8 arg9 harg9 arg10 harg10 arg18 harg18 b = (k0_pay60 b.h13 b.x17) := by
    unfold runA.sl.r_61
    rw [e34, hx17]
  have e62 : runA.sl.r_62 c arg1 harg1 arg3 harg3 arg5 harg5 arg7 harg7 arg8 harg8 arg9 harg9 arg10 harg10 arg18 harg18 b = (k0_pay61 b.h13 b.x17) := by
    unfold runA.sl.r_62
    rw [e34, hx17]
  have e63 : runA.sl.r_63 c arg1 harg1 arg3 harg3 arg5 harg5 arg7 harg7 arg8 harg8 arg9 harg9 arg10 harg10 arg18 harg18 b = (k0_pay62 b.h13 b.x17) := by
    unfold runA.sl.r_63
    rw [e34, hx17]
  have e64 : runA.sl.r_64 c arg1 harg1 arg3 harg3 arg5 harg5 arg7 harg7 arg8 harg8 arg9 harg9 arg10 harg10 arg18 harg18 b = (k0_pay63 b.h13 b.x17) := by
    unfold runA.sl.r_64
    rw [e34, hx17]
  have e65 : runA.sl.r_65 c arg1 harg1 arg3 harg3 arg5 harg5 arg7 harg7 arg8 harg8 arg9 harg9 arg10 harg10 arg18 harg18 b = (k0_pay64 b.h13 b.x17) := by
    unfold runA.sl.r_65
    rw [e34, hx17]
  have e66 : runA.sl.r_66 c arg1 harg1 arg3 harg3 arg5 harg5 arg7 harg7 arg8 harg8 arg9 harg9 arg10 harg10 arg18 harg18 b = (k0_pay65 b.h13 b.x17) := by
    unfold runA.sl.r_66
    rw [e34, hx17]
  have e67 : runA.sl.r_67 c arg1 harg1 arg3 harg3 arg5 harg5 arg7 harg7 arg8 harg8 arg9 harg9 arg10 harg10 arg18 harg18 b = (k0_pay66 b.h13 b.x17) := by
    unfold runA.sl.r_67
    rw [e34, hx17]
  have e68 : runA.sl.r_68 c arg1 harg1 arg3 harg3 arg5 harg5 arg7 harg7 arg8 harg8 arg9 harg9 arg10 harg10 arg18 harg18 b = (k0_pay67 b.h13 b.x17) := by
    unfold runA.sl.r_68
    rw [e34, hx17]
  have e69 : runA.sl.r_69 c arg1 harg1 arg3 harg3 arg5 harg5 arg7 harg7 arg8 harg8 arg9 harg9 arg10 harg10 arg18 harg18 b = (k0_pay68 b.h13 b.x17) := by
    unfold runA.sl.r_69
    rw [e34, hx17]
  have e70 : runA.sl.r_70 c arg1 harg1 arg3 harg3 arg5 harg5 arg7 harg7 arg8 harg8 arg9 harg9 arg10 harg10 arg18 harg18 b = (k0_pay69 b.h13 b.x17) := by
    unfold runA.sl.r_70
    rw [e34, hx17]
  have e71 : runA.sl.r_71 c arg1 harg1 arg3 harg3 arg5 harg5 arg7 harg7 arg8 harg8 arg9 harg9 arg10 harg10 arg18 harg18 b = (k0_pay70 b.h13 b.x17) := by
    unfold runA.sl.r_71
    rw [e34, hx17]
  have e72 : runA.sl.r_72 c arg1 harg1 arg3 harg3 arg5 harg5 arg7 harg7 arg8 harg8 arg9 harg9 arg10 harg10 arg18 harg18 b = (k0_pay71 b.h13 b.x17) := by
    unfold runA.sl.r_72
    rw [e34, hx17]
  have e73 : runA.sl.r_73 c arg1 harg1 arg3 harg3 arg5 harg5 arg7 harg7 arg8 harg8 arg9 harg9 arg10 harg10 arg18 harg18 b = (k0_pay72 b.h13 b.x17) := by
    unfold runA.sl.r_73
    rw [e34, hx17]
  have e74 : runA.sl.r_74 c arg1 harg1 arg3 harg3 arg5 harg5 arg7 harg7 arg8 harg8 arg9 harg9 arg10 harg10 arg18 harg18 b = (k0_pay73 b.h13 b.x17) := by
    unfold runA.sl.r_74
    rw [e34, hx17]
  have e75 : runA.sl.r_75 c arg1 harg1 arg3 harg3 arg5 harg5 arg7 harg7 arg8 harg8 arg9 harg9 arg10 harg10 b = (k0_pay74 b.h13) := by
    unfold runA.sl.r_75
    rw [e34]
  have e76 : runA.sl.r_76 c arg1 harg1 arg3 harg3 arg5 harg5 arg7 harg7 arg8 harg8 arg9 harg9 arg10 harg10 arg18 harg18 b = (k0_pay75 (k0_pay58 b.x17) (k0_pay74 b.h13) (constant S32x128 .f32 0x00000000#32)) := by
    unfold runA.sl.r_76 runA.sl.cst_126
    rw [e59, e75]
  have e77 : runA.sl.r_77 c arg1 harg1 arg3 harg3 arg5 harg5 arg7 harg7 arg8 harg8 arg9 harg9 arg10 harg10 arg18 harg18 b = (k0_pay76 (k0_pay56 b.h13) (k0_pay58 b.x17)) := by
    unfold runA.sl.r_77
    rw [e57, e59]
  have e78 : runA.sl.r_78 c arg1 harg1 arg3 harg3 arg5 harg5 arg7 harg7 arg8 harg8 arg9 harg9 arg10 harg10 arg18 harg18 b = (k0_pay77 (k0_pay56 b.h13) (k0_pay58 b.x17)) := by
    unfold runA.sl.r_78
    rw [e57, e59]
  have e79 : runA.sl.r_79 c arg1 harg1 arg3 harg3 arg5 harg5 arg7 harg7 arg8 harg8 arg9 harg9 arg10 harg10 arg18 harg18 b = (k0_pay78 (k0_pay56 b.h13) (k0_pay58 b.x17)) := by
    unfold runA.sl.r_79
    rw [e57, e59]
  have e80 : runA.sl.r_80 c arg1 harg1 arg3 harg3 arg5 harg5 arg7 harg7 arg8 harg8 arg9 harg9 arg10 harg10 arg18 harg18 b = (k0_pay79 (k0_pay56 b.h13) (k0_pay58 b.x17)) := by
    unfold runA.sl.r_80
    rw [e57, e59]
  have e81 : runA.sl.r_81 c arg1 harg1 arg3 harg3 arg5 harg5 arg7 harg7 arg8 harg8 arg9 harg9 arg10 harg10 arg18 harg18 b = (k0_pay80 (k0_pay56 b.h13) (k0_pay58 b.x17)) := by
    unfold runA.sl.r_81
    rw [e57, e59]
  have e82 : runA.sl.r_82 c arg1 harg1 arg3 harg3 arg5 harg5 arg7 harg7 arg8 harg8 arg9 harg9 arg10 harg10 arg18 harg18 b = (k0_pay81 (k0_pay56 b.h13) (k0_pay58 b.x17)) := by
    unfold runA.sl.r_82
    rw [e57, e59]
  have e83 : runA.sl.r_83 c arg1 harg1 arg3 harg3 arg5 harg5 arg7 harg7 arg8 harg8 arg9 harg9 arg10 harg10 arg18 harg18 b = (k0_pay82 (k0_pay56 b.h13) (k0_pay58 b.x17)) := by
    unfold runA.sl.r_83
    rw [e57, e59]
  have e84 : runA.sl.r_84 c arg1 harg1 arg3 harg3 arg5 harg5 arg7 harg7 arg8 harg8 arg9 harg9 arg10 harg10 arg18 harg18 b = (k0_pay83 (k0_pay56 b.h13) (k0_pay58 b.x17)) := by
    unfold runA.sl.r_84
    rw [e57, e59]
  have e85 : runA.sl.r_85 c arg1 harg1 arg3 harg3 arg5 harg5 arg7 harg7 arg8 harg8 arg9 harg9 arg10 harg10 arg18 harg18 b = (k0_pay84 (k0_pay56 b.h13) (k0_pay58 b.x17)) := by
    unfold runA.sl.r_85
    rw [e57, e59]
  have e86 : runA.sl.r_86 c arg1 harg1 arg3 harg3 arg5 harg5 arg7 harg7 arg8 harg8 arg9 harg9 arg10 harg10 arg18 harg18 b = (k0_pay85 (k0_pay56 b.h13) (k0_pay58 b.x17)) := by
    unfold runA.sl.r_86
    rw [e57, e59]
  have e87 : runA.sl.r_87 c arg1 harg1 arg3 harg3 arg5 harg5 arg7 harg7 arg8 harg8 arg9 harg9 arg10 harg10 arg18 harg18 b = (k0_pay86 (k0_pay56 b.h13) (k0_pay58 b.x17)) := by
    unfold runA.sl.r_87
    rw [e57, e59]
  have e88 : runA.sl.r_88 c arg1 harg1 arg3 harg3 arg5 harg5 arg7 harg7 arg8 harg8 arg9 harg9 arg10 harg10 arg18 harg18 b = (k0_pay87 (k0_pay56 b.h13) (k0_pay58 b.x17)) := by
    unfold runA.sl.r_88
    rw [e57, e59]
  have e89 : runA.sl.r_89 c arg1 harg1 arg3 harg3 arg5 harg5 arg7 harg7 arg8 harg8 arg9 harg9 arg10 harg10 arg18 harg18 b = (k0_pay88 (k0_pay56 b.h13) (k0_pay58 b.x17)) := by
    unfold runA.sl.r_89
    rw [e57, e59]
  have e90 : runA.sl.r_90 c arg1 harg1 arg3 harg3 arg5 harg5 arg7 harg7 arg8 harg8 arg9 harg9 arg10 harg10 arg18 harg18 b = (k0_pay89 (k0_pay56 b.h13) (k0_pay58 b.x17)) := by
    unfold runA.sl.r_90
    rw [e57, e59]
  have e91 : runA.sl.r_91 c arg1 harg1 arg3 harg3 arg5 harg5 arg7 harg7 arg8 harg8 arg9 harg9 arg10 harg10 arg18 harg18 b = (k0_pay90 (k0_pay56 b.h13) (k0_pay58 b.x17)) := by
    unfold runA.sl.r_91
    rw [e57, e59]
  have e92 : runA.sl.r_92 c arg1 harg1 arg3 harg3 arg5 harg5 arg7 harg7 arg8 harg8 arg9 harg9 arg10 harg10 arg18 harg18 b = (k0_pay91 (k0_pay56 b.h13) (k0_pay58 b.x17)) := by
    unfold runA.sl.r_92
    rw [e57, e59]
  have e93 : runA.sl.r_93 c arg1 harg1 arg3 harg3 arg5 harg5 arg7 harg7 arg8 harg8 arg9 harg9 arg10 harg10 arg18 harg18 b = (k0_pay92 (k0_pay59 b.h13 b.x17)) := by
    unfold runA.sl.r_93
    rw [e60]
  have e94 : runA.sl.r_94 c arg1 harg1 arg3 harg3 arg5 harg5 arg7 harg7 arg8 harg8 arg9 harg9 arg10 harg10 arg18 harg18 b = (k0_pay93 (k0_pay60 b.h13 b.x17)) := by
    unfold runA.sl.r_94
    rw [e61]
  have e95 : runA.sl.r_95 c arg1 harg1 arg3 harg3 arg5 harg5 arg7 harg7 arg8 harg8 arg9 harg9 arg10 harg10 arg18 harg18 b = (k0_pay94 (k0_pay61 b.h13 b.x17)) := by
    unfold runA.sl.r_95
    rw [e62]
  have e96 : runA.sl.r_96 c arg1 harg1 arg3 harg3 arg5 harg5 arg7 harg7 arg8 harg8 arg9 harg9 arg10 harg10 arg18 harg18 b = (k0_pay95 (k0_pay62 b.h13 b.x17)) := by
    unfold runA.sl.r_96
    rw [e63]
  have e97 : runA.sl.r_97 c arg1 harg1 arg3 harg3 arg5 harg5 arg7 harg7 arg8 harg8 arg9 harg9 arg10 harg10 arg18 harg18 b = (k0_pay96 (k0_pay63 b.h13 b.x17)) := by
    unfold runA.sl.r_97
    rw [e64]
  have e98 : runA.sl.r_98 c arg1 harg1 arg3 harg3 arg5 harg5 arg7 harg7 arg8 harg8 arg9 harg9 arg10 harg10 arg18 harg18 b = (k0_pay97 (k0_pay64 b.h13 b.x17)) := by
    unfold runA.sl.r_98
    rw [e65]
  have e99 : runA.sl.r_99 c arg1 harg1 arg3 harg3 arg5 harg5 arg7 harg7 arg8 harg8 arg9 harg9 arg10 harg10 arg18 harg18 b = (k0_pay98 (k0_pay65 b.h13 b.x17)) := by
    unfold runA.sl.r_99
    rw [e66]
  have e100 : runA.sl.r_100 c arg1 harg1 arg3 harg3 arg5 harg5 arg7 harg7 arg8 harg8 arg9 harg9 arg10 harg10 arg18 harg18 b = (k0_pay99 (k0_pay66 b.h13 b.x17)) := by
    unfold runA.sl.r_100
    rw [e67]
  have e101 : runA.sl.r_101 c arg1 harg1 arg3 harg3 arg5 harg5 arg7 harg7 arg8 harg8 arg9 harg9 arg10 harg10 arg18 harg18 b = (k0_pay100 (k0_pay67 b.h13 b.x17)) := by
    unfold runA.sl.r_101
    rw [e68]
  have e102 : runA.sl.r_102 c arg1 harg1 arg3 harg3 arg5 harg5 arg7 harg7 arg8 harg8 arg9 harg9 arg10 harg10 arg18 harg18 b = (k0_pay101 (k0_pay68 b.h13 b.x17)) := by
    unfold runA.sl.r_102
    rw [e69]
  have e103 : runA.sl.r_103 c arg1 harg1 arg3 harg3 arg5 harg5 arg7 harg7 arg8 harg8 arg9 harg9 arg10 harg10 arg18 harg18 b = (k0_pay102 (k0_pay69 b.h13 b.x17)) := by
    unfold runA.sl.r_103
    rw [e70]
  have e104 : runA.sl.r_104 c arg1 harg1 arg3 harg3 arg5 harg5 arg7 harg7 arg8 harg8 arg9 harg9 arg10 harg10 arg18 harg18 b = b.sum13 := by
    unfold runA.sl.r_104 Blk.sum13
    rw [e71, e72, e73, e74, e76, e77, e78, e79, e80, e81, e82, e83, e84, e85, e86, e87, e88, e89, e90, e91, e92, e93, e94, e95, e96, e97, e98, e99, e100, e101, e102, e103]
  have e105 : runA.sl.r_105 c arg1 harg1 arg3 harg3 arg5 harg5 arg7 harg7 arg8 harg8 arg9 harg9 arg10 harg10 arg18 harg18 b = b.hm13 := by
    unfold runA.sl.r_105 Blk.hm13
    rw [e60, e61, e62, e63, e64, e65, e66, e67, e68, e69, e70, e71, e72, e73, e74, e76, e77, e78, e79, e80, e81, e82, e83, e84, e85, e86, e87, e88, e89, e90, e91, e92]
  have e106 : runA.sl.r_106 c arg2 harg2 arg4 harg4 arg6 harg6 arg7 harg7 arg8 harg8 arg9 harg9 arg10 harg10 arg18 harg18 b = (k0_pay105 b.hb24 (k0_pay58 b.x17)) := by
    unfold runA.sl.r_106
    rw [e58, e59]
  have e107 : runA.sl.r_107 c arg2 harg2 arg4 harg4 arg6 harg6 arg7 harg7 arg8 harg8 arg9 harg9 arg10 harg10 b = (k0_pay106 b.hb24) := by
    unfold runA.sl.r_107
    rw [e58]
  have e108 : runA.sl.r_108 c arg2 harg2 arg4 harg4 arg6 harg6 arg7 harg7 arg8 harg8 arg9 harg9 arg10 harg10 arg18 harg18 b = (k0_pay107 (k0_pay58 b.x17) (k0_pay106 b.hb24) (constant S32x128 .f32 0x00000000#32)) := by
    unfold runA.sl.r_108 runA.sl.cst_126
    rw [e59, e107]
  have e109 : runA.sl.r_109 c arg2 harg2 arg4 harg4 arg6 harg6 arg7 harg7 arg8 harg8 arg9 harg9 arg10 harg10 arg18 harg18 b = (k0_pay108 b.hb24 (k0_pay58 b.x17)) := by
    unfold runA.sl.r_109
    rw [e58, e59]
  have e110 : runA.sl.r_110 c arg2 harg2 arg4 harg4 arg6 harg6 arg7 harg7 arg8 harg8 arg9 harg9 arg10 harg10 arg18 harg18 b = (k0_pay109 b.hb24 (k0_pay58 b.x17)) := by
    unfold runA.sl.r_110
    rw [e58, e59]
  have e111 : runA.sl.r_111 c arg2 harg2 arg4 harg4 arg6 harg6 arg7 harg7 arg8 harg8 arg9 harg9 arg10 harg10 arg18 harg18 b = (k0_pay110 b.hb24 (k0_pay58 b.x17)) := by
    unfold runA.sl.r_111
    rw [e58, e59]
  have e112 : runA.sl.r_112 c arg2 harg2 arg4 harg4 arg6 harg6 arg7 harg7 arg8 harg8 arg9 harg9 arg10 harg10 arg18 harg18 b = (k0_pay111 b.hb24 (k0_pay58 b.x17)) := by
    unfold runA.sl.r_112
    rw [e58, e59]
  have e113 : runA.sl.r_113 c arg2 harg2 arg4 harg4 arg6 harg6 arg7 harg7 arg8 harg8 arg9 harg9 arg10 harg10 arg18 harg18 b = (k0_pay112 b.hb24 (k0_pay58 b.x17)) := by
    unfold runA.sl.r_113
    rw [e58, e59]
  have e114 : runA.sl.r_114 c arg2 harg2 arg4 harg4 arg6 harg6 arg7 harg7 arg8 harg8 arg9 harg9 arg10 harg10 arg18 harg18 b = (k0_pay113 b.hb24 (k0_pay58 b.x17)) := by
    unfold runA.sl.r_114
    rw [e58, e59]
  have e115 : runA.sl.r_115 c arg2 harg2 arg4 harg4 arg6 harg6 arg7 harg7 arg8 harg8 arg9 harg9 arg10 harg10 arg18 harg18 b = (k0_pay114 b.hb24 (k0_pay58 b.x17)) := by
    unfold runA.sl.r_115
    rw [e58, e59]
  have e116 : runA.sl.r_116 c arg2 harg2 arg4 harg4 arg6 harg6 arg7 harg7 arg8 harg8 arg9 harg9 arg10 harg10 arg18 harg18 b = (k0_pay115 b.hb24 (k0_pay58 b.x17)) := by
    unfold runA.sl.r_116
    rw [e58, e59]
  have e117 : runA.sl.r_117 c arg2 harg2 arg4 harg4 arg6 harg6 arg7 harg7 arg8 harg8 arg9 harg9 arg10 harg10 arg18 harg18 b = (k0_pay116 b.hb24 (k0_pay58 b.x17)) := by
    unfold runA.sl.r_117
    rw [e58, e59]
  have e118 : runA.sl.r_118 c arg2 harg2 arg4 harg4 arg6 harg6 arg7 harg7 arg8 harg8 arg9 harg9 arg10 harg10 arg18 harg18 b = (k0_pay117 b.hb24 (k0_pay58 b.x17)) := by
    unfold runA.sl.r_118
    rw [e58, e59]
  have e119 : runA.sl.r_119 c arg2 harg2 arg4 harg4 arg6 harg6 arg7 harg7 arg8 harg8 arg9 harg9 arg10 harg10 arg18 harg18 b = (k0_pay118 b.hb24 (k0_pay58 b.x17)) := by
    unfold runA.sl.r_119
    rw [e58, e59]
  have e120 : runA.sl.r_120 c arg2 harg2 arg4 harg4 arg6 harg6 arg7 harg7 arg8 harg8 arg9 harg9 arg10 harg10 arg18 harg18 b = (k0_pay119 b.hb24 (k0_pay58 b.x17)) := by
    unfold runA.sl.r_120
    rw [e58, e59]
  have e121 : runA.sl.r_121 c arg2 harg2 arg4 harg4 arg6 harg6 arg7 harg7 arg8 harg8 arg9 harg9 arg10 harg10 arg18 harg18 b = (k0_pay120 b.hb24 (k0_pay58 b.x17)) := by
    unfold runA.sl.r_121
    rw [e58, e59]
  have e122 : runA.sl.r_122 c arg2 harg2 arg4 harg4 arg6 harg6 arg7 harg7 arg8 harg8 arg9 harg9 arg10 harg10 arg18 harg18 b = (k0_pay121 b.hb24 (k0_pay58 b.x17)) := by
    unfold runA.sl.r_122
    rw [e58, e59]
  have e123 : runA.sl.r_123 c arg2 harg2 arg4 harg4 arg6 harg6 arg7 harg7 arg8 harg8 arg9 harg9 arg10 harg10 arg18 harg18 b = (k0_pay122 b.hb24 (k0_pay58 b.x17)) := by
    unfold runA.sl.r_123
    rw [e58, e59]
  have e124 : runA.sl.r_124 c arg2 harg2 arg4 harg4 arg6 harg6 arg7 harg7 arg8 harg8 arg9 harg9 arg10 harg10 arg18 harg18 b = (k0_pay123 b.hb24 (k0_pay58 b.x17)) := by
    unfold runA.sl.r_124
    rw [e58, e59]
  have e125 : runA.sl.r_125 c arg2 harg2 arg4 harg4 arg6 harg6 arg7 harg7 arg8 harg8 arg9 harg9 arg10 harg10 arg18 harg18 b = (k0_pay124 b.hb24 (k0_pay58 b.x17)) := by
    unfold runA.sl.r_125
    rw [e58, e59]
  have e126 : runA.sl.r_126 c arg2 harg2 arg4 harg4 arg6 harg6 arg7 harg7 arg8 harg8 arg9 harg9 arg10 harg10 arg18 harg18 b = (k0_pay125 b.hb24 (k0_pay58 b.x17)) := by
    unfold runA.sl.r_126
    rw [e58, e59]
  have e127 : runA.sl.r_127 c arg2 harg2 arg4 harg4 arg6 harg6 arg7 harg7 arg8 harg8 arg9 harg9 arg10 harg10 arg18 harg18 b = (k0_pay126 b.hb24 (k0_pay58 b.x17)) := by
    unfold runA.sl.r_127
    rw [e58, e59]
  have e128 : runA.sl.r_128 c arg2 harg2 arg4 harg4 arg6 harg6 arg7 harg7 arg8 harg8 arg9 harg9 arg10 harg10 b = (k0_pay127 b.hb24) := by
    unfold runA.sl.r_128
    rw [e58]
  have e129 : runA.sl.r_129 c arg2 harg2 arg4 harg4 arg6 harg6 arg7 harg7 arg8 harg8 arg9 harg9 arg10 harg10 arg18 harg18 b = (k0_pay128 (k0_pay58 b.x17) (k0_pay127 b.hb24) (constant S32x128 .f32 0x00000000#32)) := by
    unfold runA.sl.r_129 runA.sl.cst_126
    rw [e59, e128]
  have e130 : runA.sl.r_130 c arg2 harg2 arg4 harg4 arg6 harg6 arg7 harg7 arg8 harg8 arg9 harg9 arg10 harg10 arg18 harg18 b = (k0_pay129 b.hb24 (k0_pay58 b.x17)) := by
    unfold runA.sl.r_130
    rw [e58, e59]
  have e131 : runA.sl.r_131 c arg2 harg2 arg4 harg4 arg6 harg6 arg7 harg7 arg8 harg8 arg9 harg9 arg10 harg10 arg18 harg18 b = (k0_pay130 b.hb24 (k0_pay58 b.x17)) := by
    unfold runA.sl.r_131
    rw [e58, e59]
  have e132 : runA.sl.r_132 c arg2 harg2 arg4 harg4 arg6 harg6 arg7 harg7 arg8 harg8 arg9 harg9 arg10 harg10 arg18 harg18 b = (k0_pay131 b.hb24 (k0_pay58 b.x17)) := by
    unfold runA.sl.r_132
    rw [e58, e59]
  have e133 : runA.sl.r_133 c arg2 harg2 arg4 harg4 arg6 harg6 arg7 harg7 arg8 harg8 arg9 harg9 arg10 harg10 arg18 harg18 b = (k0_pay132 b.hb24 (k0_pay58 b.x17)) := by
    unfold runA.sl.r_133
    rw [e58, e59]
  have e134 : runA.sl.r_134 c arg2 harg2 arg4 harg4 arg6 harg6 arg7 harg7 arg8 harg8 arg9 harg9 arg10 harg10 arg18 harg18 b = (k0_pay133 b.hb24 (k0_pay58 b.x17)) := by
    unfold runA.sl.r_134
    rw [e58, e59]
  have e135 : runA.sl.r_135 c arg2 harg2 arg4 harg4 arg6 harg6 arg7 harg7 arg8 harg8 arg9 harg9 arg10 harg10 arg18 harg18 b = (k0_pay134 b.hb24 (k0_pay58 b.x17)) := by
    unfold runA.sl.r_135
    rw [e58, e59]
  have e136 : runA.sl.r_136 c arg2 harg2 arg4 harg4 arg6 harg6 arg7 harg7 arg8 harg8 arg9 harg9 arg10 harg10 arg18 harg18 b = (k0_pay135 b.hb24 (k0_pay58 b.x17)) := by
    unfold runA.sl.r_136
    rw [e58, e59]
  have e137 : runA.sl.r_137 c arg2 harg2 arg4 harg4 arg6 harg6 arg7 harg7 arg8 harg8 arg9 harg9 arg10 harg10 arg18 harg18 b = (k0_pay136 b.hb24 (k0_pay58 b.x17)) := by
    unfold runA.sl.r_137
    rw [e58, e59]
  have e138 : runA.sl.r_138 c arg2 harg2 arg4 harg4 arg6 harg6 arg7 harg7 arg8 harg8 arg9 harg9 arg10 harg10 arg18 harg18 b = (k0_pay137 b.hb24 (k0_pay58 b.x17)) := by
    unfold runA.sl.r_138
    rw [e58, e59]
  have e139 : runA.sl.r_139 c arg2 harg2 arg4 harg4 arg6 harg6 arg7 harg7 arg8 harg8 arg9 harg9 arg10 harg10 arg18 harg18 b = (k0_pay138 b.hb24 (k0_pay58 b.x17)) := by
    unfold runA.sl.r_139
    rw [e58, e59]
  have e140 : runA.sl.r_140 c arg2 harg2 arg4 harg4 arg6 harg6 arg7 harg7 arg8 harg8 arg9 harg9 arg10 harg10 arg18 harg18 b = (k0_pay139 (k0_pay105 b.hb24 (k0_pay58 b.x17))) := by
    unfold runA.sl.r_140
    rw [e106]
  have e141 : runA.sl.r_141 c arg2 harg2 arg4 harg4 arg6 harg6 arg7 harg7 arg8 harg8 arg9 harg9 arg10 harg10 arg18 harg18 b = (k0_pay140 (k0_pay107 (k0_pay58 b.x17) (k0_pay106 b.hb24) (constant S32x128 .f32 0x00000000#32))) := by
    unfold runA.sl.r_141
    rw [e108]
  have e142 : runA.sl.r_142 c arg2 harg2 arg4 harg4 arg6 harg6 arg7 harg7 arg8 harg8 arg9 harg9 arg10 harg10 arg18 harg18 b = (k0_pay141 (k0_pay108 b.hb24 (k0_pay58 b.x17))) := by
    unfold runA.sl.r_142
    rw [e109]
  have e143 : runA.sl.r_143 c arg2 harg2 arg4 harg4 arg6 harg6 arg7 harg7 arg8 harg8 arg9 harg9 arg10 harg10 arg18 harg18 b = (k0_pay142 (k0_pay109 b.hb24 (k0_pay58 b.x17))) := by
    unfold runA.sl.r_143
    rw [e110]
  have e144 : runA.sl.r_144 c arg2 harg2 arg4 harg4 arg6 harg6 arg7 harg7 arg8 harg8 arg9 harg9 arg10 harg10 arg18 harg18 b = (k0_pay143 (k0_pay110 b.hb24 (k0_pay58 b.x17))) := by
    unfold runA.sl.r_144
    rw [e111]
  have e145 : runA.sl.r_145 c arg2 harg2 arg4 harg4 arg6 harg6 arg7 harg7 arg8 harg8 arg9 harg9 arg10 harg10 arg18 harg18 b = (k0_pay144 (k0_pay111 b.hb24 (k0_pay58 b.x17))) := by
    unfold runA.sl.r_145
    rw [e112]
  have e146 : runA.sl.r_146 c arg2 harg2 arg4 harg4 arg6 harg6 arg7 harg7 arg8 harg8 arg9 harg9 arg10 harg10 arg18 harg18 b = (k0_pay145 (k0_pay112 b.hb24 (k0_pay58 b.x17))) := by
    unfold runA.sl.r_146
    rw [e113]
  have e147 : runA.sl.r_147 c arg2 harg2 arg4 harg4 arg6 harg6 arg7 harg7 arg8 harg8 arg9 harg9 arg10 harg10 arg18 harg18 b = (k0_pay146 (k0_pay113 b.hb24 (k0_pay58 b.x17))) := by
    unfold runA.sl.r_147
    rw [e114]
  have e148 : runA.sl.r_148 c arg2 harg2 arg4 harg4 arg6 harg6 arg7 harg7 arg8 harg8 arg9 harg9 arg10 harg10 arg18 harg18 b = (k0_pay147 (k0_pay114 b.hb24 (k0_pay58 b.x17))) := by
    unfold runA.sl.r_148
    rw [e115]
  have e149 : runA.sl.r_149 c arg2 harg2 arg4 harg4 arg6 harg6 arg7 harg7 arg8 harg8 arg9 harg9 arg10 harg10 arg18 harg18 b = (k0_pay148 (k0_pay115 b.hb24 (k0_pay58 b.x17))) := by
    unfold runA.sl.r_149
    rw [e116]
  have e150 : runA.sl.r_150 c arg2 harg2 arg4 harg4 arg6 harg6 arg7 harg7 arg8 harg8 arg9 harg9 arg10 harg10 arg18 harg18 b = (k0_pay149 (k0_pay116 b.hb24 (k0_pay58 b.x17))) := by
    unfold runA.sl.r_150
    rw [e117]
  have e151 : runA.sl.r_151 c arg2 harg2 arg4 harg4 arg6 harg6 arg7 harg7 arg8 harg8 arg9 harg9 arg10 harg10 arg18 harg18 b = (k0_pay150 (k0_pay117 b.hb24 (k0_pay58 b.x17))) := by
    unfold runA.sl.r_151
    rw [e118]
  have e152 : runA.sl.r_152 c arg2 harg2 arg4 harg4 arg6 harg6 arg7 harg7 arg8 harg8 arg9 harg9 arg10 harg10 arg18 harg18 b = (k0_pay151 (k0_pay118 b.hb24 (k0_pay58 b.x17))) := by
    unfold runA.sl.r_152
    rw [e119]
  have e153 : runA.sl.r_153 c arg2 harg2 arg4 harg4 arg6 harg6 arg7 harg7 arg8 harg8 arg9 harg9 arg10 harg10 arg18 harg18 b = (k0_pay152 (k0_pay119 b.hb24 (k0_pay58 b.x17))) := by
    unfold runA.sl.r_153
    rw [e120]
  have e154 : runA.sl.r_154 c arg2 harg2 arg4 harg4 arg6 harg6 arg7 harg7 arg8 harg8 arg9 harg9 arg10 harg10 arg18 harg18 b = (k0_pay153 (k0_pay120 b.hb24 (k0_pay58 b.x17))) := by
    unfold runA.sl.r_154
    rw [e121]
  have e155 : runA.sl.r_155 c arg2 harg2 arg4 harg4 arg6 harg6 arg7 harg7 arg8 harg8 arg9 harg9 arg10 harg10 arg18 harg18 b = (k0_pay154 (k0_pay121 b.hb24 (k0_pay58 b.x17))) := by
    unfold runA.sl.r_155
    rw [e122]
  have e156 : runA.sl.r_156 c arg2 harg2 arg4 harg4 arg6 harg6 arg7 harg7 arg8 harg8 arg9 harg9 arg10 harg10 arg18 harg18 b = (k0_pay155 (k0_pay122 b.hb24 (k0_pay58 b.x17))) := by
    unfold runA.sl.r_156
    rw [e123]
  have e157 : runA.sl.r_157 c arg2 harg2 arg4 harg4 arg6 harg6 arg7 harg7 arg8 harg8 arg9 harg9 arg10 harg10 arg18 harg18 b = (k0_pay156 (k0_pay123 b.hb24 (k0_pay58 b.x17))) := by
    unfold runA.sl.r_157
    rw [e124]
  have e158 : runA.sl.r_158 c arg2 harg2 arg4 harg4 arg6 harg6 arg7 harg7 arg8 harg8 arg9 harg9 arg10 harg10 arg18 harg18 b = (k0_pay157 (k0_pay124 b.hb24 (k0_pay58 b.x17))) := by
    unfold runA.sl.r_158
    rw [e125]
  have e159 : runA.sl.r_159 c arg2 harg2 arg4 harg4 arg6 harg6 arg7 harg7 arg8 harg8 arg9 harg9 arg10 harg10 arg18 harg18 b = (k0_pay158 (k0_pay125 b.hb24 (k0_pay58 b.x17))) := by
    unfold runA.sl.r_159
    rw [e126]
  have e160 : runA.sl.r_160 c arg2 harg2 arg4 harg4 arg6 harg6 arg7 harg7 arg8 harg8 arg9 harg9 arg10 harg10 arg18 harg18 b = (k0_pay159 (k0_pay126 b.hb24 (k0_pay58 b.x17))) := by
    unfold runA.sl.r_160
    rw [e127]
  have e161 : runA.sl.r_161 c arg2 harg2 arg4 harg4 arg6 harg6 arg7 harg7 arg8 harg8 arg9 harg9 arg10 harg10 arg18 harg18 b = (k0_pay160 (k0_pay58 b.x17) (k0_pay127 b.hb24) (constant S32x128 .f32 0x00000000#32)) := by
    unfold runA.sl.r_161 runA.sl.cst_126
    rw [e59, e128]
  have e162 : runA.sl.r_162 c arg2 harg2 arg4 harg4 arg6 harg6 arg7 harg7 arg8 harg8 arg9 harg9 arg10 harg10 arg18 harg18 b = (k0_pay161 b.hb24 (k0_pay58 b.x17)) := by
    unfold runA.sl.r_162
    rw [e58, e59]
  have e163 : runA.sl.r_163 c arg2 harg2 arg4 harg4 arg6 harg6 arg7 harg7 arg8 harg8 arg9 harg9 arg10 harg10 arg18 harg18 b = (k0_pay162 b.hb24 (k0_pay58 b.x17)) := by
    unfold runA.sl.r_163
    rw [e58, e59]
  have e164 : runA.sl.r_164 c arg2 harg2 arg4 harg4 arg6 harg6 arg7 harg7 arg8 harg8 arg9 harg9 arg10 harg10 arg18 harg18 b = (k0_pay163 b.hb24 (k0_pay58 b.x17)) := by
    unfold runA.sl.r_164
    rw [e58, e59]
  have e165 : runA.sl.r_165 c arg2 harg2 arg4 harg4 arg6 harg6 arg7 harg7 arg8 harg8 arg9 harg9 arg10 harg10 arg18 harg18 b = (k0_pay164 b.hb24 (k0_pay58 b.x17)) := by
    unfold runA.sl.r_165
    rw [e58, e59]
  have e166 : runA.sl.r_166 c arg2 harg2 arg4 harg4 arg6 harg6 arg7 harg7 arg8 harg8 arg9 harg9 arg10 harg10 arg18 harg18 b = (k0_pay165 b.hb24 (k0_pay58 b.x17)) := by
    unfold runA.sl.r_166
    rw [e58, e59]
  have e167 : runA.sl.r_167 c arg2 harg2 arg4 harg4 arg6 harg6 arg7 harg7 arg8 harg8 arg9 harg9 arg10 harg10 arg18 harg18 b = (k0_pay166 b.hb24 (k0_pay58 b.x17)) := by
    unfold runA.sl.r_167
    rw [e58, e59]
  have e168 : runA.sl.r_168 c arg2 harg2 arg4 harg4 arg6 harg6 arg7 harg7 arg8 harg8 arg9 harg9 arg10 harg10 arg18 harg18 b = (k0_pay167 b.hb24 (k0_pay58 b.x17)) := by
    unfold runA.sl.r_168
    rw [e58, e59]
  have e169 : runA.sl.r_169 c arg1 harg1 arg3 harg3 arg5 harg5 arg7 harg7 arg8 harg8 arg9 harg9 arg10 harg10 arg18 harg18 b = b.cc13 := by
    unfold runA.sl.r_169 Blk.cc13
    rw [e104]
  have e170 : runA.sl.r_170 c arg2 harg2 arg4 harg4 arg6 harg6 arg7 harg7 arg8 harg8 arg9 harg9 arg10 harg10 arg18 harg18 b = b.cc24 := by
    unfold runA.sl.r_170 Blk.cc24
    rw [e137, e138, e139, e140, e141, e142, e143, e144, e145, e146, e147, e148, e149, e150, e151, e152, e153, e154, e155, e156, e157, e158, e159, e160, e161, e162, e163, e164, e165, e166, e167, e168]
  have e171 : runA.sl.r_171 c arg2 harg2 arg4 harg4 arg6 harg6 arg7 harg7 arg8 harg8 arg9 harg9 arg10 harg10 arg14 harg14 arg18 harg18 b = b.m2 := by
    unfold runA.sl.r_171 Blk.m2
    rw [e106, e108, e109, e110, e111, e112, e113, e114, e115, e116, e117, e118, e119, e120, e121, e122, e123, e124, e125, e126, e127, e129, e130, e131, e132, e133, e134, e135, e136, e137, e138, e139, hx13]
  have e172 : runA.sl.r_172 c arg1 harg1 arg3 harg3 arg5 harg5 arg7 harg7 arg8 harg8 arg9 harg9 arg10 harg10 arg16 harg16 arg18 harg18 b = b.m1 := by
    unfold runA.sl.r_172 Blk.m1
    rw [e105, hx15]
  have e173 : runA.sl.r_173 c arg15 harg15 arg17 harg17 b = b.hbias := by
    unfold runA.sl.r_173 Blk.hbias
    rw [e2, e3]
  have e174 : runA.sl.r_174 c arg1 harg1 arg2 harg2 arg3 harg3 arg4 harg4 arg5 harg5 arg6 harg6 arg7 harg7 arg8 harg8 arg9 harg9 arg10 harg10 arg14 harg14 arg18 harg18 b = (k0_pay173 b.sum13 (k0_pay105 b.hb24 (k0_pay58 b.x17)) (k0_pay107 (k0_pay58 b.x17) (k0_pay106 b.hb24) (constant S32x128 .f32 0x00000000#32)) (k0_pay108 b.hb24 (k0_pay58 b.x17)) (k0_pay109 b.hb24 (k0_pay58 b.x17)) (k0_pay110 b.hb24 (k0_pay58 b.x17)) (k0_pay111 b.hb24 (k0_pay58 b.x17)) (k0_pay112 b.hb24 (k0_pay58 b.x17)) (k0_pay113 b.hb24 (k0_pay58 b.x17)) (k0_pay114 b.hb24 (k0_pay58 b.x17)) (k0_pay115 b.hb24 (k0_pay58 b.x17)) (k0_pay116 b.hb24 (k0_pay58 b.x17)) (k0_pay117 b.hb24 (k0_pay58 b.x17)) (k0_pay118 b.hb24 (k0_pay58 b.x17)) (k0_pay119 b.hb24 (k0_pay58 b.x17)) (k0_pay120 b.hb24 (k0_pay58 b.x17)) (k0_pay121 b.hb24 (k0_pay58 b.x17)) (k0_pay122 b.hb24 (k0_pay58 b.x17)) (k0_pay123 b.hb24 (k0_pay58 b.x17)) (k0_pay124 b.hb24 (k0_pay58 b.x17)) (k0_pay125 b.hb24 (k0_pay58 b.x17)) (k0_pay126 b.hb24 (k0_pay58 b.x17)) (k0_pay128 (k0_pay58 b.x17) (k0_pay127 b.hb24) (constant S32x128 .f32 0x00000000#32)) (k0_pay129 b.hb24 (k0_pay58 b.x17)) (k0_pay130 b.hb24 (k0_pay58 b.x17)) (k0_pay131 b.hb24 (k0_pay58 b.x17)) (k0_pay132 b.hb24 (k0_pay58 b.x17)) (k0_pay133 b.hb24 (k0_pay58 b.x17)) (k0_pay134 b.hb24 (k0_pay58 b.x17)) (k0_pay135 b.hb24 (k0_pay58 b.x17)) (k0_pay136 b.hb24 (k0_pay58 b.x17)) (k0_pay137 b.hb24 (k0_pay58 b.x17)) (k0_pay138 b.hb24 (k0_pay58 b.x17)) b.x13) := by
    unfold runA.sl.r_174
    rw [e104, e106, e108, e109, e110, e111, e112, e113, e114, e115, e116, e117, e118, e119, e120, e121, e122, e123, e124, e125, e126, e127, e129, e130, e131, e132, e133, e134, e135, e136, e137, e138, e139, hx13]
  have e175 : runA.sl.r_175 c arg1 harg1 arg2 harg2 arg3 harg3 arg4 harg4 arg5 harg5 arg6 harg6 arg7 harg7 arg8 harg8 arg9 harg9 arg10 harg10 arg16 harg16 arg18 harg18 b = (k0_pay174 b.hm13 (k0_pay136 b.hb24 (k0_pay58 b.x17)) (k0_pay137 b.hb24 (k0_pay58 b.x17)) (k0_pay138 b.hb24 (k0_pay58 b.x17)) (k0_pay139 (k0_pay105 b.hb24 (k0_pay58 b.x17))) (k0_pay140 (k0_pay107 (k0_pay58 b.x17) (k0_pay106 b.hb24) (constant S32x128 .f32 0x00000000#32))) (k0_pay141 (k0_pay108 b.hb24 (k0_pay58 b.x17))) (k0_pay142 (k0_pay109 b.hb24 (k0_pay58 b.x17))) (k0_pay143 (k0_pay110 b.hb24 (k0_pay58 b.x17))) (k0_pay144 (k0_pay111 b.hb24 (k0_pay58 b.x17))) (k0_pay145 (k0_pay112 b.hb24 (k0_pay58 b.x17))) (k0_pay146 (k0_pay113 b.hb24 (k0_pay58 b.x17))) (k0_pay147 (k0_pay114 b.hb24 (k0_pay58 b.x17))) (k0_pay148 (k0_pay115 b.hb24 (k0_pay58 b.x17))) (k0_pay149 (k0_pay116 b.hb24 (k0_pay58 b.x17))) (k0_pay150 (k0_pay117 b.hb24 (k0_pay58 b.x17))) (k0_pay151 (k0_pay118 b.hb24 (k0_pay58 b.x17))) (k0_pay152 (k0_pay119 b.hb24 (k0_pay58 b.x17))) (k0_pay153 (k0_pay120 b.hb24 (k0_pay58 b.x17))) (k0_pay154 (k0_pay121 b.hb24 (k0_pay58 b.x17))) (k0_pay155 (k0_pay122 b.hb24 (k0_pay58 b.x17))) (k0_pay156 (k0_pay123 b.hb24 (k0_pay58 b.x17))) (k0_pay157 (k0_pay124 b.hb24 (k0_pay58 b.x17))) (k0_pay158 (k0_pay125 b.hb24 (k0_pay58 b.x17))) (k0_pay159 (k0_pay126 b.hb24 (k0_pay58 b.x17))) (k0_pay160 (k0_pay58 b.x17) (k0_pay127 b.hb24) (constant S32x128 .f32 0x00000000#32)) (k0_pay161 b.hb24 (k0_pay58 b.x17)) (k0_pay162 b.hb24 (k0_pay58 b.x17)) (k0_pay163 b.hb24 (k0_pay58 b.x17)) (k0_pay164 b.hb24 (k0_pay58 b.x17)) (k0_pay165 b.hb24 (k0_pay58 b.x17)) (k0_pay166 b.hb24 (k0_pay58 b.x17)) (k0_pay167 b.hb24 (k0_pay58 b.x17)) b.x15) := by
    unfold runA.sl.r_175
    rw [e105, e137, e138, e139, e140, e141, e142, e143, e144, e145, e146, e147, e148, e149, e150, e151, e152, e153, e154, e155, e156, e157, e158, e159, e160, e161, e162, e163, e164, e165, e166, e167, e168, hx15]
  have e176 : runA.sl.r_176 c arg2 harg2 arg4 harg4 arg6 harg6 arg7 harg7 arg8 harg8 arg9 harg9 arg10 harg10 arg18 harg18 b = (k0_pay180 b.cc24) := by
    unfold runA.sl.r_176
    rw [e170]
  have e177 : runA.sl.r_177 c arg1 harg1 arg3 harg3 arg5 harg5 arg7 harg7 arg8 harg8 arg9 harg9 arg10 harg10 arg11 harg11 b = b.ftsf1 := by
    unfold runA.sl.r_177 Blk.ftsf1
    rw [e57, hx10]
  have e178 : runA.sl.r_178 c arg2 harg2 arg4 harg4 arg6 harg6 arg7 harg7 arg8 harg8 arg9 harg9 arg10 harg10 arg11 harg11 b = b.ftsf2 := by
    unfold runA.sl.r_178 Blk.ftsf2
    rw [e58, hx10]
  have e179 : runA.sl.r_179 c arg12 harg12 b = b.bdec := by
    unfold runA.sl.r_179 Blk.bdec
    rw [hx11]
  have e180 : runA.sl.r_180 c arg1 harg1 arg3 harg3 arg5 harg5 arg7 harg7 arg8 harg8 arg9 harg9 arg10 harg10 arg11 harg11 b = (k0_pay186 b.bd1 (k0_pay56 b.h13) b.x10) := by
    unfold runA.sl.r_180
    rw [e4, e57, hx10]
  have e181 : runA.sl.r_181 c arg1 harg1 arg3 harg3 arg5 harg5 arg7 harg7 arg8 harg8 arg9 harg9 arg10 harg10 arg11 harg11 b = (k0_pay187 b.bd1 (k0_pay56 b.h13) b.x10) := by
    unfold runA.sl.r_181
    rw [e4, e57, hx10]
  have e182 : runA.sl.r_182 c arg1 harg1 arg3 harg3 arg5 harg5 arg7 harg7 arg8 harg8 arg9 harg9 arg10 harg10 arg11 harg11 b = (k0_pay188 b.bd1 (k0_pay56 b.h13) b.x10) := by
    unfold runA.sl.r_182
    rw [e4, e57, hx10]
  have e183 : runA.sl.r_183 c arg1 harg1 arg3 harg3 arg5 harg5 arg7 harg7 arg8 harg8 arg9 harg9 arg10 harg10 arg11 harg11 b = (k0_pay189 b.bd1 (k0_pay56 b.h13) b.x10) := by
    unfold runA.sl.r_183
    rw [e4, e57, hx10]
  have e184 : runA.sl.r_184 c arg1 harg1 arg3 harg3 arg5 harg5 arg7 harg7 arg8 harg8 arg9 harg9 arg10 harg10 arg11 harg11 b = (k0_pay190 b.bd1 (k0_pay56 b.h13) b.x10) := by
    unfold runA.sl.r_184
    rw [e4, e57, hx10]
  have e185 : runA.sl.r_185 c arg1 harg1 arg3 harg3 arg5 harg5 arg7 harg7 arg8 harg8 arg9 harg9 arg10 harg10 arg11 harg11 b = (k0_pay191 b.bd1 (k0_pay56 b.h13) b.x10) := by
    unfold runA.sl.r_185
    rw [e4, e57, hx10]
  have e186 : runA.sl.r_186 c arg1 harg1 arg3 harg3 arg5 harg5 arg7 harg7 arg8 harg8 arg9 harg9 arg10 harg10 arg11 harg11 b = (k0_pay192 b.bd1 (k0_pay56 b.h13) b.x10) := by
    unfold runA.sl.r_186
    rw [e4, e57, hx10]
  have e187 : runA.sl.r_187 c arg1 harg1 arg3 harg3 arg5 harg5 arg7 harg7 arg8 harg8 arg9 harg9 arg10 harg10 arg11 harg11 b = (k0_pay193 b.bd1 (k0_pay56 b.h13) b.x10) := by
    unfold runA.sl.r_187
    rw [e4, e57, hx10]
  have e188 : runA.sl.r_188 c arg5 harg5 b = (k0_pay194 b.bd1) := by
    unfold runA.sl.r_188
    rw [e4]
  have e189 : runA.sl.r_189 c arg1 harg1 arg3 harg3 arg5 harg5 arg7 harg7 arg8 harg8 arg9 harg9 arg10 harg10 arg11 harg11 b = (k0_pay195 (k0_pay56 b.h13) b.x10) := by
    unfold runA.sl.r_189
    rw [e57, hx10]
  have e190 : runA.sl.r_190 c arg1 harg1 arg3 harg3 arg5 harg5 arg7 harg7 arg8 harg8 arg9 harg9 arg10 harg10 arg11 harg11 b = (k0_pay196 (k0_pay194 b.bd1) (k0_pay195 (k0_pay56 b.h13) b.x10)) := by
    unfold runA.sl.r_190
    rw [e188, e189]
  have e191 : runA.sl.r_191 c arg1 harg1 arg3 harg3 arg5 harg5 arg7 harg7 arg8 harg8 arg9 harg9 arg10 harg10 arg11 harg11 b = (k0_pay197 b.bd1 b.ftsf1) := by
    unfold runA.sl.r_191
    rw [e4, e177]
  have e192 : runA.sl.r_192 c arg1 harg1 arg3 harg3 arg5 harg5 arg7 harg7 arg8 harg8 arg9 harg9 arg10 harg10 arg11 harg11 b = (k0_pay198 b.bd1 b.ftsf1) := by
    unfold runA.sl.r_192
    rw [e4, e177]
  have e193 : runA.sl.r_193 c arg1 harg1 arg3 harg3 arg5 harg5 arg7 harg7 arg8 harg8 arg9 harg9 arg10 harg10 arg11 harg11 b = (k0_pay199 b.bd1 b.ftsf1) := by
    unfold runA.sl.r_193
    rw [e4, e177]
  have e194 : runA.sl.r_194 c arg1 harg1 arg3 harg3 arg5 harg5 arg7 harg7 arg8 harg8 arg9 harg9 arg10 harg10 arg11 harg11 b = (k0_pay200 b.bd1 b.ftsf1) := by
    unfold runA.sl.r_194
    rw [e4, e177]
  have e195 : runA.sl.r_195 c arg1 harg1 arg3 harg3 arg5 harg5 arg7 harg7 arg8 harg8 arg9 harg9 arg10 harg10 arg11 harg11 b = (k0_pay201 b.bd1 b.ftsf1) := by
    unfold runA.sl.r_195
    rw [e4, e177]
  have e196 : runA.sl.r_196 c arg1 harg1 arg3 harg3 arg5 harg5 arg7 harg7 arg8 harg8 arg9 harg9 arg10 harg10 arg11 harg11 b = (k0_pay202 b.bd1 b.ftsf1) := by
    unfold runA.sl.r_196
    rw [e4, e177]
  have e197 : runA.sl.r_197 c arg1 harg1 arg3 harg3 arg5 harg5 arg7 harg7 arg8 harg8 arg9 harg9 arg10 harg10 arg11 harg11 b = (k0_pay203 b.bd1 b.ftsf1) := by
    unfold runA.sl.r_197
    rw [e4, e177]
  have e198 : runA.sl.r_198 c arg1 harg1 arg3 harg3 arg5 harg5 arg7 harg7 arg8 harg8 arg9 harg9 arg10 harg10 arg11 harg11 b = (k0_pay204 b.bd1 b.ftsf1) := by
    unfold runA.sl.r_198
    rw [e4, e177]
  have e199 : runA.sl.r_199 c arg1 harg1 arg3 harg3 arg5 harg5 arg7 harg7 arg8 harg8 arg9 harg9 arg10 harg10 arg11 harg11 b = (k0_pay205 b.bd1 b.ftsf1) := by
    unfold runA.sl.r_199
    rw [e4, e177]
  have e200 : runA.sl.r_200 c arg1 harg1 arg3 harg3 arg5 harg5 arg7 harg7 arg8 harg8 arg9 harg9 arg10 harg10 arg11 harg11 b = (k0_pay206 b.bd1 b.ftsf1) := by
    unfold runA.sl.r_200
    rw [e4, e177]
  have e201 : runA.sl.r_201 c arg1 harg1 arg3 harg3 arg5 harg5 arg7 harg7 arg8 harg8 arg9 harg9 arg10 harg10 arg11 harg11 b = (k0_pay207 b.bd1 b.ftsf1) := by
    unfold runA.sl.r_201
    rw [e4, e177]
  have e202 : runA.sl.r_202 c arg1 harg1 arg3 harg3 arg5 harg5 arg7 harg7 arg8 harg8 arg9 harg9 arg10 harg10 arg11 harg11 b = (k0_pay208 b.bd1 b.ftsf1) := by
    unfold runA.sl.r_202
    rw [e4, e177]
  have e203 : runA.sl.r_203 c arg1 harg1 arg3 harg3 arg5 harg5 arg7 harg7 arg8 harg8 arg9 harg9 arg10 harg10 arg11 harg11 b = (k0_pay209 b.bd1 b.ftsf1) := by
    unfold runA.sl.r_203
    rw [e4, e177]
  have e204 : runA.sl.r_204 c arg1 harg1 arg3 harg3 arg5 harg5 arg7 harg7 arg8 harg8 arg9 harg9 arg10 harg10 arg11 harg11 b = (k0_pay210 b.bd1 b.ftsf1) := by
    unfold runA.sl.r_204
    rw [e4, e177]
  have e205 : runA.sl.r_205 c arg5 harg5 b = (k0_pay211 b.bd1) := by
    unfold runA.sl.r_205
    rw [e4]
  have e206 : runA.sl.r_206 c arg1 harg1 arg3 harg3 arg5 harg5 arg7 harg7 arg8 harg8 arg9 harg9 arg10 harg10 arg11 harg11 b = (k0_pay212 b.ftsf1) := by
    unfold runA.sl.r_206
    rw [e177]
  have e207 : runA.sl.r_207 c arg1 harg1 arg3 harg3 arg5 harg5 arg7 harg7 arg8 harg8 arg9 harg9 arg10 harg10 arg11 harg11 arg12 harg12 arg13 harg13 b = b.f1 := by
    unfold runA.sl.r_207 Blk.f1
    rw [e1, e4, e177, e179, e180, e181, e182, e183, e184, e185, e186, e187, e190, e191, e192, e193, e194, e195, e196, e197, e198, e199, e200, e201, e202, e203, e204, e205, e206]
  have e208 : runA.sl.r_208 c arg2 harg2 arg4 harg4 arg6 harg6 arg7 harg7 arg8 harg8 arg9 harg9 arg10 harg10 arg11 harg11 b = (k0_pay214 b.bd2 b.ftsf2) := by
    unfold runA.sl.r_208
    rw [e5, e178]
  have e209 : runA.sl.r_209 c arg2 harg2 arg4 harg4 arg6 harg6 arg7 harg7 arg8 harg8 arg9 harg9 arg10 harg10 arg11 harg11 b = (k0_pay215 b.bd2 b.ftsf2) := by
    unfold runA.sl.r_209
    rw [e5, e178]
  have e210 : runA.sl.r_210 c arg2 harg2 arg4 harg4 arg6 harg6 arg7 harg7 arg8 harg8 arg9 harg9 arg10 harg10 arg11 harg11 b = (k0_pay216 b.bd2 b.ftsf2) := by
    unfold runA.sl.r_210
    rw [e5, e178]
  have e211 : runA.sl.r_211 c arg2 harg2 arg4 harg4 arg6 harg6 arg7 harg7 arg8 harg8 arg9 harg9 arg10 harg10 arg11 harg11 b = (k0_pay217 b.bd2 b.ftsf2) := by
    unfold runA.sl.r_211
    rw [e5, e178]
  have e212 : runA.sl.r_212 c arg2 harg2 arg4 harg4 arg6 harg6 arg7 harg7 arg8 harg8 arg9 harg9 arg10 harg10 arg11 harg11 b = (k0_pay218 b.bd2 b.ftsf2) := by
    unfold runA.sl.r_212
    rw [e5, e178]
  have e213 : runA.sl.r_213 c arg2 harg2 arg4 harg4 arg6 harg6 arg7 harg7 arg8 harg8 arg9 harg9 arg10 harg10 arg11 harg11 b = (k0_pay219 b.bd2 b.ftsf2) := by
    unfold runA.sl.r_213
    rw [e5, e178]
  have e214 : runA.sl.r_214 c arg2 harg2 arg4 harg4 arg6 harg6 arg7 harg7 arg8 harg8 arg9 harg9 arg10 harg10 arg11 harg11 b = (k0_pay220 b.bd2 b.ftsf2) := by
    unfold runA.sl.r_214
    rw [e5, e178]
  have e215 : runA.sl.r_215 c arg2 harg2 arg4 harg4 arg6 harg6 arg7 harg7 arg8 harg8 arg9 harg9 arg10 harg10 arg11 harg11 b = (k0_pay221 b.bd2 b.ftsf2) := by
    unfold runA.sl.r_215
    rw [e5, e178]
  have e216 : runA.sl.r_216 c arg2 harg2 arg4 harg4 arg6 harg6 arg7 harg7 arg8 harg8 arg9 harg9 arg10 harg10 arg11 harg11 b = (k0_pay222 b.bd2 b.ftsf2) := by
    unfold runA.sl.r_216
    rw [e5, e178]
  have e217 : runA.sl.r_217 c arg2 harg2 arg4 harg4 arg6 harg6 arg7 harg7 arg8 harg8 arg9 harg9 arg10 harg10 arg11 harg11 b = (k0_pay223 b.bd2 b.ftsf2) := by
    unfold runA.sl.r_217
    rw [e5, e178]
  have e218 : runA.sl.r_218 c arg2 harg2 arg4 harg4 arg6 harg6 arg7 harg7 arg8 harg8 arg9 harg9 arg10 harg10 arg11 harg11 b = (k0_pay224 b.bd2 b.ftsf2) := by
    unfold runA.sl.r_218
    rw [e5, e178]
  have e219 : runA.sl.r_219 c arg2 harg2 arg4 harg4 arg6 harg6 arg7 harg7 arg8 harg8 arg9 harg9 arg10 harg10 arg11 harg11 b = (k0_pay225 b.bd2 b.ftsf2) := by
    unfold runA.sl.r_219
    rw [e5, e178]
  have e220 : runA.sl.r_220 c arg2 harg2 arg4 harg4 arg6 harg6 arg7 harg7 arg8 harg8 arg9 harg9 arg10 harg10 arg11 harg11 b = (k0_pay226 b.bd2 b.ftsf2) := by
    unfold runA.sl.r_220
    rw [e5, e178]
  have e221 : runA.sl.r_221 c arg2 harg2 arg4 harg4 arg6 harg6 arg7 harg7 arg8 harg8 arg9 harg9 arg10 harg10 arg11 harg11 b = (k0_pay227 b.bd2 b.ftsf2) := by
    unfold runA.sl.r_221
    rw [e5, e178]
  have e222 : runA.sl.r_222 c arg2 harg2 arg4 harg4 arg6 harg6 arg7 harg7 arg8 harg8 arg9 harg9 arg10 harg10 arg11 harg11 b = (k0_pay228 b.bd2 b.ftsf2) := by
    unfold runA.sl.r_222
    rw [e5, e178]
  have e223 : runA.sl.r_223 c arg2 harg2 arg4 harg4 arg6 harg6 arg7 harg7 arg8 harg8 arg9 harg9 arg10 harg10 arg11 harg11 b = (k0_pay229 b.bd2 b.ftsf2) := by
    unfold runA.sl.r_223
    rw [e5, e178]
  have e224 : runA.sl.r_224 c arg2 harg2 arg4 harg4 arg6 harg6 arg7 harg7 arg8 harg8 arg9 harg9 arg10 harg10 arg11 harg11 b = (k0_pay230 b.bd2 b.ftsf2) := by
    unfold runA.sl.r_224
    rw [e5, e178]
  have e225 : runA.sl.r_225 c arg2 harg2 arg4 harg4 arg6 harg6 arg7 harg7 arg8 harg8 arg9 harg9 arg10 harg10 arg11 harg11 b = (k0_pay231 b.bd2 b.ftsf2) := by
    unfold runA.sl.r_225
    rw [e5, e178]
  have e226 : runA.sl.r_226 c arg2 harg2 arg4 harg4 arg6 harg6 arg7 harg7 arg8 harg8 arg9 harg9 arg10 harg10 arg11 harg11 b = (k0_pay232 b.bd2 b.ftsf2) := by
    unfold runA.sl.r_226
    rw [e5, e178]
  have e227 : runA.sl.r_227 c arg2 harg2 arg4 harg4 arg6 harg6 arg7 harg7 arg8 harg8 arg9 harg9 arg10 harg10 arg11 harg11 b = (k0_pay233 b.bd2 b.ftsf2) := by
    unfold runA.sl.r_227
    rw [e5, e178]
  have e228 : runA.sl.r_228 c arg2 harg2 arg4 harg4 arg6 harg6 arg7 harg7 arg8 harg8 arg9 harg9 arg10 harg10 arg11 harg11 arg12 harg12 arg13 harg13 b = b.f2 := by
    unfold runA.sl.r_228 Blk.f2
    rw [e1, e5, e178, e179, e208, e209, e210, e211, e212, e213, e214, e215, e216, e217, e218, e219, e220, e221, e222, e223, e224, e225, e226, e227]
  have ev0 : runA.sl.v541 c arg22 = k0_pay2 (F := F) := View.readCov_full _ _ _ _ _
  have ev1 : runA.sl.v544 c arg23 = k0_pay3 (F := F) := View.readCov_full _ _ _ _ _
  isplitl [H0]
  · iexists _; isplitr; swap
    · iexact H0
    · ipureintro
      exact harg1.read_unread b.x0
  isplitl [H1]
  · iexists _; isplitr; swap
    · iexact H1
    · ipureintro
      exact harg2.read_unread b.x1
  isplitl [H2]
  · iexists _; isplitr; swap
    · iexact H2
    · ipureintro
      exact harg3.read_unread b.x2
  isplitl [H3]
  · iexists _; isplitr; swap
    · iexact H3
    · ipureintro
      exact harg4.read_unread b.x3
  isplitl [H4]
  · iexists _; isplitr; swap
    · iexact H4
    · ipureintro
      exact harg5.read_unread b.x4
  isplitl [H5]
  · iexists _; isplitr; swap
    · iexact H5
    · ipureintro
      exact harg6.read_unread b.x5
  isplitl [H6]
  · iexists _; isplitr; swap
    · iexact H6
    · ipureintro
      exact harg7.read_unread b.x6
  isplitl [H7]
  · iexists _; isplitr; swap
    · iexact H7
    · ipureintro
      exact harg8.read_unread b.x7
  isplitl [H8]
  · iexists _; isplitr; swap
    · iexact H8
    · ipureintro
      exact harg9.read_unread b.x8
  isplitl [H9]
  · iexists _; isplitr; swap
    · iexact H9
    · ipureintro
      exact harg10.read_unread b.x9
  isplitl [H10]
  · iexists _; isplitr; swap
    · iexact H10
    · ipureintro
      exact harg11.read_unread b.x10
  isplitl [H11]
  · iexists _; isplitr; swap
    · iexact H11
    · ipureintro
      exact harg12.read_unread b.x11
  isplitl [H12]
  · iexists _; isplitr; swap
    · iexact H12
    · ipureintro
      exact harg13.read_unread b.x12
  isplitl [H13]
  · iexists _; isplitr; swap
    · iexact H13
    · ipureintro
      exact harg14.read_unread b.x13
  isplitl [H14]
  · iexists _; isplitr; swap
    · iexact H14
    · ipureintro
      exact harg15.read_unread b.x14
  isplitl [H15]
  · iexists _; isplitr; swap
    · iexact H15
    · ipureintro
      exact harg16.read_unread b.x15
  isplitl [H16]
  · iexists _; isplitr; swap
    · iexact H16
    · ipureintro
      exact harg17.read_unread b.x16
  isplitl [H17]
  · iexists _; isplitr; swap
    · iexact H17
    · ipureintro
      exact harg18.read_unread b.x17
  isplitl [H18]
  · iexists _; isplitr; swap
    · iexact H18
    · ipureintro
      refine (View.read_writes_full _ _ _ _ _).trans ?_
      unfold Blk.out1
      rw [e207]
  isplitl [H19]
  · iexists _; isplitr; swap
    · iexact H19
    · ipureintro
      refine (View.read_writes_full _ _ _ _ _).trans ?_
      unfold Blk.out2
      rw [e228]
  isplitl [H20]
  · iexists _; isplitr; swap
    · iexact H20
    · ipureintro
      refine (read_upd _ _ i _ _ _ _).trans ?_
      refine congr (congr (congrArg (upd (i 0).val) ?_) ?_) ?_
      · unfold Blk.sa
        rw [e173, e174, e175]
      · unfold Blk.sb
        rw [e169, e170, e171, e172, e173, ev0, ev1]
      · exact harg21.read_unread y
  isplitl [HS0]
  · iexists _; isplitr; swap
    · iexact HS0
    · ipureintro
      refine (View.read_writes_full _ _ _ _ _).trans ?_
      unfold Blk.last13
      rw [e169]
  isplitl [HS1]
  · iexists _; isplitr; swap
    · iexact HS1
    · ipureintro
      refine (View.read_writes_full _ _ _ _ _).trans ?_
      unfold Blk.last24
      rw [e176]
  isplitl [HS2]
  · iexists _; isplitr; swap
    · iexact HS2
    · ipureintro
      refine (View.read_writes_full _ _ _ _ _).trans ?_
      unfold Blk.m1first
      rw [e172]
  iexists _; isplitr; swap
  · iexact HS3
  · ipureintro
    refine (View.read_writes_full _ _ _ _ _).trans ?_
    unfold Blk.m2first
    rw [e171]

end Cert.KernelIdeal.Fused

end
-- ==== Proof.RunB.lean ====
/- The kernel's body at a middle grid point, run once: what each buffer holds afterwards. -/
module

public import proofs.«01_k».proof.Proof.Rows

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At a middle point the column of means comes from the point before. -/
theorem runB (c : Dev nD) (i : grid0.Coords) (arg1 : Memref sig .tc .vmem S512x8x128 .f32) (harg1 : arg1.IsWhole) (arg2 : Memref sig .tc .vmem S512x8x128 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S8x8x512 .f32) (harg5 : arg5.IsWhole) (arg6 : Memref sig .tc .vmem S8x8x512 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .smem S1x1 .f32) (harg10 : arg10.IsWhole) (arg11 : Memref sig .tc .vmem S128x128 .bf16) (harg11 : arg11.IsWhole) (arg12 : Memref sig .tc .vmem S1x128 .f32) (harg12 : arg12.IsWhole) (arg13 : Memref sig .tc .smem S1x1 .f32) (harg13 : arg13.IsWhole) (arg14 : Memref sig .tc .vmem S128x128 .f32) (harg14 : arg14.IsWhole) (arg15 : Memref sig .tc .smem S1x1 .f32) (harg15 : arg15.IsWhole) (arg16 : Memref sig .tc .vmem S128x128 .f32) (harg16 : arg16.IsWhole) (arg17 : Memref sig .tc .smem S1x1 .f32) (harg17 : arg17.IsWhole) (arg18 : Memref sig .tc .vmem S32x128 .bf16) (harg18 : arg18.IsWhole) (arg19 : Memref sig .tc .vmem S512x8x128 .f32) (harg19 : arg19.IsWhole) (arg20 : Memref sig .tc .vmem S512x8x128 .f32) (harg20 : arg20.IsWhole) (arg21 : Memref sig .tc .vmem S16384x1 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128 .f32) (harg25 : arg25.IsWhole)
   (hc0 : ¬((Scalar.cmpi .ne (Scalar.extui (Scalar.cmpi .eq (BitVec.ofNat 32 (i 0).val) 0#32)) 0#32) = 1#1)) (hc2 : ¬((Scalar.cmpi .ne (Scalar.extui (Scalar.cmpi .eq (BitVec.ofNat 32 (i 0).val) 15#32)) 0#32) = 1#1)) (b : Blk F) (y : Vec F S16384x1 .f32) (s0 s1 s2 s3 : Vec F S1x128 .f32) (E : Set ℕ) (K : PUnit → sProp 𝕄) :
   iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ owns (c : Thread nD τ) arg12 fullShare b.x11 ∗ owns (c : Thread nD τ) arg13 fullShare b.x12 ∗ owns (c : Thread nD τ) arg14 fullShare b.x13 ∗ owns (c : Thread nD τ) arg15 fullShare b.x14 ∗ owns (c : Thread nD τ) arg16 fullShare b.x15 ∗ owns (c : Thread nD τ) arg17 fullShare b.x16 ∗ owns (c : Thread nD τ) arg18 fullShare b.x17 ∗ (∃ d, owns (c : Thread nD τ) arg19 fullShare d) ∗ (∃ d, owns (c : Thread nD τ) arg20 fullShare d) ∗ owns (c : Thread nD τ) arg21 fullShare y ∗ owns (c : Thread nD τ) arg22 fullShare s0 ∗ owns (c : Thread nD τ) arg23 fullShare s1 ∗ owns (c : Thread nD τ) arg24 fullShare s2 ∗ owns (c : Thread nD τ) arg25 fullShare s3 ∗ (iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ owns (c : Thread nD τ) arg12 fullShare b.x11 ∗ owns (c : Thread nD τ) arg13 fullShare b.x12 ∗ owns (c : Thread nD τ) arg14 fullShare b.x13 ∗ owns (c : Thread nD τ) arg15 fullShare b.x14 ∗ owns (c : Thread nD τ) arg16 fullShare b.x15 ∗ owns (c : Thread nD τ) arg17 fullShare b.x16 ∗ owns (c : Thread nD τ) arg18 fullShare b.x17 ∗ owns (c : Thread nD τ) arg19 fullShare b.out1 ∗ owns (c : Thread nD τ) arg20 fullShare b.out2 ∗ owns (c : Thread nD τ) arg21 fullShare (upd (i 0).val b.sa (b.sb s0 s1) y) ∗ owns (c : Thread nD τ) arg22 fullShare b.last13 ∗ owns (c : Thread nD τ) arg23 fullShare b.last24 ∗ owns (c : Thread nD τ) arg24 fullShare s2 ∗ owns (c : Thread nD τ) arg25 fullShare s3) -∗ K ⟨⟩)) ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%f20, %hf20, H20⟩, ⟨%fs0, %hs0, HS0⟩, ⟨%fs1, %hs1, HS1⟩, ⟨%fs2, %hs2, HS2⟩, ⟨%fs3, %hs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg21.eq_unread hf20; obtain rfl := harg22.eq_unread hs0; obtain rfl := harg23.eq_unread hs1; obtain rfl := harg24.eq_unread hs2; obtain rfl := harg25.eq_unread hs3
  sl_exec (disch := first | sl_exact hc0 | sl_exact hc2)
  sl_step
  iapply Hk
  have hx0 : View.readAt (Elt F) arg1.view (Rect.unit (s := S512x8x128) ![0, 0, 0] S512x8x128.size inb_S512x8x128_S512x8x128_0_0_0).toLoadRect (harg1.unread b.x0) = b.x0 := (View.readAt_full _ _ _).trans (harg1.read_unread b.x0)
  have hx1 : View.readAt (Elt F) arg2.view (Rect.unit (s := S512x8x128) ![0, 0, 0] S512x8x128.size inb_S512x8x128_S512x8x128_0_0_0).toLoadRect (harg2.unread b.x1) = b.x1 := (View.readAt_full _ _ _).trans (harg2.read_unread b.x1)
  have hx2 : View.readAt (Elt F) arg3.view (Rect.unit (s := S512x8x128) ![0, 0, 0] S512x8x128.size inb_S512x8x128_S512x8x128_0_0_0).toLoadRect (harg3.unread b.x2) = b.x2 := (View.readAt_full _ _ _).trans (harg3.read_unread b.x2)
  have hx3 : View.readAt (Elt F) arg4.view (Rect.unit (s := S512x8x128) ![0, 0, 0] S512x8x128.size inb_S512x8x128_S512x8x128_0_0_0).toLoadRect (harg4.unread b.x3) = b.x3 := (View.readAt_full _ _ _).trans (harg4.read_unread b.x3)
  have hx4 : View.readAt (Elt F) arg5.view (Rect.unit (s := S8x8x512) ![0, 0, 0] S8x8x512.size inb_S8x8x512_S8x8x512_0_0_0).toLoadRect (harg5.unread b.x4) = b.x4 := (View.readAt_full _ _ _).trans (harg5.read_unread b.x4)
  have hx5 : View.readAt (Elt F) arg6.view (Rect.unit (s := S8x8x512) ![0, 0, 0] S8x8x512.size inb_S8x8x512_S8x8x512_0_0_0).toLoadRect (harg6.unread b.x5) = b.x5 := (View.readAt_full _ _ _).trans (harg6.read_unread b.x5)
  have hx6 : View.readAt (Elt F) arg7.view (Rect.unit (s := S128x128) ![0, 0] S128x128.size inb_S128x128_S128x128_0_0).toLoadRect (harg7.unread b.x6) = b.x6 := (View.readAt_full _ _ _).trans (harg7.read_unread b.x6)
  have hx7 : View.readAt (Elt F) arg8.view (Rect.unit (s := S128x128) ![0, 0] S128x128.size inb_S128x128_S128x128_0_0).toLoadRect (harg8.unread b.x7) = b.x7 := (View.readAt_full _ _ _).trans (harg8.read_unread b.x7)
  have hx8 : View.readAt (Elt F) arg9.view (Rect.unit (s := S1x128) ![0, 0] S1x128.size inb_S1x128_S1x128_0_0).toLoadRect (harg9.unread b.x8) = b.x8 := (View.readAt_full _ _ _).trans (harg9.read_unread b.x8)
  have hx9 : View.readAt (Elt F) arg10.view (Rect.unit (s := S1x1) ![0, 0] S1x1.size inb_S1x1_S1x1_0_0).toLoadRect (harg10.unread b.x9) (Shape.Idx.first (by decide)) = b.x9 (ix2 0 0) := (congrFun ((View.readAt_full _ _ _).trans (harg10.read_unread b.x9)) _).trans (congrArg b.x9 (one_idx _))
  have hx10 : View.readAt (Elt F) arg11.view (Rect.unit (s := S128x128) ![0, 0] S128x128.size inb_S128x128_S128x128_0_0).toLoadRect (harg11.unread b.x10) = b.x10 := (View.readAt_full _ _ _).trans (harg11.read_unread b.x10)
  have hx11 : View.readAt (Elt F) arg12.view (Rect.unit (s := S1x128) ![0, 0] S1x128.size inb_S1x128_S1x128_0_0).toLoadRect (harg12.unread b.x11) = b.x11 := (View.readAt_full _ _ _).trans (harg12.read_unread b.x11)
  have hx12 : View.readAt (Elt F) arg13.view (Rect.unit (s := S1x1) ![0, 0] S1x1.size inb_S1x1_S1x1_0_0).toLoadRect (harg13.unread b.x12) (Shape.Idx.first (by decide)) = b.x12 (ix2 0 0) := (congrFun ((View.readAt_full _ _ _).trans (harg13.read_unread b.x12)) _).trans (congrArg b.x12 (one_idx _))
  have hx13 : View.readAt (Elt F) arg14.view (Rect.unit (s := S128x128) ![0, 0] S128x128.size inb_S128x128_S128x128_0_0).toLoadRect (harg14.unread b.x13) = b.x13 := (View.readAt_full _ _ _).trans (harg14.read_unread b.x13)
  have hx14 : View.readAt (Elt F) arg15.view (Rect.unit (s := S1x1) ![0, 0] S1x1.size inb_S1x1_S1x1_0_0).toLoadRect (harg15.unread b.x14) (Shape.Idx.first (by decide)) = b.x14 (ix2 0 0) := (congrFun ((View.readAt_full _ _ _).trans (harg15.read_unread b.x14)) _).trans (congrArg b.x14 (one_idx _))
  have hx15 : View.readAt (Elt F) arg16.view (Rect.unit (s := S128x128) ![0, 0] S128x128.size inb_S128x128_S128x128_0_0).toLoadRect (harg16.unread b.x15) = b.x15 := (View.readAt_full _ _ _).trans (harg16.read_unread b.x15)
  have hx16 : View.readAt (Elt F) arg17.view (Rect.unit (s := S1x1) ![0, 0] S1x1.size inb_S1x1_S1x1_0_0).toLoadRect (harg17.unread b.x16) (Shape.Idx.first (by decide)) = b.x16 (ix2 0 0) := (congrFun ((View.readAt_full _ _ _).trans (harg17.read_unread b.x16)) _).trans (congrArg b.x16 (one_idx _))
  have hx17 : View.readAt (Elt F) arg18.view (Rect.unit (s := S32x128) ![0, 0] S32x128.size inb_S32x128_S32x128_0_0).toLoadRect (harg18.unread b.x17) = b.x17 := (View.readAt_full _ _ _).trans (harg18.read_unread b.x17)
  have e0 : runB.sl.r c arg10 harg10 b = (b.x9 (ix2 0 0)) := by
    unfold runB.sl.r
    rw [hx9]
  have e1 : runB.sl.r_1 c arg13 harg13 b = (b.x12 (ix2 0 0)) := by
    unfold runB.sl.r_1
    rw [hx12]
  have e2 : runB.sl.r_2 c arg15 harg15 b = (b.x14 (ix2 0 0)) := by
    unfold runB.sl.r_2
    rw [hx14]
  have e3 : runB.sl.r_3 c arg17 harg17 b = (b.x16 (ix2 0 0)) := by
    unfold runB.sl.r_3
    rw [hx16]
  have e4 : runB.sl.r_4 c arg5 harg5 b = b.bd1 := by
    unfold runB.sl.r_4 Blk.bd1
    rw [hx4]
  have e5 : runB.sl.r_5 c arg6 harg6 b = b.bd2 := by
    unfold runB.sl.r_5 Blk.bd2
    rw [hx5]
  have e6 : runB.sl.r_6 c arg1 harg1 arg7 harg7 b = b.fts1 := by
    unfold runB.sl.r_6 Blk.fts1
    rw [hx0, hx6]
  have e7 : runB.sl.r_7 c arg3 harg3 b = b.x2 := by
    unfold runB.sl.r_7
    rw [hx2]
  have e8 : runB.sl.r_8 c arg1 harg1 arg3 harg3 arg7 harg7 arg8 harg8 b = (k0_pay7 b.fts1 b.x2 b.x7) := by
    unfold runB.sl.r_8
    rw [e6, e7, hx7]
  have e9 : runB.sl.r_9 c arg2 harg2 arg4 harg4 arg7 harg7 arg8 harg8 b = b.fts24 := by
    unfold runB.sl.r_9 Blk.fts24
    rw [hx1, hx6, hx3, hx7]
  have e10 : runB.sl.r_10 c arg1 harg1 arg3 harg3 arg5 harg5 arg7 harg7 arg8 harg8 b = (k0_pay9 b.bd1 b.fts1 b.x2 b.x7) := by
    unfold runB.sl.r_10
    rw [e4, e6, e7, hx7]
  have e11 : runB.sl.r_11 c arg1 harg1 arg3 harg3 arg5 harg5 arg7 harg7 arg8 harg8 b = (k0_pay10 b.bd1 b.fts1 b.x2 b.x7) := by
    unfold runB.sl.r_11
    rw [e4, e6, e7, hx7]
  have e12 : runB.sl.r_12 c arg1 harg1 arg3 harg3 arg5 harg5 arg7 harg7 arg8 harg8 b = (k0_pay11 b.bd1 b.fts1 b.x2 b.x7) := by
    unfold runB.sl.r_12
    rw [e4, e6, e7, hx7]
  have e13 : runB.sl.r_13 c arg1 harg1 arg3 harg3 arg5 harg5 arg7 harg7 arg8 harg8 b = (k0_pay12 b.bd1 b.fts1 b.x2 b.x7) := by
    unfold runB.sl.r_13
    rw [e4, e6, e7, hx7]
  have e14 : runB.sl.r_14 c arg1 harg1 arg3 harg3 arg5 harg5 arg7 harg7 arg8 harg8 b = (k0_pay13 b.bd1 b.fts1 b.x2 b.x7) := by
    unfold runB.sl.r_14
    rw [e4, e6, e7, hx7]
  have e15 : runB.sl.r_15 c arg1 harg1 arg3 harg3 arg5 harg5 arg7 harg7 arg8 harg8 b = (k0_pay14 b.bd1 b.fts1 b.x2 b.x7) := by
    unfold runB.sl.r_15
    rw [e4, e6, e7, hx7]
  have e16 : runB.sl.r_16 c arg1 harg1 arg3 harg3 arg5 harg5 arg7 harg7 arg8 harg8 b = (k0_pay15 b.bd1 b.fts1 b.x2 b.x7) := by
    unfold runB.sl.r_16
    rw [e4, e6, e7, hx7]
  have e17 : runB.sl.r_17 c arg5 harg5 b = (k0_pay16 b.bd1) := by
    unfold runB.sl.r_17
    rw [e4]
  have e18 : runB.sl.r_18 c arg1 harg1 arg3 harg3 arg5 harg5 arg7 harg7 arg8 harg8 b = (k0_pay17 (k0_pay7 b.fts1 b.x2 b.x7) (k0_pay16 b.bd1)) := by
    unfold runB.sl.r_18
    rw [e8, e17]
  have e19 : runB.sl.r_19 c arg1 harg1 arg3 harg3 arg5 harg5 arg7 harg7 arg8 harg8 b = (k0_pay18 b.bd1 (k0_pay7 b.fts1 b.x2 b.x7)) := by
    unfold runB.sl.r_19
    rw [e4, e8]
  have e20 : runB.sl.r_20 c arg1 harg1 arg3 harg3 arg5 harg5 arg7 harg7 arg8 harg8 b = (k0_pay19 b.bd1 (k0_pay7 b.fts1 b.x2 b.x7)) := by
    unfold runB.sl.r_20
    rw [e4, e8]
  have e21 : runB.sl.r_21 c arg1 harg1 arg3 harg3 arg5 harg5 arg7 harg7 arg8 harg8 b = (k0_pay20 b.bd1 (k0_pay7 b.fts1 b.x2 b.x7)) := by
    unfold runB.sl.r_21
    rw [e4, e8]
  have e22 : runB.sl.r_22 c arg1 harg1 arg3 harg3 arg5 harg5 arg7 harg7 arg8 harg8 b = (k0_pay21 b.bd1 (k0_pay7 b.fts1 b.x2 b.x7)) := by
    unfold runB.sl.r_22
    rw [e4, e8]
  have e23 : runB.sl.r_23 c arg1 harg1 arg3 harg3 arg5 harg5 arg7 harg7 arg8 harg8 b = (k0_pay22 b.bd1 (k0_pay7 b.fts1 b.x2 b.x7)) := by
    unfold runB.sl.r_23
    rw [e4, e8]
  have e24 : runB.sl.r_24 c arg1 harg1 arg3 harg3 arg5 harg5 arg7 harg7 arg8 harg8 b = (k0_pay23 b.bd1 (k0_pay7 b.fts1 b.x2 b.x7)) := by
    unfold runB.sl.r_24
    rw [e4, e8]
  have e25 : runB.sl.r_25 c arg1 harg1 arg3 harg3 arg5 harg5 arg7 harg7 arg8 harg8 b = (k0_pay24 b.bd1 (k0_pay7 b.fts1 b.x2 b.x7)) := by
    unfold runB.sl.r_25
    rw [e4, e8]
  have e26 : runB.sl.r_26 c arg1 harg1 arg3 harg3 arg5 harg5 arg7 harg7 arg8 harg8 b = (k0_pay25 b.bd1 (k0_pay7 b.fts1 b.x2 b.x7)) := by
    unfold runB.sl.r_26
    rw [e4, e8]
  have e27 : runB.sl.r_27 c arg1 harg1 arg3 harg3 arg5 harg5 arg7 harg7 arg8 harg8 b = (k0_pay26 b.bd1 (k0_pay7 b.fts1 b.x2 b.x7)) := by
    unfold runB.sl.r_27
    rw [e4, e8]
  have e28 : runB.sl.r_28 c arg1 harg1 arg3 harg3 arg5 harg5 arg7 harg7 arg8 harg8 b = (k0_pay27 b.bd1 (k0_pay7 b.fts1 b.x2 b.x7)) := by
    unfold runB.sl.r_28
    rw [e4, e8]
  have e29 : runB.sl.r_29 c arg1 harg1 arg3 harg3 arg5 harg5 arg7 harg7 arg8 harg8 b = (k0_pay28 b.bd1 (k0_pay7 b.fts1 b.x2 b.x7)) := by
    unfold runB.sl.r_29
    rw [e4, e8]
  have e30 : runB.sl.r_30 c arg1 harg1 arg3 harg3 arg5 harg5 arg7 harg7 arg8 harg8 b = (k0_pay29 b.bd1 (k0_pay7 b.fts1 b.x2 b.x7)) := by
    unfold runB.sl.r_30
    rw [e4, e8]
  have e31 : runB.sl.r_31 c arg1 harg1 arg3 harg3 arg5 harg5 arg7 harg7 arg8 harg8 b = (k0_pay30 b.bd1 (k0_pay7 b.fts1 b.x2 b.x7)) := by
    unfold runB.sl.r_31
    rw [e4, e8]
  have e32 : runB.sl.r_32 c arg1 harg1 arg3 harg3 arg5 harg5 arg7 harg7 arg8 harg8 b = (k0_pay31 b.bd1 (k0_pay7 b.fts1 b.x2 b.x7)) := by
    unfold runB.sl.r_32
    rw [e4, e8]
  have e33 : runB.sl.r_33 c arg5 harg5 b = (k0_pay32 b.bd1) := by
    unfold runB.sl.r_33
    rw [e4]
  have e34 : runB.sl.r_34 c arg1 harg1 arg3 harg3 arg5 harg5 arg7 harg7 arg8 harg8 arg9 harg9 arg10 harg10 b = b.h13 := by
    unfold runB.sl.r_34 Blk.h13
    rw [e0, e4, e8, e10, e11, e12, e13, e14, e15, e16, e18, e19, e20, e21, e22, e23, e24, e25, e26, e27, e28, e29, e30, e31, e32, e33, hx8]
  have e35 : runB.sl.r_35 c arg2 harg2 arg4 harg4 arg6 harg6 arg7 harg7 arg8 harg8 b = (k0_pay34 b.bd2 b.fts24) := by
    unfold runB.sl.r_35
    rw [e5, e9]
  have e36 : runB.sl.r_36 c arg2 harg2 arg4 harg4 arg6 harg6 arg7 harg7 arg8 harg8 b = (k0_pay35 b.bd2 b.fts24) := by
    unfold runB.sl.r_36
    rw [e5, e9]
  have e37 : runB.sl.r_37 c arg6 harg6 b = (k0_pay36 b.bd2) := by
    unfold runB.sl.r_37
    rw [e5]
  have e38 : runB.sl.r_38 c arg2 harg2 arg4 harg4 arg7 harg7 arg8 harg8 b = (k0_pay37 b.fts24) := by
    unfold runB.sl.r_38
    rw [e9]
  have e39 : runB.sl.r_39 c arg2 harg2 arg4 harg4 arg6 harg6 arg7 harg7 arg8 harg8 b = (k0_pay38 (k0_pay36 b.bd2) (k0_pay37 b.fts24) (constant S128x128 .f32 0x00000000#32)) := by
    unfold runB.sl.r_39 runB.sl.cst_77
    rw [e37, e38]
  have e40 : runB.sl.r_40 c arg2 harg2 arg4 harg4 arg6 harg6 arg7 harg7 arg8 harg8 b = (k0_pay39 b.bd2 b.fts24) := by
    unfold runB.sl.r_40
    rw [e5, e9]
  have e41 : runB.sl.r_41 c arg2 harg2 arg4 harg4 arg6 harg6 arg7 harg7 arg8 harg8 b = (k0_pay40 b.bd2 b.fts24) := by
    unfold runB.sl.r_41
    rw [e5, e9]
  have e42 : runB.sl.r_42 c arg2 harg2 arg4 harg4 arg6 harg6 arg7 harg7 arg8 harg8 b = (k0_pay41 b.bd2 b.fts24) := by
    unfold runB.sl.r_42
    rw [e5, e9]
  have e43 : runB.sl.r_43 c arg2 harg2 arg4 harg4 arg6 harg6 arg7 harg7 arg8 harg8 b = (k0_pay42 b.bd2 b.fts24) := by
    unfold runB.sl.r_43
    rw [e5, e9]
  have e44 : runB.sl.r_44 c arg2 harg2 arg4 harg4 arg6 harg6 arg7 harg7 arg8 harg8 b = (k0_pay43 b.bd2 b.fts24) := by
    unfold runB.sl.r_44
    rw [e5, e9]
  have e45 : runB.sl.r_45 c arg2 harg2 arg4 harg4 arg6 harg6 arg7 harg7 arg8 harg8 b = (k0_pay44 b.bd2 b.fts24) := by
    unfold runB.sl.r_45
    rw [e5, e9]
  have e46 : runB.sl.r_46 c arg2 harg2 arg4 harg4 arg6 harg6 arg7 harg7 arg8 harg8 b = (k0_pay45 b.bd2 b.fts24) := by
    unfold runB.sl.r_46
    rw [e5, e9]
  have e47 : runB.sl.r_47 c arg2 harg2 arg4 harg4 arg6 harg6 arg7 harg7 arg8 harg8 b = (k0_pay46 b.bd2 b.fts24) := by
    unfold runB.sl.r_47
    rw [e5, e9]
  have e48 : runB.sl.r_48 c arg2 harg2 arg4 harg4 arg6 harg6 arg7 harg7 arg8 harg8 b = (k0_pay47 b.bd2 b.fts24) := by
    unfold runB.sl.r_48
    rw [e5, e9]
  have e49 : runB.sl.r_49 c arg2 harg2 arg4 harg4 arg6 harg6 arg7 harg7 arg8 harg8 b = (k0_pay48 b.bd2 b.fts24) := by
    unfold runB.sl.r_49
    rw [e5, e9]
  have e50 : runB.sl.r_50 c arg2 harg2 arg4 harg4 arg6 harg6 arg7 harg7 arg8 harg8 b = (k0_pay49 b.bd2 b.fts24) := by
    unfold runB.sl.r_50
    rw [e5, e9]
  have e51 : runB.sl.r_51 c arg2 harg2 arg4 harg4 arg6 harg6 arg7 harg7 arg8 harg8 b = (k0_pay50 b.bd2 b.fts24) := by
    unfold runB.sl.r_51
    rw [e5, e9]
  have e52 : runB.sl.r_52 c arg2 harg2 arg4 harg4 arg6 harg6 arg7 harg7 arg8 harg8 b = (k0_pay51 b.bd2 b.fts24) := by
    unfold runB.sl.r_52
    rw [e5, e9]
  have e53 : runB.sl.r_53 c arg2 harg2 arg4 harg4 arg6 harg6 arg7 harg7 arg8 harg8 b = (k0_pay52 b.bd2 b.fts24) := by
    unfold runB.sl.r_53
    rw [e5, e9]
  have e54 : runB.sl.r_54 c arg6 harg6 b = (k0_pay53 b.bd2) := by
    unfold runB.sl.r_54
    rw [e5]
  have e55 : runB.sl.r_55 c arg2 harg2 arg4 harg4 arg7 harg7 arg8 harg8 b = (k0_pay54 b.fts24) := by
    unfold runB.sl.r_55
    rw [e9]
  have e56 : runB.sl.r_56 c arg2 harg2 arg4 harg4 arg6 harg6 arg7 harg7 arg8 harg8 b = b.agg24 := by
    unfold runB.sl.r_56 Blk.agg24 runB.sl.cst_77
    rw [e5, e9, e35, e36, e39, e40, e41, e42, e43, e44, e45, e46, e47, e48, e49, e50, e51, e52, e53, e54, e55]
  have e57 : runB.sl.r_57 c arg1 harg1 arg3 harg3 arg5 harg5 arg7 harg7 arg8 harg8 arg9 harg9 arg10 harg10 b = (k0_pay56 b.h13) := by
    unfold runB.sl.r_57
    rw [e34]
  have e58 : runB.sl.r_58 c arg2 harg2 arg4 harg4 arg6 harg6 arg7 harg7 arg8 harg8 arg9 harg9 arg10 harg10 b = b.hb24 := by
    unfold runB.sl.r_58 Blk.hb24
    rw [e0, e56, hx8]
  have e59 : runB.sl.r_59 c arg18 harg18 b = (k0_pay58 b.x17) := by
    unfold runB.sl.r_59
    rw [hx17]
  have e60 : runB.sl.r_60 c arg1 harg1 arg3 harg3 arg5 harg5 arg7 harg7 arg8 harg8 arg9 harg9 arg10 harg10 arg18 harg18 b = (k0_pay59 b.h13 b.x17) := by
    unfold runB.sl.r_60
    rw [e34, hx17]
  have e61 : runB.sl.r_61 c arg1 harg1 arg3 harg3 arg5 harg5 arg7 harg7 arg8 harg8 arg9 harg9 arg10 harg10 arg18 harg18 b = (k0_pay60 b.h13 b.x17) := by
    unfold runB.sl.r_61
    rw [e34, hx17]
  have e62 : runB.sl.r_62 c arg1 harg1 arg3 harg3 arg5 harg5 arg7 harg7 arg8 harg8 arg9 harg9 arg10 harg10 arg18 harg18 b = (k0_pay61 b.h13 b.x17) := by
    unfold runB.sl.r_62
    rw [e34, hx17]
  have e63 : runB.sl.r_63 c arg1 harg1 arg3 harg3 arg5 harg5 arg7 harg7 arg8 harg8 arg9 harg9 arg10 harg10 arg18 harg18 b = (k0_pay62 b.h13 b.x17) := by
    unfold runB.sl.r_63
    rw [e34, hx17]
  have e64 : runB.sl.r_64 c arg1 harg1 arg3 harg3 arg5 harg5 arg7 harg7 arg8 harg8 arg9 harg9 arg10 harg10 arg18 harg18 b = (k0_pay63 b.h13 b.x17) := by
    unfold runB.sl.r_64
    rw [e34, hx17]
  have e65 : runB.sl.r_65 c arg1 harg1 arg3 harg3 arg5 harg5 arg7 harg7 arg8 harg8 arg9 harg9 arg10 harg10 arg18 harg18 b = (k0_pay64 b.h13 b.x17) := by
    unfold runB.sl.r_65
    rw [e34, hx17]
  have e66 : runB.sl.r_66 c arg1 harg1 arg3 harg3 arg5 harg5 arg7 harg7 arg8 harg8 arg9 harg9 arg10 harg10 arg18 harg18 b = (k0_pay65 b.h13 b.x17) := by
    unfold runB.sl.r_66
    rw [e34, hx17]
  have e67 : runB.sl.r_67 c arg1 harg1 arg3 harg3 arg5 harg5 arg7 harg7 arg8 harg8 arg9 harg9 arg10 harg10 arg18 harg18 b = (k0_pay66 b.h13 b.x17) := by
    unfold runB.sl.r_67
    rw [e34, hx17]
  have e68 : runB.sl.r_68 c arg1 harg1 arg3 harg3 arg5 harg5 arg7 harg7 arg8 harg8 arg9 harg9 arg10 harg10 arg18 harg18 b = (k0_pay67 b.h13 b.x17) := by
    unfold runB.sl.r_68
    rw [e34, hx17]
  have e69 : runB.sl.r_69 c arg1 harg1 arg3 harg3 arg5 harg5 arg7 harg7 arg8 harg8 arg9 harg9 arg10 harg10 arg18 harg18 b = (k0_pay68 b.h13 b.x17) := by
    unfold runB.sl.r_69
    rw [e34, hx17]
  have e70 : runB.sl.r_70 c arg1 harg1 arg3 harg3 arg5 harg5 arg7 harg7 arg8 harg8 arg9 harg9 arg10 harg10 arg18 harg18 b = (k0_pay69 b.h13 b.x17) := by
    unfold runB.sl.r_70
    rw [e34, hx17]
  have e71 : runB.sl.r_71 c arg1 harg1 arg3 harg3 arg5 harg5 arg7 harg7 arg8 harg8 arg9 harg9 arg10 harg10 arg18 harg18 b = (k0_pay70 b.h13 b.x17) := by
    unfold runB.sl.r_71
    rw [e34, hx17]
  have e72 : runB.sl.r_72 c arg1 harg1 arg3 harg3 arg5 harg5 arg7 harg7 arg8 harg8 arg9 harg9 arg10 harg10 arg18 harg18 b = (k0_pay71 b.h13 b.x17) := by
    unfold runB.sl.r_72
    rw [e34, hx17]
  have e73 : runB.sl.r_73 c arg1 harg1 arg3 harg3 arg5 harg5 arg7 harg7 arg8 harg8 arg9 harg9 arg10 harg10 arg18 harg18 b = (k0_pay72 b.h13 b.x17) := by
    unfold runB.sl.r_73
    rw [e34, hx17]
  have e74 : runB.sl.r_74 c arg1 harg1 arg3 harg3 arg5 harg5 arg7 harg7 arg8 harg8 arg9 harg9 arg10 harg10 arg18 harg18 b = (k0_pay73 b.h13 b.x17) := by
    unfold runB.sl.r_74
    rw [e34, hx17]
  have e75 : runB.sl.r_75 c arg1 harg1 arg3 harg3 arg5 harg5 arg7 harg7 arg8 harg8 arg9 harg9 arg10 harg10 b = (k0_pay74 b.h13) := by
    unfold runB.sl.r_75
    rw [e34]
  have e76 : runB.sl.r_76 c arg1 harg1 arg3 harg3 arg5 harg5 arg7 harg7 arg8 harg8 arg9 harg9 arg10 harg10 arg18 harg18 b = (k0_pay75 (k0_pay58 b.x17) (k0_pay74 b.h13) (constant S32x128 .f32 0x00000000#32)) := by
    unfold runB.sl.r_76 runB.sl.cst_126
    rw [e59, e75]
  have e77 : runB.sl.r_77 c arg1 harg1 arg3 harg3 arg5 harg5 arg7 harg7 arg8 harg8 arg9 harg9 arg10 harg10 arg18 harg18 b = (k0_pay76 (k0_pay56 b.h13) (k0_pay58 b.x17)) := by
    unfold runB.sl.r_77
    rw [e57, e59]
  have e78 : runB.sl.r_78 c arg1 harg1 arg3 harg3 arg5 harg5 arg7 harg7 arg8 harg8 arg9 harg9 arg10 harg10 arg18 harg18 b = (k0_pay77 (k0_pay56 b.h13) (k0_pay58 b.x17)) := by
    unfold runB.sl.r_78
    rw [e57, e59]
  have e79 : runB.sl.r_79 c arg1 harg1 arg3 harg3 arg5 harg5 arg7 harg7 arg8 harg8 arg9 harg9 arg10 harg10 arg18 harg18 b = (k0_pay78 (k0_pay56 b.h13) (k0_pay58 b.x17)) := by
    unfold runB.sl.r_79
    rw [e57, e59]
  have e80 : runB.sl.r_80 c arg1 harg1 arg3 harg3 arg5 harg5 arg7 harg7 arg8 harg8 arg9 harg9 arg10 harg10 arg18 harg18 b = (k0_pay79 (k0_pay56 b.h13) (k0_pay58 b.x17)) := by
    unfold runB.sl.r_80
    rw [e57, e59]
  have e81 : runB.sl.r_81 c arg1 harg1 arg3 harg3 arg5 harg5 arg7 harg7 arg8 harg8 arg9 harg9 arg10 harg10 arg18 harg18 b = (k0_pay80 (k0_pay56 b.h13) (k0_pay58 b.x17)) := by
    unfold runB.sl.r_81
    rw [e57, e59]
  have e82 : runB.sl.r_82 c arg1 harg1 arg3 harg3 arg5 harg5 arg7 harg7 arg8 harg8 arg9 harg9 arg10 harg10 arg18 harg18 b = (k0_pay81 (k0_pay56 b.h13) (k0_pay58 b.x17)) := by
    unfold runB.sl.r_82
    rw [e57, e59]
  have e83 : runB.sl.r_83 c arg1 harg1 arg3 harg3 arg5 harg5 arg7 harg7 arg8 harg8 arg9 harg9 arg10 harg10 arg18 harg18 b = (k0_pay82 (k0_pay56 b.h13) (k0_pay58 b.x17)) := by
    unfold runB.sl.r_83
    rw [e57, e59]
  have e84 : runB.sl.r_84 c arg1 harg1 arg3 harg3 arg5 harg5 arg7 harg7 arg8 harg8 arg9 harg9 arg10 harg10 arg18 harg18 b = (k0_pay83 (k0_pay56 b.h13) (k0_pay58 b.x17)) := by
    unfold runB.sl.r_84
    rw [e57, e59]
  have e85 : runB.sl.r_85 c arg1 harg1 arg3 harg3 arg5 harg5 arg7 harg7 arg8 harg8 arg9 harg9 arg10 harg10 arg18 harg18 b = (k0_pay84 (k0_pay56 b.h13) (k0_pay58 b.x17)) := by
    unfold runB.sl.r_85
    rw [e57, e59]
  have e86 : runB.sl.r_86 c arg1 harg1 arg3 harg3 arg5 harg5 arg7 harg7 arg8 harg8 arg9 harg9 arg10 harg10 arg18 harg18 b = (k0_pay85 (k0_pay56 b.h13) (k0_pay58 b.x17)) := by
    unfold runB.sl.r_86
    rw [e57, e59]
  have e87 : runB.sl.r_87 c arg1 harg1 arg3 harg3 arg5 harg5 arg7 harg7 arg8 harg8 arg9 harg9 arg10 harg10 arg18 harg18 b = (k0_pay86 (k0_pay56 b.h13) (k0_pay58 b.x17)) := by
    unfold runB.sl.r_87
    rw [e57, e59]
  have e88 : runB.sl.r_88 c arg1 harg1 arg3 harg3 arg5 harg5 arg7 harg7 arg8 harg8 arg9 harg9 arg10 harg10 arg18 harg18 b = (k0_pay87 (k0_pay56 b.h13) (k0_pay58 b.x17)) := by
    unfold runB.sl.r_88
    rw [e57, e59]
  have e89 : runB.sl.r_89 c arg1 harg1 arg3 harg3 arg5 harg5 arg7 harg7 arg8 harg8 arg9 harg9 arg10 harg10 arg18 harg18 b = (k0_pay88 (k0_pay56 b.h13) (k0_pay58 b.x17)) := by
    unfold runB.sl.r_89
    rw [e57, e59]
  have e90 : runB.sl.r_90 c arg1 harg1 arg3 harg3 arg5 harg5 arg7 harg7 arg8 harg8 arg9 harg9 arg10 harg10 arg18 harg18 b = (k0_pay89 (k0_pay56 b.h13) (k0_pay58 b.x17)) := by
    unfold runB.sl.r_90
    rw [e57, e59]
  have e91 : runB.sl.r_91 c arg1 harg1 arg3 harg3 arg5 harg5 arg7 harg7 arg8 harg8 arg9 harg9 arg10 harg10 arg18 harg18 b = (k0_pay90 (k0_pay56 b.h13) (k0_pay58 b.x17)) := by
    unfold runB.sl.r_91
    rw [e57, e59]
  have e92 : runB.sl.r_92 c arg1 harg1 arg3 harg3 arg5 harg5 arg7 harg7 arg8 harg8 arg9 harg9 arg10 harg10 arg18 harg18 b = (k0_pay91 (k0_pay56 b.h13) (k0_pay58 b.x17)) := by
    unfold runB.sl.r_92
    rw [e57, e59]
  have e93 : runB.sl.r_93 c arg1 harg1 arg3 harg3 arg5 harg5 arg7 harg7 arg8 harg8 arg9 harg9 arg10 harg10 arg18 harg18 b = (k0_pay92 (k0_pay59 b.h13 b.x17)) := by
    unfold runB.sl.r_93
    rw [e60]
  have e94 : runB.sl.r_94 c arg1 harg1 arg3 harg3 arg5 harg5 arg7 harg7 arg8 harg8 arg9 harg9 arg10 harg10 arg18 harg18 b = (k0_pay93 (k0_pay60 b.h13 b.x17)) := by
    unfold runB.sl.r_94
    rw [e61]
  have e95 : runB.sl.r_95 c arg1 harg1 arg3 harg3 arg5 harg5 arg7 harg7 arg8 harg8 arg9 harg9 arg10 harg10 arg18 harg18 b = (k0_pay94 (k0_pay61 b.h13 b.x17)) := by
    unfold runB.sl.r_95
    rw [e62]
  have e96 : runB.sl.r_96 c arg1 harg1 arg3 harg3 arg5 harg5 arg7 harg7 arg8 harg8 arg9 harg9 arg10 harg10 arg18 harg18 b = (k0_pay95 (k0_pay62 b.h13 b.x17)) := by
    unfold runB.sl.r_96
    rw [e63]
  have e97 : runB.sl.r_97 c arg1 harg1 arg3 harg3 arg5 harg5 arg7 harg7 arg8 harg8 arg9 harg9 arg10 harg10 arg18 harg18 b = (k0_pay96 (k0_pay63 b.h13 b.x17)) := by
    unfold runB.sl.r_97
    rw [e64]
  have e98 : runB.sl.r_98 c arg1 harg1 arg3 harg3 arg5 harg5 arg7 harg7 arg8 harg8 arg9 harg9 arg10 harg10 arg18 harg18 b = (k0_pay97 (k0_pay64 b.h13 b.x17)) := by
    unfold runB.sl.r_98
    rw [e65]
  have e99 : runB.sl.r_99 c arg1 harg1 arg3 harg3 arg5 harg5 arg7 harg7 arg8 harg8 arg9 harg9 arg10 harg10 arg18 harg18 b = (k0_pay98 (k0_pay65 b.h13 b.x17)) := by
    unfold runB.sl.r_99
    rw [e66]
  have e100 : runB.sl.r_100 c arg1 harg1 arg3 harg3 arg5 harg5 arg7 harg7 arg8 harg8 arg9 harg9 arg10 harg10 arg18 harg18 b = (k0_pay99 (k0_pay66 b.h13 b.x17)) := by
    unfold runB.sl.r_100
    rw [e67]
  have e101 : runB.sl.r_101 c arg1 harg1 arg3 harg3 arg5 harg5 arg7 harg7 arg8 harg8 arg9 harg9 arg10 harg10 arg18 harg18 b = (k0_pay100 (k0_pay67 b.h13 b.x17)) := by
    unfold runB.sl.r_101
    rw [e68]
  have e102 : runB.sl.r_102 c arg1 harg1 arg3 harg3 arg5 harg5 arg7 harg7 arg8 harg8 arg9 harg9 arg10 harg10 arg18 harg18 b = (k0_pay101 (k0_pay68 b.h13 b.x17)) := by
    unfold runB.sl.r_102
    rw [e69]
  have e103 : runB.sl.r_103 c arg1 harg1 arg3 harg3 arg5 harg5 arg7 harg7 arg8 harg8 arg9 harg9 arg10 harg10 arg18 harg18 b = (k0_pay102 (k0_pay69 b.h13 b.x17)) := by
    unfold runB.sl.r_103
    rw [e70]
  have e104 : runB.sl.r_104 c arg1 harg1 arg3 harg3 arg5 harg5 arg7 harg7 arg8 harg8 arg9 harg9 arg10 harg10 arg18 harg18 b = b.sum13 := by
    unfold runB.sl.r_104 Blk.sum13
    rw [e71, e72, e73, e74, e76, e77, e78, e79, e80, e81, e82, e83, e84, e85, e86, e87, e88, e89, e90, e91, e92, e93, e94, e95, e96, e97, e98, e99, e100, e101, e102, e103]
  have e105 : runB.sl.r_105 c arg1 harg1 arg3 harg3 arg5 harg5 arg7 harg7 arg8 harg8 arg9 harg9 arg10 harg10 arg18 harg18 b = b.hm13 := by
    unfold runB.sl.r_105 Blk.hm13
    rw [e60, e61, e62, e63, e64, e65, e66, e67, e68, e69, e70, e71, e72, e73, e74, e76, e77, e78, e79, e80, e81, e82, e83, e84, e85, e86, e87, e88, e89, e90, e91, e92]
  have e106 : runB.sl.r_106 c arg2 harg2 arg4 harg4 arg6 harg6 arg7 harg7 arg8 harg8 arg9 harg9 arg10 harg10 arg18 harg18 b = (k0_pay105 b.hb24 (k0_pay58 b.x17)) := by
    unfold runB.sl.r_106
    rw [e58, e59]
  have e107 : runB.sl.r_107 c arg2 harg2 arg4 harg4 arg6 harg6 arg7 harg7 arg8 harg8 arg9 harg9 arg10 harg10 b = (k0_pay106 b.hb24) := by
    unfold runB.sl.r_107
    rw [e58]
  have e108 : runB.sl.r_108 c arg2 harg2 arg4 harg4 arg6 harg6 arg7 harg7 arg8 harg8 arg9 harg9 arg10 harg10 arg18 harg18 b = (k0_pay107 (k0_pay58 b.x17) (k0_pay106 b.hb24) (constant S32x128 .f32 0x00000000#32)) := by
    unfold runB.sl.r_108 runB.sl.cst_126
    rw [e59, e107]
  have e109 : runB.sl.r_109 c arg2 harg2 arg4 harg4 arg6 harg6 arg7 harg7 arg8 harg8 arg9 harg9 arg10 harg10 arg18 harg18 b = (k0_pay108 b.hb24 (k0_pay58 b.x17)) := by
    unfold runB.sl.r_109
    rw [e58, e59]
  have e110 : runB.sl.r_110 c arg2 harg2 arg4 harg4 arg6 harg6 arg7 harg7 arg8 harg8 arg9 harg9 arg10 harg10 arg18 harg18 b = (k0_pay109 b.hb24 (k0_pay58 b.x17)) := by
    unfold runB.sl.r_110
    rw [e58, e59]
  have e111 : runB.sl.r_111 c arg2 harg2 arg4 harg4 arg6 harg6 arg7 harg7 arg8 harg8 arg9 harg9 arg10 harg10 arg18 harg18 b = (k0_pay110 b.hb24 (k0_pay58 b.x17)) := by
    unfold runB.sl.r_111
    rw [e58, e59]
  have e112 : runB.sl.r_112 c arg2 harg2 arg4 harg4 arg6 harg6 arg7 harg7 arg8 harg8 arg9 harg9 arg10 harg10 arg18 harg18 b = (k0_pay111 b.hb24 (k0_pay58 b.x17)) := by
    unfold runB.sl.r_112
    rw [e58, e59]
  have e113 : runB.sl.r_113 c arg2 harg2 arg4 harg4 arg6 harg6 arg7 harg7 arg8 harg8 arg9 harg9 arg10 harg10 arg18 harg18 b = (k0_pay112 b.hb24 (k0_pay58 b.x17)) := by
    unfold runB.sl.r_113
    rw [e58, e59]
  have e114 : runB.sl.r_114 c arg2 harg2 arg4 harg4 arg6 harg6 arg7 harg7 arg8 harg8 arg9 harg9 arg10 harg10 arg18 harg18 b = (k0_pay113 b.hb24 (k0_pay58 b.x17)) := by
    unfold runB.sl.r_114
    rw [e58, e59]
  have e115 : runB.sl.r_115 c arg2 harg2 arg4 harg4 arg6 harg6 arg7 harg7 arg8 harg8 arg9 harg9 arg10 harg10 arg18 harg18 b = (k0_pay114 b.hb24 (k0_pay58 b.x17)) := by
    unfold runB.sl.r_115
    rw [e58, e59]
  have e116 : runB.sl.r_116 c arg2 harg2 arg4 harg4 arg6 harg6 arg7 harg7 arg8 harg8 arg9 harg9 arg10 harg10 arg18 harg18 b = (k0_pay115 b.hb24 (k0_pay58 b.x17)) := by
    unfold runB.sl.r_116
    rw [e58, e59]
  have e117 : runB.sl.r_117 c arg2 harg2 arg4 harg4 arg6 harg6 arg7 harg7 arg8 harg8 arg9 harg9 arg10 harg10 arg18 harg18 b = (k0_pay116 b.hb24 (k0_pay58 b.x17)) := by
    unfold runB.sl.r_117
    rw [e58, e59]
  have e118 : runB.sl.r_118 c arg2 harg2 arg4 harg4 arg6 harg6 arg7 harg7 arg8 harg8 arg9 harg9 arg10 harg10 arg18 harg18 b = (k0_pay117 b.hb24 (k0_pay58 b.x17)) := by
    unfold runB.sl.r_118
    rw [e58, e59]
  have e119 : runB.sl.r_119 c arg2 harg2 arg4 harg4 arg6 harg6 arg7 harg7 arg8 harg8 arg9 harg9 arg10 harg10 arg18 harg18 b = (k0_pay118 b.hb24 (k0_pay58 b.x17)) := by
    unfold runB.sl.r_119
    rw [e58, e59]
  have e120 : runB.sl.r_120 c arg2 harg2 arg4 harg4 arg6 harg6 arg7 harg7 arg8 harg8 arg9 harg9 arg10 harg10 arg18 harg18 b = (k0_pay119 b.hb24 (k0_pay58 b.x17)) := by
    unfold runB.sl.r_120
    rw [e58, e59]
  have e121 : runB.sl.r_121 c arg2 harg2 arg4 harg4 arg6 harg6 arg7 harg7 arg8 harg8 arg9 harg9 arg10 harg10 arg18 harg18 b = (k0_pay120 b.hb24 (k0_pay58 b.x17)) := by
    unfold runB.sl.r_121
    rw [e58, e59]
  have e122 : runB.sl.r_122 c arg2 harg2 arg4 harg4 arg6 harg6 arg7 harg7 arg8 harg8 arg9 harg9 arg10 harg10 arg18 harg18 b = (k0_pay121 b.hb24 (k0_pay58 b.x17)) := by
    unfold runB.sl.r_122
    rw [e58, e59]
  have e123 : runB.sl.r_123 c arg2 harg2 arg4 harg4 arg6 harg6 arg7 harg7 arg8 harg8 arg9 harg9 arg10 harg10 arg18 harg18 b = (k0_pay122 b.hb24 (k0_pay58 b.x17)) := by
    unfold runB.sl.r_123
    rw [e58, e59]
  have e124 : runB.sl.r_124 c arg2 harg2 arg4 harg4 arg6 harg6 arg7 harg7 arg8 harg8 arg9 harg9 arg10 harg10 arg18 harg18 b = (k0_pay123 b.hb24 (k0_pay58 b.x17)) := by
    unfold runB.sl.r_124
    rw [e58, e59]
  have e125 : runB.sl.r_125 c arg2 harg2 arg4 harg4 arg6 harg6 arg7 harg7 arg8 harg8 arg9 harg9 arg10 harg10 arg18 harg18 b = (k0_pay124 b.hb24 (k0_pay58 b.x17)) := by
    unfold runB.sl.r_125
    rw [e58, e59]
  have e126 : runB.sl.r_126 c arg2 harg2 arg4 harg4 arg6 harg6 arg7 harg7 arg8 harg8 arg9 harg9 arg10 harg10 arg18 harg18 b = (k0_pay125 b.hb24 (k0_pay58 b.x17)) := by
    unfold runB.sl.r_126
    rw [e58, e59]
  have e127 : runB.sl.r_127 c arg2 harg2 arg4 harg4 arg6 harg6 arg7 harg7 arg8 harg8 arg9 harg9 arg10 harg10 arg18 harg18 b = (k0_pay126 b.hb24 (k0_pay58 b.x17)) := by
    unfold runB.sl.r_127
    rw [e58, e59]
  have e128 : runB.sl.r_128 c arg2 harg2 arg4 harg4 arg6 harg6 arg7 harg7 arg8 harg8 arg9 harg9 arg10 harg10 b = (k0_pay127 b.hb24) := by
    unfold runB.sl.r_128
    rw [e58]
  have e129 : runB.sl.r_129 c arg2 harg2 arg4 harg4 arg6 harg6 arg7 harg7 arg8 harg8 arg9 harg9 arg10 harg10 arg18 harg18 b = (k0_pay128 (k0_pay58 b.x17) (k0_pay127 b.hb24) (constant S32x128 .f32 0x00000000#32)) := by
    unfold runB.sl.r_129 runB.sl.cst_126
    rw [e59, e128]
  have e130 : runB.sl.r_130 c arg2 harg2 arg4 harg4 arg6 harg6 arg7 harg7 arg8 harg8 arg9 harg9 arg10 harg10 arg18 harg18 b = (k0_pay129 b.hb24 (k0_pay58 b.x17)) := by
    unfold runB.sl.r_130
    rw [e58, e59]
  have e131 : runB.sl.r_131 c arg2 harg2 arg4 harg4 arg6 harg6 arg7 harg7 arg8 harg8 arg9 harg9 arg10 harg10 arg18 harg18 b = (k0_pay130 b.hb24 (k0_pay58 b.x17)) := by
    unfold runB.sl.r_131
    rw [e58, e59]
  have e132 : runB.sl.r_132 c arg2 harg2 arg4 harg4 arg6 harg6 arg7 harg7 arg8 harg8 arg9 harg9 arg10 harg10 arg18 harg18 b = (k0_pay131 b.hb24 (k0_pay58 b.x17)) := by
    unfold runB.sl.r_132
    rw [e58, e59]
  have e133 : runB.sl.r_133 c arg2 harg2 arg4 harg4 arg6 harg6 arg7 harg7 arg8 harg8 arg9 harg9 arg10 harg10 arg18 harg18 b = (k0_pay132 b.hb24 (k0_pay58 b.x17)) := by
    unfold runB.sl.r_133
    rw [e58, e59]
  have e134 : runB.sl.r_134 c arg2 harg2 arg4 harg4 arg6 harg6 arg7 harg7 arg8 harg8 arg9 harg9 arg10 harg10 arg18 harg18 b = (k0_pay133 b.hb24 (k0_pay58 b.x17)) := by
    unfold runB.sl.r_134
    rw [e58, e59]
  have e135 : runB.sl.r_135 c arg2 harg2 arg4 harg4 arg6 harg6 arg7 harg7 arg8 harg8 arg9 harg9 arg10 harg10 arg18 harg18 b = (k0_pay134 b.hb24 (k0_pay58 b.x17)) := by
    unfold runB.sl.r_135
    rw [e58, e59]
  have e136 : runB.sl.r_136 c arg2 harg2 arg4 harg4 arg6 harg6 arg7 harg7 arg8 harg8 arg9 harg9 arg10 harg10 arg18 harg18 b = (k0_pay135 b.hb24 (k0_pay58 b.x17)) := by
    unfold runB.sl.r_136
    rw [e58, e59]
  have e137 : runB.sl.r_137 c arg2 harg2 arg4 harg4 arg6 harg6 arg7 harg7 arg8 harg8 arg9 harg9 arg10 harg10 arg18 harg18 b = (k0_pay136 b.hb24 (k0_pay58 b.x17)) := by
    unfold runB.sl.r_137
    rw [e58, e59]
  have e138 : runB.sl.r_138 c arg2 harg2 arg4 harg4 arg6 harg6 arg7 harg7 arg8 harg8 arg9 harg9 arg10 harg10 arg18 harg18 b = (k0_pay137 b.hb24 (k0_pay58 b.x17)) := by
    unfold runB.sl.r_138
    rw [e58, e59]
  have e139 : runB.sl.r_139 c arg2 harg2 arg4 harg4 arg6 harg6 arg7 harg7 arg8 harg8 arg9 harg9 arg10 harg10 arg18 harg18 b = (k0_pay138 b.hb24 (k0_pay58 b.x17)) := by
    unfold runB.sl.r_139
    rw [e58, e59]
  have e140 : runB.sl.r_140 c arg2 harg2 arg4 harg4 arg6 harg6 arg7 harg7 arg8 harg8 arg9 harg9 arg10 harg10 arg18 harg18 b = (k0_pay139 (k0_pay105 b.hb24 (k0_pay58 b.x17))) := by
    unfold runB.sl.r_140
    rw [e106]
  have e141 : runB.sl.r_141 c arg2 harg2 arg4 harg4 arg6 harg6 arg7 harg7 arg8 harg8 arg9 harg9 arg10 harg10 arg18 harg18 b = (k0_pay140 (k0_pay107 (k0_pay58 b.x17) (k0_pay106 b.hb24) (constant S32x128 .f32 0x00000000#32))) := by
    unfold runB.sl.r_141
    rw [e108]
  have e142 : runB.sl.r_142 c arg2 harg2 arg4 harg4 arg6 harg6 arg7 harg7 arg8 harg8 arg9 harg9 arg10 harg10 arg18 harg18 b = (k0_pay141 (k0_pay108 b.hb24 (k0_pay58 b.x17))) := by
    unfold runB.sl.r_142
    rw [e109]
  have e143 : runB.sl.r_143 c arg2 harg2 arg4 harg4 arg6 harg6 arg7 harg7 arg8 harg8 arg9 harg9 arg10 harg10 arg18 harg18 b = (k0_pay142 (k0_pay109 b.hb24 (k0_pay58 b.x17))) := by
    unfold runB.sl.r_143
    rw [e110]
  have e144 : runB.sl.r_144 c arg2 harg2 arg4 harg4 arg6 harg6 arg7 harg7 arg8 harg8 arg9 harg9 arg10 harg10 arg18 harg18 b = (k0_pay143 (k0_pay110 b.hb24 (k0_pay58 b.x17))) := by
    unfold runB.sl.r_144
    rw [e111]
  have e145 : runB.sl.r_145 c arg2 harg2 arg4 harg4 arg6 harg6 arg7 harg7 arg8 harg8 arg9 harg9 arg10 harg10 arg18 harg18 b = (k0_pay144 (k0_pay111 b.hb24 (k0_pay58 b.x17))) := by
    unfold runB.sl.r_145
    rw [e112]
  have e146 : runB.sl.r_146 c arg2 harg2 arg4 harg4 arg6 harg6 arg7 harg7 arg8 harg8 arg9 harg9 arg10 harg10 arg18 harg18 b = (k0_pay145 (k0_pay112 b.hb24 (k0_pay58 b.x17))) := by
    unfold runB.sl.r_146
    rw [e113]
  have e147 : runB.sl.r_147 c arg2 harg2 arg4 harg4 arg6 harg6 arg7 harg7 arg8 harg8 arg9 harg9 arg10 harg10 arg18 harg18 b = (k0_pay146 (k0_pay113 b.hb24 (k0_pay58 b.x17))) := by
    unfold runB.sl.r_147
    rw [e114]
  have e148 : runB.sl.r_148 c arg2 harg2 arg4 harg4 arg6 harg6 arg7 harg7 arg8 harg8 arg9 harg9 arg10 harg10 arg18 harg18 b = (k0_pay147 (k0_pay114 b.hb24 (k0_pay58 b.x17))) := by
    unfold runB.sl.r_148
    rw [e115]
  have e149 : runB.sl.r_149 c arg2 harg2 arg4 harg4 arg6 harg6 arg7 harg7 arg8 harg8 arg9 harg9 arg10 harg10 arg18 harg18 b = (k0_pay148 (k0_pay115 b.hb24 (k0_pay58 b.x17))) := by
    unfold runB.sl.r_149
    rw [e116]
  have e150 : runB.sl.r_150 c arg2 harg2 arg4 harg4 arg6 harg6 arg7 harg7 arg8 harg8 arg9 harg9 arg10 harg10 arg18 harg18 b = (k0_pay149 (k0_pay116 b.hb24 (k0_pay58 b.x17))) := by
    unfold runB.sl.r_150
    rw [e117]
  have e151 : runB.sl.r_151 c arg2 harg2 arg4 harg4 arg6 harg6 arg7 harg7 arg8 harg8 arg9 harg9 arg10 harg10 arg18 harg18 b = (k0_pay150 (k0_pay117 b.hb24 (k0_pay58 b.x17))) := by
    unfold runB.sl.r_151
    rw [e118]
  have e152 : runB.sl.r_152 c arg2 harg2 arg4 harg4 arg6 harg6 arg7 harg7 arg8 harg8 arg9 harg9 arg10 harg10 arg18 harg18 b = (k0_pay151 (k0_pay118 b.hb24 (k0_pay58 b.x17))) := by
    unfold runB.sl.r_152
    rw [e119]
  have e153 : runB.sl.r_153 c arg2 harg2 arg4 harg4 arg6 harg6 arg7 harg7 arg8 harg8 arg9 harg9 arg10 harg10 arg18 harg18 b = (k0_pay152 (k0_pay119 b.hb24 (k0_pay58 b.x17))) := by
    unfold runB.sl.r_153
    rw [e120]
  have e154 : runB.sl.r_154 c arg2 harg2 arg4 harg4 arg6 harg6 arg7 harg7 arg8 harg8 arg9 harg9 arg10 harg10 arg18 harg18 b = (k0_pay153 (k0_pay120 b.hb24 (k0_pay58 b.x17))) := by
    unfold runB.sl.r_154
    rw [e121]
  have e155 : runB.sl.r_155 c arg2 harg2 arg4 harg4 arg6 harg6 arg7 harg7 arg8 harg8 arg9 harg9 arg10 harg10 arg18 harg18 b = (k0_pay154 (k0_pay121 b.hb24 (k0_pay58 b.x17))) := by
    unfold runB.sl.r_155
    rw [e122]
  have e156 : runB.sl.r_156 c arg2 harg2 arg4 harg4 arg6 harg6 arg7 harg7 arg8 harg8 arg9 harg9 arg10 harg10 arg18 harg18 b = (k0_pay155 (k0_pay122 b.hb24 (k0_pay58 b.x17))) := by
    unfold runB.sl.r_156
    rw [e123]
  have e157 : runB.sl.r_157 c arg2 harg2 arg4 harg4 arg6 harg6 arg7 harg7 arg8 harg8 arg9 harg9 arg10 harg10 arg18 harg18 b = (k0_pay156 (k0_pay123 b.hb24 (k0_pay58 b.x17))) := by
    unfold runB.sl.r_157
    rw [e124]
  have e158 : runB.sl.r_158 c arg2 harg2 arg4 harg4 arg6 harg6 arg7 harg7 arg8 harg8 arg9 harg9 arg10 harg10 arg18 harg18 b = (k0_pay157 (k0_pay124 b.hb24 (k0_pay58 b.x17))) := by
    unfold runB.sl.r_158
    rw [e125]
  have e159 : runB.sl.r_159 c arg2 harg2 arg4 harg4 arg6 harg6 arg7 harg7 arg8 harg8 arg9 harg9 arg10 harg10 arg18 harg18 b = (k0_pay158 (k0_pay125 b.hb24 (k0_pay58 b.x17))) := by
    unfold runB.sl.r_159
    rw [e126]
  have e160 : runB.sl.r_160 c arg2 harg2 arg4 harg4 arg6 harg6 arg7 harg7 arg8 harg8 arg9 harg9 arg10 harg10 arg18 harg18 b = (k0_pay159 (k0_pay126 b.hb24 (k0_pay58 b.x17))) := by
    unfold runB.sl.r_160
    rw [e127]
  have e161 : runB.sl.r_161 c arg2 harg2 arg4 harg4 arg6 harg6 arg7 harg7 arg8 harg8 arg9 harg9 arg10 harg10 arg18 harg18 b = (k0_pay160 (k0_pay58 b.x17) (k0_pay127 b.hb24) (constant S32x128 .f32 0x00000000#32)) := by
    unfold runB.sl.r_161 runB.sl.cst_126
    rw [e59, e128]
  have e162 : runB.sl.r_162 c arg2 harg2 arg4 harg4 arg6 harg6 arg7 harg7 arg8 harg8 arg9 harg9 arg10 harg10 arg18 harg18 b = (k0_pay161 b.hb24 (k0_pay58 b.x17)) := by
    unfold runB.sl.r_162
    rw [e58, e59]
  have e163 : runB.sl.r_163 c arg2 harg2 arg4 harg4 arg6 harg6 arg7 harg7 arg8 harg8 arg9 harg9 arg10 harg10 arg18 harg18 b = (k0_pay162 b.hb24 (k0_pay58 b.x17)) := by
    unfold runB.sl.r_163
    rw [e58, e59]
  have e164 : runB.sl.r_164 c arg2 harg2 arg4 harg4 arg6 harg6 arg7 harg7 arg8 harg8 arg9 harg9 arg10 harg10 arg18 harg18 b = (k0_pay163 b.hb24 (k0_pay58 b.x17)) := by
    unfold runB.sl.r_164
    rw [e58, e59]
  have e165 : runB.sl.r_165 c arg2 harg2 arg4 harg4 arg6 harg6 arg7 harg7 arg8 harg8 arg9 harg9 arg10 harg10 arg18 harg18 b = (k0_pay164 b.hb24 (k0_pay58 b.x17)) := by
    unfold runB.sl.r_165
    rw [e58, e59]
  have e166 : runB.sl.r_166 c arg2 harg2 arg4 harg4 arg6 harg6 arg7 harg7 arg8 harg8 arg9 harg9 arg10 harg10 arg18 harg18 b = (k0_pay165 b.hb24 (k0_pay58 b.x17)) := by
    unfold runB.sl.r_166
    rw [e58, e59]
  have e167 : runB.sl.r_167 c arg2 harg2 arg4 harg4 arg6 harg6 arg7 harg7 arg8 harg8 arg9 harg9 arg10 harg10 arg18 harg18 b = (k0_pay166 b.hb24 (k0_pay58 b.x17)) := by
    unfold runB.sl.r_167
    rw [e58, e59]
  have e168 : runB.sl.r_168 c arg2 harg2 arg4 harg4 arg6 harg6 arg7 harg7 arg8 harg8 arg9 harg9 arg10 harg10 arg18 harg18 b = (k0_pay167 b.hb24 (k0_pay58 b.x17)) := by
    unfold runB.sl.r_168
    rw [e58, e59]
  have e169 : runB.sl.r_169 c arg1 harg1 arg3 harg3 arg5 harg5 arg7 harg7 arg8 harg8 arg9 harg9 arg10 harg10 arg18 harg18 b = b.cc13 := by
    unfold runB.sl.r_169 Blk.cc13
    rw [e104]
  have e170 : runB.sl.r_170 c arg2 harg2 arg4 harg4 arg6 harg6 arg7 harg7 arg8 harg8 arg9 harg9 arg10 harg10 arg18 harg18 b = b.cc24 := by
    unfold runB.sl.r_170 Blk.cc24
    rw [e137, e138, e139, e140, e141, e142, e143, e144, e145, e146, e147, e148, e149, e150, e151, e152, e153, e154, e155, e156, e157, e158, e159, e160, e161, e162, e163, e164, e165, e166, e167, e168]
  have e171 : runB.sl.r_171 c arg2 harg2 arg4 harg4 arg6 harg6 arg7 harg7 arg8 harg8 arg9 harg9 arg10 harg10 arg14 harg14 arg18 harg18 b = b.m2 := by
    unfold runB.sl.r_171 Blk.m2
    rw [e106, e108, e109, e110, e111, e112, e113, e114, e115, e116, e117, e118, e119, e120, e121, e122, e123, e124, e125, e126, e127, e129, e130, e131, e132, e133, e134, e135, e136, e137, e138, e139, hx13]
  have e172 : runB.sl.r_172 c arg1 harg1 arg3 harg3 arg5 harg5 arg7 harg7 arg8 harg8 arg9 harg9 arg10 harg10 arg16 harg16 arg18 harg18 b = b.m1 := by
    unfold runB.sl.r_172 Blk.m1
    rw [e105, hx15]
  have e173 : runB.sl.r_173 c arg15 harg15 arg17 harg17 b = b.hbias := by
    unfold runB.sl.r_173 Blk.hbias
    rw [e2, e3]
  have e174 : runB.sl.r_174 c arg1 harg1 arg2 harg2 arg3 harg3 arg4 harg4 arg5 harg5 arg6 harg6 arg7 harg7 arg8 harg8 arg9 harg9 arg10 harg10 arg14 harg14 arg18 harg18 b = (k0_pay173 b.sum13 (k0_pay105 b.hb24 (k0_pay58 b.x17)) (k0_pay107 (k0_pay58 b.x17) (k0_pay106 b.hb24) (constant S32x128 .f32 0x00000000#32)) (k0_pay108 b.hb24 (k0_pay58 b.x17)) (k0_pay109 b.hb24 (k0_pay58 b.x17)) (k0_pay110 b.hb24 (k0_pay58 b.x17)) (k0_pay111 b.hb24 (k0_pay58 b.x17)) (k0_pay112 b.hb24 (k0_pay58 b.x17)) (k0_pay113 b.hb24 (k0_pay58 b.x17)) (k0_pay114 b.hb24 (k0_pay58 b.x17)) (k0_pay115 b.hb24 (k0_pay58 b.x17)) (k0_pay116 b.hb24 (k0_pay58 b.x17)) (k0_pay117 b.hb24 (k0_pay58 b.x17)) (k0_pay118 b.hb24 (k0_pay58 b.x17)) (k0_pay119 b.hb24 (k0_pay58 b.x17)) (k0_pay120 b.hb24 (k0_pay58 b.x17)) (k0_pay121 b.hb24 (k0_pay58 b.x17)) (k0_pay122 b.hb24 (k0_pay58 b.x17)) (k0_pay123 b.hb24 (k0_pay58 b.x17)) (k0_pay124 b.hb24 (k0_pay58 b.x17)) (k0_pay125 b.hb24 (k0_pay58 b.x17)) (k0_pay126 b.hb24 (k0_pay58 b.x17)) (k0_pay128 (k0_pay58 b.x17) (k0_pay127 b.hb24) (constant S32x128 .f32 0x00000000#32)) (k0_pay129 b.hb24 (k0_pay58 b.x17)) (k0_pay130 b.hb24 (k0_pay58 b.x17)) (k0_pay131 b.hb24 (k0_pay58 b.x17)) (k0_pay132 b.hb24 (k0_pay58 b.x17)) (k0_pay133 b.hb24 (k0_pay58 b.x17)) (k0_pay134 b.hb24 (k0_pay58 b.x17)) (k0_pay135 b.hb24 (k0_pay58 b.x17)) (k0_pay136 b.hb24 (k0_pay58 b.x17)) (k0_pay137 b.hb24 (k0_pay58 b.x17)) (k0_pay138 b.hb24 (k0_pay58 b.x17)) b.x13) := by
    unfold runB.sl.r_174
    rw [e104, e106, e108, e109, e110, e111, e112, e113, e114, e115, e116, e117, e118, e119, e120, e121, e122, e123, e124, e125, e126, e127, e129, e130, e131, e132, e133, e134, e135, e136, e137, e138, e139, hx13]
  have e175 : runB.sl.r_175 c arg1 harg1 arg2 harg2 arg3 harg3 arg4 harg4 arg5 harg5 arg6 harg6 arg7 harg7 arg8 harg8 arg9 harg9 arg10 harg10 arg16 harg16 arg18 harg18 b = (k0_pay174 b.hm13 (k0_pay136 b.hb24 (k0_pay58 b.x17)) (k0_pay137 b.hb24 (k0_pay58 b.x17)) (k0_pay138 b.hb24 (k0_pay58 b.x17)) (k0_pay139 (k0_pay105 b.hb24 (k0_pay58 b.x17))) (k0_pay140 (k0_pay107 (k0_pay58 b.x17) (k0_pay106 b.hb24) (constant S32x128 .f32 0x00000000#32))) (k0_pay141 (k0_pay108 b.hb24 (k0_pay58 b.x17))) (k0_pay142 (k0_pay109 b.hb24 (k0_pay58 b.x17))) (k0_pay143 (k0_pay110 b.hb24 (k0_pay58 b.x17))) (k0_pay144 (k0_pay111 b.hb24 (k0_pay58 b.x17))) (k0_pay145 (k0_pay112 b.hb24 (k0_pay58 b.x17))) (k0_pay146 (k0_pay113 b.hb24 (k0_pay58 b.x17))) (k0_pay147 (k0_pay114 b.hb24 (k0_pay58 b.x17))) (k0_pay148 (k0_pay115 b.hb24 (k0_pay58 b.x17))) (k0_pay149 (k0_pay116 b.hb24 (k0_pay58 b.x17))) (k0_pay150 (k0_pay117 b.hb24 (k0_pay58 b.x17))) (k0_pay151 (k0_pay118 b.hb24 (k0_pay58 b.x17))) (k0_pay152 (k0_pay119 b.hb24 (k0_pay58 b.x17))) (k0_pay153 (k0_pay120 b.hb24 (k0_pay58 b.x17))) (k0_pay154 (k0_pay121 b.hb24 (k0_pay58 b.x17))) (k0_pay155 (k0_pay122 b.hb24 (k0_pay58 b.x17))) (k0_pay156 (k0_pay123 b.hb24 (k0_pay58 b.x17))) (k0_pay157 (k0_pay124 b.hb24 (k0_pay58 b.x17))) (k0_pay158 (k0_pay125 b.hb24 (k0_pay58 b.x17))) (k0_pay159 (k0_pay126 b.hb24 (k0_pay58 b.x17))) (k0_pay160 (k0_pay58 b.x17) (k0_pay127 b.hb24) (constant S32x128 .f32 0x00000000#32)) (k0_pay161 b.hb24 (k0_pay58 b.x17)) (k0_pay162 b.hb24 (k0_pay58 b.x17)) (k0_pay163 b.hb24 (k0_pay58 b.x17)) (k0_pay164 b.hb24 (k0_pay58 b.x17)) (k0_pay165 b.hb24 (k0_pay58 b.x17)) (k0_pay166 b.hb24 (k0_pay58 b.x17)) (k0_pay167 b.hb24 (k0_pay58 b.x17)) b.x15) := by
    unfold runB.sl.r_175
    rw [e105, e137, e138, e139, e140, e141, e142, e143, e144, e145, e146, e147, e148, e149, e150, e151, e152, e153, e154, e155, e156, e157, e158, e159, e160, e161, e162, e163, e164, e165, e166, e167, e168, hx15]
  have e176 : runB.sl.r_176 c arg2 harg2 arg4 harg4 arg6 harg6 arg7 harg7 arg8 harg8 arg9 harg9 arg10 harg10 arg18 harg18 b = (k0_pay180 b.cc24) := by
    unfold runB.sl.r_176
    rw [e170]
  have e177 : runB.sl.r_177 c arg1 harg1 arg3 harg3 arg5 harg5 arg7 harg7 arg8 harg8 arg9 harg9 arg10 harg10 arg11 harg11 b = b.ftsf1 := by
    unfold runB.sl.r_177 Blk.ftsf1
    rw [e57, hx10]
  have e178 : runB.sl.r_178 c arg2 harg2 arg4 harg4 arg6 harg6 arg7 harg7 arg8 harg8 arg9 harg9 arg10 harg10 arg11 harg11 b = b.ftsf2 := by
    unfold runB.sl.r_178 Blk.ftsf2
    rw [e58, hx10]
  have e179 : runB.sl.r_179 c arg12 harg12 b = b.bdec := by
    unfold runB.sl.r_179 Blk.bdec
    rw [hx11]
  have e180 : runB.sl.r_180 c arg1 harg1 arg3 harg3 arg5 harg5 arg7 harg7 arg8 harg8 arg9 harg9 arg10 harg10 arg11 harg11 b = (k0_pay186 b.bd1 (k0_pay56 b.h13) b.x10) := by
    unfold runB.sl.r_180
    rw [e4, e57, hx10]
  have e181 : runB.sl.r_181 c arg1 harg1 arg3 harg3 arg5 harg5 arg7 harg7 arg8 harg8 arg9 harg9 arg10 harg10 arg11 harg11 b = (k0_pay187 b.bd1 (k0_pay56 b.h13) b.x10) := by
    unfold runB.sl.r_181
    rw [e4, e57, hx10]
  have e182 : runB.sl.r_182 c arg1 harg1 arg3 harg3 arg5 harg5 arg7 harg7 arg8 harg8 arg9 harg9 arg10 harg10 arg11 harg11 b = (k0_pay188 b.bd1 (k0_pay56 b.h13) b.x10) := by
    unfold runB.sl.r_182
    rw [e4, e57, hx10]
  have e183 : runB.sl.r_183 c arg1 harg1 arg3 harg3 arg5 harg5 arg7 harg7 arg8 harg8 arg9 harg9 arg10 harg10 arg11 harg11 b = (k0_pay189 b.bd1 (k0_pay56 b.h13) b.x10) := by
    unfold runB.sl.r_183
    rw [e4, e57, hx10]
  have e184 : runB.sl.r_184 c arg1 harg1 arg3 harg3 arg5 harg5 arg7 harg7 arg8 harg8 arg9 harg9 arg10 harg10 arg11 harg11 b = (k0_pay190 b.bd1 (k0_pay56 b.h13) b.x10) := by
    unfold runB.sl.r_184
    rw [e4, e57, hx10]
  have e185 : runB.sl.r_185 c arg1 harg1 arg3 harg3 arg5 harg5 arg7 harg7 arg8 harg8 arg9 harg9 arg10 harg10 arg11 harg11 b = (k0_pay191 b.bd1 (k0_pay56 b.h13) b.x10) := by
    unfold runB.sl.r_185
    rw [e4, e57, hx10]
  have e186 : runB.sl.r_186 c arg1 harg1 arg3 harg3 arg5 harg5 arg7 harg7 arg8 harg8 arg9 harg9 arg10 harg10 arg11 harg11 b = (k0_pay192 b.bd1 (k0_pay56 b.h13) b.x10) := by
    unfold runB.sl.r_186
    rw [e4, e57, hx10]
  have e187 : runB.sl.r_187 c arg1 harg1 arg3 harg3 arg5 harg5 arg7 harg7 arg8 harg8 arg9 harg9 arg10 harg10 arg11 harg11 b = (k0_pay193 b.bd1 (k0_pay56 b.h13) b.x10) := by
    unfold runB.sl.r_187
    rw [e4, e57, hx10]
  have e188 : runB.sl.r_188 c arg5 harg5 b = (k0_pay194 b.bd1) := by
    unfold runB.sl.r_188
    rw [e4]
  have e189 : runB.sl.r_189 c arg1 harg1 arg3 harg3 arg5 harg5 arg7 harg7 arg8 harg8 arg9 harg9 arg10 harg10 arg11 harg11 b = (k0_pay195 (k0_pay56 b.h13) b.x10) := by
    unfold runB.sl.r_189
    rw [e57, hx10]
  have e190 : runB.sl.r_190 c arg1 harg1 arg3 harg3 arg5 harg5 arg7 harg7 arg8 harg8 arg9 harg9 arg10 harg10 arg11 harg11 b = (k0_pay196 (k0_pay194 b.bd1) (k0_pay195 (k0_pay56 b.h13) b.x10)) := by
    unfold runB.sl.r_190
    rw [e188, e189]
  have e191 : runB.sl.r_191 c arg1 harg1 arg3 harg3 arg5 harg5 arg7 harg7 arg8 harg8 arg9 harg9 arg10 harg10 arg11 harg11 b = (k0_pay197 b.bd1 b.ftsf1) := by
    unfold runB.sl.r_191
    rw [e4, e177]
  have e192 : runB.sl.r_192 c arg1 harg1 arg3 harg3 arg5 harg5 arg7 harg7 arg8 harg8 arg9 harg9 arg10 harg10 arg11 harg11 b = (k0_pay198 b.bd1 b.ftsf1) := by
    unfold runB.sl.r_192
    rw [e4, e177]
  have e193 : runB.sl.r_193 c arg1 harg1 arg3 harg3 arg5 harg5 arg7 harg7 arg8 harg8 arg9 harg9 arg10 harg10 arg11 harg11 b = (k0_pay199 b.bd1 b.ftsf1) := by
    unfold runB.sl.r_193
    rw [e4, e177]
  have e194 : runB.sl.r_194 c arg1 harg1 arg3 harg3 arg5 harg5 arg7 harg7 arg8 harg8 arg9 harg9 arg10 harg10 arg11 harg11 b = (k0_pay200 b.bd1 b.ftsf1) := by
    unfold runB.sl.r_194
    rw [e4, e177]
  have e195 : runB.sl.r_195 c arg1 harg1 arg3 harg3 arg5 harg5 arg7 harg7 arg8 harg8 arg9 harg9 arg10 harg10 arg11 harg11 b = (k0_pay201 b.bd1 b.ftsf1) := by
    unfold runB.sl.r_195
    rw [e4, e177]
  have e196 : runB.sl.r_196 c arg1 harg1 arg3 harg3 arg5 harg5 arg7 harg7 arg8 harg8 arg9 harg9 arg10 harg10 arg11 harg11 b = (k0_pay202 b.bd1 b.ftsf1) := by
    unfold runB.sl.r_196
    rw [e4, e177]
  have e197 : runB.sl.r_197 c arg1 harg1 arg3 harg3 arg5 harg5 arg7 harg7 arg8 harg8 arg9 harg9 arg10 harg10 arg11 harg11 b = (k0_pay203 b.bd1 b.ftsf1) := by
    unfold runB.sl.r_197
    rw [e4, e177]
  have e198 : runB.sl.r_198 c arg1 harg1 arg3 harg3 arg5 harg5 arg7 harg7 arg8 harg8 arg9 harg9 arg10 harg10 arg11 harg11 b = (k0_pay204 b.bd1 b.ftsf1) := by
    unfold runB.sl.r_198
    rw [e4, e177]
  have e199 : runB.sl.r_199 c arg1 harg1 arg3 harg3 arg5 harg5 arg7 harg7 arg8 harg8 arg9 harg9 arg10 harg10 arg11 harg11 b = (k0_pay205 b.bd1 b.ftsf1) := by
    unfold runB.sl.r_199
    rw [e4, e177]
  have e200 : runB.sl.r_200 c arg1 harg1 arg3 harg3 arg5 harg5 arg7 harg7 arg8 harg8 arg9 harg9 arg10 harg10 arg11 harg11 b = (k0_pay206 b.bd1 b.ftsf1) := by
    unfold runB.sl.r_200
    rw [e4, e177]
  have e201 : runB.sl.r_201 c arg1 harg1 arg3 harg3 arg5 harg5 arg7 harg7 arg8 harg8 arg9 harg9 arg10 harg10 arg11 harg11 b = (k0_pay207 b.bd1 b.ftsf1) := by
    unfold runB.sl.r_201
    rw [e4, e177]
  have e202 : runB.sl.r_202 c arg1 harg1 arg3 harg3 arg5 harg5 arg7 harg7 arg8 harg8 arg9 harg9 arg10 harg10 arg11 harg11 b = (k0_pay208 b.bd1 b.ftsf1) := by
    unfold runB.sl.r_202
    rw [e4, e177]
  have e203 : runB.sl.r_203 c arg1 harg1 arg3 harg3 arg5 harg5 arg7 harg7 arg8 harg8 arg9 harg9 arg10 harg10 arg11 harg11 b = (k0_pay209 b.bd1 b.ftsf1) := by
    unfold runB.sl.r_203
    rw [e4, e177]
  have e204 : runB.sl.r_204 c arg1 harg1 arg3 harg3 arg5 harg5 arg7 harg7 arg8 harg8 arg9 harg9 arg10 harg10 arg11 harg11 b = (k0_pay210 b.bd1 b.ftsf1) := by
    unfold runB.sl.r_204
    rw [e4, e177]
  have e205 : runB.sl.r_205 c arg5 harg5 b = (k0_pay211 b.bd1) := by
    unfold runB.sl.r_205
    rw [e4]
  have e206 : runB.sl.r_206 c arg1 harg1 arg3 harg3 arg5 harg5 arg7 harg7 arg8 harg8 arg9 harg9 arg10 harg10 arg11 harg11 b = (k0_pay212 b.ftsf1) := by
    unfold runB.sl.r_206
    rw [e177]
  have e207 : runB.sl.r_207 c arg1 harg1 arg3 harg3 arg5 harg5 arg7 harg7 arg8 harg8 arg9 harg9 arg10 harg10 arg11 harg11 arg12 harg12 arg13 harg13 b = b.f1 := by
    unfold runB.sl.r_207 Blk.f1
    rw [e1, e4, e177, e179, e180, e181, e182, e183, e184, e185, e186, e187, e190, e191, e192, e193, e194, e195, e196, e197, e198, e199, e200, e201, e202, e203, e204, e205, e206]
  have e208 : runB.sl.r_208 c arg2 harg2 arg4 harg4 arg6 harg6 arg7 harg7 arg8 harg8 arg9 harg9 arg10 harg10 arg11 harg11 b = (k0_pay214 b.bd2 b.ftsf2) := by
    unfold runB.sl.r_208
    rw [e5, e178]
  have e209 : runB.sl.r_209 c arg2 harg2 arg4 harg4 arg6 harg6 arg7 harg7 arg8 harg8 arg9 harg9 arg10 harg10 arg11 harg11 b = (k0_pay215 b.bd2 b.ftsf2) := by
    unfold runB.sl.r_209
    rw [e5, e178]
  have e210 : runB.sl.r_210 c arg2 harg2 arg4 harg4 arg6 harg6 arg7 harg7 arg8 harg8 arg9 harg9 arg10 harg10 arg11 harg11 b = (k0_pay216 b.bd2 b.ftsf2) := by
    unfold runB.sl.r_210
    rw [e5, e178]
  have e211 : runB.sl.r_211 c arg2 harg2 arg4 harg4 arg6 harg6 arg7 harg7 arg8 harg8 arg9 harg9 arg10 harg10 arg11 harg11 b = (k0_pay217 b.bd2 b.ftsf2) := by
    unfold runB.sl.r_211
    rw [e5, e178]
  have e212 : runB.sl.r_212 c arg2 harg2 arg4 harg4 arg6 harg6 arg7 harg7 arg8 harg8 arg9 harg9 arg10 harg10 arg11 harg11 b = (k0_pay218 b.bd2 b.ftsf2) := by
    unfold runB.sl.r_212
    rw [e5, e178]
  have e213 : runB.sl.r_213 c arg2 harg2 arg4 harg4 arg6 harg6 arg7 harg7 arg8 harg8 arg9 harg9 arg10 harg10 arg11 harg11 b = (k0_pay219 b.bd2 b.ftsf2) := by
    unfold runB.sl.r_213
    rw [e5, e178]
  have e214 : runB.sl.r_214 c arg2 harg2 arg4 harg4 arg6 harg6 arg7 harg7 arg8 harg8 arg9 harg9 arg10 harg10 arg11 harg11 b = (k0_pay220 b.bd2 b.ftsf2) := by
    unfold runB.sl.r_214
    rw [e5, e178]
  have e215 : runB.sl.r_215 c arg2 harg2 arg4 harg4 arg6 harg6 arg7 harg7 arg8 harg8 arg9 harg9 arg10 harg10 arg11 harg11 b = (k0_pay221 b.bd2 b.ftsf2) := by
    unfold runB.sl.r_215
    rw [e5, e178]
  have e216 : runB.sl.r_216 c arg2 harg2 arg4 harg4 arg6 harg6 arg7 harg7 arg8 harg8 arg9 harg9 arg10 harg10 arg11 harg11 b = (k0_pay222 b.bd2 b.ftsf2) := by
    unfold runB.sl.r_216
    rw [e5, e178]
  have e217 : runB.sl.r_217 c arg2 harg2 arg4 harg4 arg6 harg6 arg7 harg7 arg8 harg8 arg9 harg9 arg10 harg10 arg11 harg11 b = (k0_pay223 b.bd2 b.ftsf2) := by
    unfold runB.sl.r_217
    rw [e5, e178]
  have e218 : runB.sl.r_218 c arg2 harg2 arg4 harg4 arg6 harg6 arg7 harg7 arg8 harg8 arg9 harg9 arg10 harg10 arg11 harg11 b = (k0_pay224 b.bd2 b.ftsf2) := by
    unfold runB.sl.r_218
    rw [e5, e178]
  have e219 : runB.sl.r_219 c arg2 harg2 arg4 harg4 arg6 harg6 arg7 harg7 arg8 harg8 arg9 harg9 arg10 harg10 arg11 harg11 b = (k0_pay225 b.bd2 b.ftsf2) := by
    unfold runB.sl.r_219
    rw [e5, e178]
  have e220 : runB.sl.r_220 c arg2 harg2 arg4 harg4 arg6 harg6 arg7 harg7 arg8 harg8 arg9 harg9 arg10 harg10 arg11 harg11 b = (k0_pay226 b.bd2 b.ftsf2) := by
    unfold runB.sl.r_220
    rw [e5, e178]
  have e221 : runB.sl.r_221 c arg2 harg2 arg4 harg4 arg6 harg6 arg7 harg7 arg8 harg8 arg9 harg9 arg10 harg10 arg11 harg11 b = (k0_pay227 b.bd2 b.ftsf2) := by
    unfold runB.sl.r_221
    rw [e5, e178]
  have e222 : runB.sl.r_222 c arg2 harg2 arg4 harg4 arg6 harg6 arg7 harg7 arg8 harg8 arg9 harg9 arg10 harg10 arg11 harg11 b = (k0_pay228 b.bd2 b.ftsf2) := by
    unfold runB.sl.r_222
    rw [e5, e178]
  have e223 : runB.sl.r_223 c arg2 harg2 arg4 harg4 arg6 harg6 arg7 harg7 arg8 harg8 arg9 harg9 arg10 harg10 arg11 harg11 b = (k0_pay229 b.bd2 b.ftsf2) := by
    unfold runB.sl.r_223
    rw [e5, e178]
  have e224 : runB.sl.r_224 c arg2 harg2 arg4 harg4 arg6 harg6 arg7 harg7 arg8 harg8 arg9 harg9 arg10 harg10 arg11 harg11 b = (k0_pay230 b.bd2 b.ftsf2) := by
    unfold runB.sl.r_224
    rw [e5, e178]
  have e225 : runB.sl.r_225 c arg2 harg2 arg4 harg4 arg6 harg6 arg7 harg7 arg8 harg8 arg9 harg9 arg10 harg10 arg11 harg11 b = (k0_pay231 b.bd2 b.ftsf2) := by
    unfold runB.sl.r_225
    rw [e5, e178]
  have e226 : runB.sl.r_226 c arg2 harg2 arg4 harg4 arg6 harg6 arg7 harg7 arg8 harg8 arg9 harg9 arg10 harg10 arg11 harg11 b = (k0_pay232 b.bd2 b.ftsf2) := by
    unfold runB.sl.r_226
    rw [e5, e178]
  have e227 : runB.sl.r_227 c arg2 harg2 arg4 harg4 arg6 harg6 arg7 harg7 arg8 harg8 arg9 harg9 arg10 harg10 arg11 harg11 b = (k0_pay233 b.bd2 b.ftsf2) := by
    unfold runB.sl.r_227
    rw [e5, e178]
  have e228 : runB.sl.r_228 c arg2 harg2 arg4 harg4 arg6 harg6 arg7 harg7 arg8 harg8 arg9 harg9 arg10 harg10 arg11 harg11 arg12 harg12 arg13 harg13 b = b.f2 := by
    unfold runB.sl.r_228 Blk.f2
    rw [e1, e5, e178, e179, e208, e209, e210, e211, e212, e213, e214, e215, e216, e217, e218, e219, e220, e221, e222, e223, e224, e225, e226, e227]
  isplitl [H0]
  · iexists _; isplitr; swap
    · iexact H0
    · ipureintro
      exact harg1.read_unread b.x0
  isplitl [H1]
  · iexists _; isplitr; swap
    · iexact H1
    · ipureintro
      exact harg2.read_unread b.x1
  isplitl [H2]
  · iexists _; isplitr; swap
    · iexact H2
    · ipureintro
      exact harg3.read_unread b.x2
  isplitl [H3]
  · iexists _; isplitr; swap
    · iexact H3
    · ipureintro
      exact harg4.read_unread b.x3
  isplitl [H4]
  · iexists _; isplitr; swap
    · iexact H4
    · ipureintro
      exact harg5.read_unread b.x4
  isplitl [H5]
  · iexists _; isplitr; swap
    · iexact H5
    · ipureintro
      exact harg6.read_unread b.x5
  isplitl [H6]
  · iexists _; isplitr; swap
    · iexact H6
    · ipureintro
      exact harg7.read_unread b.x6
  isplitl [H7]
  · iexists _; isplitr; swap
    · iexact H7
    · ipureintro
      exact harg8.read_unread b.x7
  isplitl [H8]
  · iexists _; isplitr; swap
    · iexact H8
    · ipureintro
      exact harg9.read_unread b.x8
  isplitl [H9]
  · iexists _; isplitr; swap
    · iexact H9
    · ipureintro
      exact harg10.read_unread b.x9
  isplitl [H10]
  · iexists _; isplitr; swap
    · iexact H10
    · ipureintro
      exact harg11.read_unread b.x10
  isplitl [H11]
  · iexists _; isplitr; swap
    · iexact H11
    · ipureintro
      exact harg12.read_unread b.x11
  isplitl [H12]
  · iexists _; isplitr; swap
    · iexact H12
    · ipureintro
      exact harg13.read_unread b.x12
  isplitl [H13]
  · iexists _; isplitr; swap
    · iexact H13
    · ipureintro
      exact harg14.read_unread b.x13
  isplitl [H14]
  · iexists _; isplitr; swap
    · iexact H14
    · ipureintro
      exact harg15.read_unread b.x14
  isplitl [H15]
  · iexists _; isplitr; swap
    · iexact H15
    · ipureintro
      exact harg16.read_unread b.x15
  isplitl [H16]
  · iexists _; isplitr; swap
    · iexact H16
    · ipureintro
      exact harg17.read_unread b.x16
  isplitl [H17]
  · iexists _; isplitr; swap
    · iexact H17
    · ipureintro
      exact harg18.read_unread b.x17
  isplitl [H18]
  · iexists _; isplitr; swap
    · iexact H18
    · ipureintro
      refine (View.read_writes_full _ _ _ _ _).trans ?_
      unfold Blk.out1
      rw [e207]
  isplitl [H19]
  · iexists _; isplitr; swap
    · iexact H19
    · ipureintro
      refine (View.read_writes_full _ _ _ _ _).trans ?_
      unfold Blk.out2
      rw [e228]
  isplitl [H20]
  · iexists _; isplitr; swap
    · iexact H20
    · ipureintro
      refine (read_upd _ _ i _ _ _ _).trans ?_
      refine congr (congr (congrArg (upd (i 0).val) ?_) ?_) ?_
      · unfold Blk.sa
        rw [e173, e174, e175]
      · unfold Blk.sb
        rw [e169, e170, e171, e172, e173, View.readAt_full, View.readAt_full, harg22.read_unread, harg23.read_unread]
      · exact harg21.read_unread y
  isplitl [HS0]
  · iexists _; isplitr; swap
    · iexact HS0
    · ipureintro
      refine (View.read_writes_full _ _ _ _ _).trans ?_
      unfold Blk.last13
      rw [e169]
  isplitl [HS1]
  · iexists _; isplitr; swap
    · iexact HS1
    · ipureintro
      refine (View.read_writes_full _ _ _ _ _).trans ?_
      unfold Blk.last24
      rw [e176]
  isplitl [HS2]
  · iexists _; isplitr; swap
    · iexact HS2
    · ipureintro
      exact harg24.read_unread s2
  iexists _; isplitr; swap
  · iexact HS3
  · ipureintro
    exact harg25.read_unread s3

end Cert.KernelIdeal.Fused

end
-- ==== Proof.RunC.lean ====
/- The kernel's body at the last grid point, run once: what each buffer holds afterwards. -/
module

public import proofs.«01_k».proof.Proof.Rows

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in
/-- At the last point the score that wraps around is stored too. -/
theorem runC (c : Dev nD) (i : grid0.Coords) (arg1 : Memref sig .tc .vmem S512x8x128 .f32) (harg1 : arg1.IsWhole) (arg2 : Memref sig .tc .vmem S512x8x128 .f32) (harg2 : arg2.IsWhole) (arg3 : Memref sig .tc .vmem S512x8x128 .f32) (harg3 : arg3.IsWhole) (arg4 : Memref sig .tc .vmem S512x8x128 .f32) (harg4 : arg4.IsWhole) (arg5 : Memref sig .tc .vmem S8x8x512 .f32) (harg5 : arg5.IsWhole) (arg6 : Memref sig .tc .vmem S8x8x512 .f32) (harg6 : arg6.IsWhole) (arg7 : Memref sig .tc .vmem S128x128 .bf16) (harg7 : arg7.IsWhole) (arg8 : Memref sig .tc .vmem S128x128 .bf16) (harg8 : arg8.IsWhole) (arg9 : Memref sig .tc .vmem S1x128 .f32) (harg9 : arg9.IsWhole) (arg10 : Memref sig .tc .smem S1x1 .f32) (harg10 : arg10.IsWhole) (arg11 : Memref sig .tc .vmem S128x128 .bf16) (harg11 : arg11.IsWhole) (arg12 : Memref sig .tc .vmem S1x128 .f32) (harg12 : arg12.IsWhole) (arg13 : Memref sig .tc .smem S1x1 .f32) (harg13 : arg13.IsWhole) (arg14 : Memref sig .tc .vmem S128x128 .f32) (harg14 : arg14.IsWhole) (arg15 : Memref sig .tc .smem S1x1 .f32) (harg15 : arg15.IsWhole) (arg16 : Memref sig .tc .vmem S128x128 .f32) (harg16 : arg16.IsWhole) (arg17 : Memref sig .tc .smem S1x1 .f32) (harg17 : arg17.IsWhole) (arg18 : Memref sig .tc .vmem S32x128 .bf16) (harg18 : arg18.IsWhole) (arg19 : Memref sig .tc .vmem S512x8x128 .f32) (harg19 : arg19.IsWhole) (arg20 : Memref sig .tc .vmem S512x8x128 .f32) (harg20 : arg20.IsWhole) (arg21 : Memref sig .tc .vmem S16384x1 .f32) (harg21 : arg21.IsWhole) (arg22 : Memref sig .tc .vmem S1x128 .f32) (harg22 : arg22.IsWhole) (arg23 : Memref sig .tc .vmem S1x128 .f32) (harg23 : arg23.IsWhole) (arg24 : Memref sig .tc .vmem S1x128 .f32) (harg24 : arg24.IsWhole) (arg25 : Memref sig .tc .vmem S1x128 .f32) (harg25 : arg25.IsWhole)
   (hc0 : ¬((Scalar.cmpi .ne (Scalar.extui (Scalar.cmpi .eq (BitVec.ofNat 32 (i 0).val) 0#32)) 0#32) = 1#1)) (hc2 : ((Scalar.cmpi .ne (Scalar.extui (Scalar.cmpi .eq (BitVec.ofNat 32 (i 0).val) 15#32)) 0#32) = 1#1)) (b : Blk F) (y : Vec F S16384x1 .f32) (s0 s1 s2 s3 : Vec F S1x128 .f32) (E : Set ℕ) (K : PUnit → sProp 𝕄) :
   iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ owns (c : Thread nD τ) arg12 fullShare b.x11 ∗ owns (c : Thread nD τ) arg13 fullShare b.x12 ∗ owns (c : Thread nD τ) arg14 fullShare b.x13 ∗ owns (c : Thread nD τ) arg15 fullShare b.x14 ∗ owns (c : Thread nD τ) arg16 fullShare b.x15 ∗ owns (c : Thread nD τ) arg17 fullShare b.x16 ∗ owns (c : Thread nD τ) arg18 fullShare b.x17 ∗ (∃ d, owns (c : Thread nD τ) arg19 fullShare d) ∗ (∃ d, owns (c : Thread nD τ) arg20 fullShare d) ∗ owns (c : Thread nD τ) arg21 fullShare y ∗ owns (c : Thread nD τ) arg22 fullShare s0 ∗ owns (c : Thread nD τ) arg23 fullShare s1 ∗ owns (c : Thread nD τ) arg24 fullShare s2 ∗ owns (c : Thread nD τ) arg25 fullShare s3 ∗ (iprop(owns (c : Thread nD τ) arg1 fullShare b.x0 ∗ owns (c : Thread nD τ) arg2 fullShare b.x1 ∗ owns (c : Thread nD τ) arg3 fullShare b.x2 ∗ owns (c : Thread nD τ) arg4 fullShare b.x3 ∗ owns (c : Thread nD τ) arg5 fullShare b.x4 ∗ owns (c : Thread nD τ) arg6 fullShare b.x5 ∗ owns (c : Thread nD τ) arg7 fullShare b.x6 ∗ owns (c : Thread nD τ) arg8 fullShare b.x7 ∗ owns (c : Thread nD τ) arg9 fullShare b.x8 ∗ owns (c : Thread nD τ) arg10 fullShare b.x9 ∗ owns (c : Thread nD τ) arg11 fullShare b.x10 ∗ owns (c : Thread nD τ) arg12 fullShare b.x11 ∗ owns (c : Thread nD τ) arg13 fullShare b.x12 ∗ owns (c : Thread nD τ) arg14 fullShare b.x13 ∗ owns (c : Thread nD τ) arg15 fullShare b.x14 ∗ owns (c : Thread nD τ) arg16 fullShare b.x15 ∗ owns (c : Thread nD τ) arg17 fullShare b.x16 ∗ owns (c : Thread nD τ) arg18 fullShare b.x17 ∗ owns (c : Thread nD τ) arg19 fullShare b.out1 ∗ owns (c : Thread nD τ) arg20 fullShare b.out2 ∗ owns (c : Thread nD τ) arg21 fullShare (updWrap (b.wrap s2 s3) (upd (i 0).val b.sa (b.sb s0 s1) y)) ∗ owns (c : Thread nD τ) arg22 fullShare b.last13 ∗ owns (c : Thread nD τ) arg23 fullShare b.last24 ∗ owns (c : Thread nD τ) arg24 fullShare s2 ∗ owns (c : Thread nD τ) arg25 fullShare s3) -∗ K ⟨⟩)) ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%f20, %hf20, H20⟩, ⟨%fs0, %hs0, HS0⟩, ⟨%fs1, %hs1, HS1⟩, ⟨%fs2, %hs2, HS2⟩, ⟨%fs3, %hs3, HS3⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
  obtain rfl := harg21.eq_unread hf20; obtain rfl := harg22.eq_unread hs0; obtain rfl := harg23.eq_unread hs1; obtain rfl := harg24.eq_unread hs2; obtain rfl := harg25.eq_unread hs3
  sl_exec (disch := first | sl_exact hc0 | sl_exact hc2)
  sl_step
  iapply Hk
  have hx0 : View.readAt (Elt F) arg1.view (Rect.unit (s := S512x8x128) ![0, 0, 0] S512x8x128.size inb_S512x8x128_S512x8x128_0_0_0).toLoadRect (harg1.unread b.x0) = b.x0 := (View.readAt_full _ _ _).trans (harg1.read_unread b.x0)
  have hx1 : View.readAt (Elt F) arg2.view (Rect.unit (s := S512x8x128) ![0, 0, 0] S512x8x128.size inb_S512x8x128_S512x8x128_0_0_0).toLoadRect (harg2.unread b.x1) = b.x1 := (View.readAt_full _ _ _).trans (harg2.read_unread b.x1)
  have hx2 : View.readAt (Elt F) arg3.view (Rect.unit (s := S512x8x128) ![0, 0, 0] S512x8x128.size inb_S512x8x128_S512x8x128_0_0_0).toLoadRect (harg3.unread b.x2) = b.x2 := (View.readAt_full _ _ _).trans (harg3.read_unread b.x2)
  have hx3 : View.readAt (Elt F) arg4.view (Rect.unit (s := S512x8x128) ![0, 0, 0] S512x8x128.size inb_S512x8x128_S512x8x128_0_0_0).toLoadRect (harg4.unread b.x3) = b.x3 := (View.readAt_full _ _ _).trans (harg4.read_unread b.x3)
  have hx4 : View.readAt (Elt F) arg5.view (Rect.unit (s := S8x8x512) ![0, 0, 0] S8x8x512.size inb_S8x8x512_S8x8x512_0_0_0).toLoadRect (harg5.unread b.x4) = b.x4 := (View.readAt_full _ _ _).trans (harg5.read_unread b.x4)
  have hx5 : View.readAt (Elt F) arg6.view (Rect.unit (s := S8x8x512) ![0, 0, 0] S8x8x512.size inb_S8x8x512_S8x8x512_0_0_0).toLoadRect (harg6.unread b.x5) = b.x5 := (View.readAt_full _ _ _).trans (harg6.read_unread b.x5)
  have hx6 : View.readAt (Elt F) arg7.view (Rect.unit (s := S128x128) ![0, 0] S128x128.size inb_S128x128_S128x128_0_0).toLoadRect (harg7.unread b.x6) = b.x6 := (View.readAt_full _ _ _).trans (harg7.read_unread b.x6)
  have hx7 : View.readAt (Elt F) arg8.view (Rect.unit (s := S128x128) ![0, 0] S128x128.size inb_S128x128_S128x128_0_0).toLoadRect (harg8.unread b.x7) = b.x7 := (View.readAt_full _ _ _).trans (harg8.read_unread b.x7)
  have hx8 : View.readAt (Elt F) arg9.view (Rect.unit (s := S1x128) ![0, 0] S1x128.size inb_S1x128_S1x128_0_0).toLoadRect (harg9.unread b.x8) = b.x8 := (View.readAt_full _ _ _).trans (harg9.read_unread b.x8)
  have hx9 : View.readAt (Elt F) arg10.view (Rect.unit (s := S1x1) ![0, 0] S1x1.size inb_S1x1_S1x1_0_0).toLoadRect (harg10.unread b.x9) (Shape.Idx.first (by decide)) = b.x9 (ix2 0 0) := (congrFun ((View.readAt_full _ _ _).trans (harg10.read_unread b.x9)) _).trans (congrArg b.x9 (one_idx _))
  have hx10 : View.readAt (Elt F) arg11.view (Rect.unit (s := S128x128) ![0, 0] S128x128.size inb_S128x128_S128x128_0_0).toLoadRect (harg11.unread b.x10) = b.x10 := (View.readAt_full _ _ _).trans (harg11.read_unread b.x10)
  have hx11 : View.readAt (Elt F) arg12.view (Rect.unit (s := S1x128) ![0, 0] S1x128.size inb_S1x128_S1x128_0_0).toLoadRect (harg12.unread b.x11) = b.x11 := (View.readAt_full _ _ _).trans (harg12.read_unread b.x11)
  have hx12 : View.readAt (Elt F) arg13.view (Rect.unit (s := S1x1) ![0, 0] S1x1.size inb_S1x1_S1x1_0_0).toLoadRect (harg13.unread b.x12) (Shape.Idx.first (by decide)) = b.x12 (ix2 0 0) := (congrFun ((View.readAt_full _ _ _).trans (harg13.read_unread b.x12)) _).trans (congrArg b.x12 (one_idx _))
  have hx13 : View.readAt (Elt F) arg14.view (Rect.unit (s := S128x128) ![0, 0] S128x128.size inb_S128x128_S128x128_0_0).toLoadRect (harg14.unread b.x13) = b.x13 := (View.readAt_full _ _ _).trans (harg14.read_unread b.x13)
  have hx14 : View.readAt (Elt F) arg15.view (Rect.unit (s := S1x1) ![0, 0] S1x1.size inb_S1x1_S1x1_0_0).toLoadRect (harg15.unread b.x14) (Shape.Idx.first (by decide)) = b.x14 (ix2 0 0) := (congrFun ((View.readAt_full _ _ _).trans (harg15.read_unread b.x14)) _).trans (congrArg b.x14 (one_idx _))
  have hx15 : View.readAt (Elt F) arg16.view (Rect.unit (s := S128x128) ![0, 0] S128x128.size inb_S128x128_S128x128_0_0).toLoadRect (harg16.unread b.x15) = b.x15 := (View.readAt_full _ _ _).trans (harg16.read_unread b.x15)
  have hx16 : View.readAt (Elt F) arg17.view (Rect.unit (s := S1x1) ![0, 0] S1x1.size inb_S1x1_S1x1_0_0).toLoadRect (harg17.unread b.x16) (Shape.Idx.first (by decide)) = b.x16 (ix2 0 0) := (congrFun ((View.readAt_full _ _ _).trans (harg17.read_unread b.x16)) _).trans (congrArg b.x16 (one_idx _))
  have hx17 : View.readAt (Elt F) arg18.view (Rect.unit (s := S32x128) ![0, 0] S32x128.size inb_S32x128_S32x128_0_0).toLoadRect (harg18.unread b.x17) = b.x17 := (View.readAt_full _ _ _).trans (harg18.read_unread b.x17)
  have e0 : runC.sl.r c arg10 harg10 b = (b.x9 (ix2 0 0)) := by
    unfold runC.sl.r
    rw [hx9]
  have e1 : runC.sl.r_1 c arg13 harg13 b = (b.x12 (ix2 0 0)) := by
    unfold runC.sl.r_1
    rw [hx12]
  have e2 : runC.sl.r_2 c arg15 harg15 b = (b.x14 (ix2 0 0)) := by
    unfold runC.sl.r_2
    rw [hx14]
  have e3 : runC.sl.r_3 c arg17 harg17 b = (b.x16 (ix2 0 0)) := by
    unfold runC.sl.r_3
    rw [hx16]
  have e4 : runC.sl.r_4 c arg5 harg5 b = b.bd1 := by
    unfold runC.sl.r_4 Blk.bd1
    rw [hx4]
  have e5 : runC.sl.r_5 c arg6 harg6 b = b.bd2 := by
    unfold runC.sl.r_5 Blk.bd2
    rw [hx5]
  have e6 : runC.sl.r_6 c arg1 harg1 arg7 harg7 b = b.fts1 := by
    unfold runC.sl.r_6 Blk.fts1
    rw [hx0, hx6]
  have e7 : runC.sl.r_7 c arg3 harg3 b = b.x2 := by
    unfold runC.sl.r_7
    rw [hx2]
  have e8 : runC.sl.r_8 c arg1 harg1 arg3 harg3 arg7 harg7 arg8 harg8 b = (k0_pay7 b.fts1 b.x2 b.x7) := by
    unfold runC.sl.r_8
    rw [e6, e7, hx7]
  have e9 : runC.sl.r_9 c arg2 harg2 arg4 harg4 arg7 harg7 arg8 harg8 b = b.fts24 := by
    unfold runC.sl.r_9 Blk.fts24
    rw [hx1, hx6, hx3, hx7]
  have e10 : runC.sl.r_10 c arg1 harg1 arg3 harg3 arg5 harg5 arg7 harg7 arg8 harg8 b = (k0_pay9 b.bd1 b.fts1 b.x2 b.x7) := by
    unfold runC.sl.r_10
    rw [e4, e6, e7, hx7]
  have e11 : runC.sl.r_11 c arg1 harg1 arg3 harg3 arg5 harg5 arg7 harg7 arg8 harg8 b = (k0_pay10 b.bd1 b.fts1 b.x2 b.x7) := by
    unfold runC.sl.r_11
    rw [e4, e6, e7, hx7]
  have e12 : runC.sl.r_12 c arg1 harg1 arg3 harg3 arg5 harg5 arg7 harg7 arg8 harg8 b = (k0_pay11 b.bd1 b.fts1 b.x2 b.x7) := by
    unfold runC.sl.r_12
    rw [e4, e6, e7, hx7]
  have e13 : runC.sl.r_13 c arg1 harg1 arg3 harg3 arg5 harg5 arg7 harg7 arg8 harg8 b = (k0_pay12 b.bd1 b.fts1 b.x2 b.x7) := by
    unfold runC.sl.r_13
    rw [e4, e6, e7, hx7]
  have e14 : runC.sl.r_14 c arg1 harg1 arg3 harg3 arg5 harg5 arg7 harg7 arg8 harg8 b = (k0_pay13 b.bd1 b.fts1 b.x2 b.x7) := by
    unfold runC.sl.r_14
    rw [e4, e6, e7, hx7]
  have e15 : runC.sl.r_15 c arg1 harg1 arg3 harg3 arg5 harg5 arg7 harg7 arg8 harg8 b = (k0_pay14 b.bd1 b.fts1 b.x2 b.x7) := by
    unfold runC.sl.r_15
    rw [e4, e6, e7, hx7]
  have e16 : runC.sl.r_16 c arg1 harg1 arg3 harg3 arg5 harg5 arg7 harg7 arg8 harg8 b = (k0_pay15 b.bd1 b.fts1 b.x2 b.x7) := by
    unfold runC.sl.r_16
    rw [e4, e6, e7, hx7]
  have e17 : runC.sl.r_17 c arg5 harg5 b = (k0_pay16 b.bd1) := by
    unfold runC.sl.r_17
    rw [e4]
  have e18 : runC.sl.r_18 c arg1 harg1 arg3 harg3 arg5 harg5 arg7 harg7 arg8 harg8 b = (k0_pay17 (k0_pay7 b.fts1 b.x2 b.x7) (k0_pay16 b.bd1)) := by
    unfold runC.sl.r_18
    rw [e8, e17]
  have e19 : runC.sl.r_19 c arg1 harg1 arg3 harg3 arg5 harg5 arg7 harg7 arg8 harg8 b = (k0_pay18 b.bd1 (k0_pay7 b.fts1 b.x2 b.x7)) := by
    unfold runC.sl.r_19
    rw [e4, e8]
  have e20 : runC.sl.r_20 c arg1 harg1 arg3 harg3 arg5 harg5 arg7 harg7 arg8 harg8 b = (k0_pay19 b.bd1 (k0_pay7 b.fts1 b.x2 b.x7)) := by
    unfold runC.sl.r_20
    rw [e4, e8]
  have e21 : runC.sl.r_21 c arg1 harg1 arg3 harg3 arg5 harg5 arg7 harg7 arg8 harg8 b = (k0_pay20 b.bd1 (k0_pay7 b.fts1 b.x2 b.x7)) := by
    unfold runC.sl.r_21
    rw [e4, e8]
  have e22 : runC.sl.r_22 c arg1 harg1 arg3 harg3 arg5 harg5 arg7 harg7 arg8 harg8 b = (k0_pay21 b.bd1 (k0_pay7 b.fts1 b.x2 b.x7)) := by
    unfold runC.sl.r_22
    rw [e4, e8]
  have e23 : runC.sl.r_23 c arg1 harg1 arg3 harg3 arg5 harg5 arg7 harg7 arg8 harg8 b = (k0_pay22 b.bd1 (k0_pay7 b.fts1 b.x2 b.x7)) := by
    unfold runC.sl.r_23
    rw [e4, e8]
  have e24 : runC.sl.r_24 c arg1 harg1 arg3 harg3 arg5 harg5 arg7 harg7 arg8 harg8 b = (k0_pay23 b.bd1 (k0_pay7 b.fts1 b.x2 b.x7)) := by
    unfold runC.sl.r_24
    rw [e4, e8]
  have e25 : runC.sl.r_25 c arg1 harg1 arg3 harg3 arg5 harg5 arg7 harg7 arg8 harg8 b = (k0_pay24 b.bd1 (k0_pay7 b.fts1 b.x2 b.x7)) := by
    unfold runC.sl.r_25
    rw [e4, e8]
  have e26 : runC.sl.r_26 c arg1 harg1 arg3 harg3 arg5 harg5 arg7 harg7 arg8 harg8 b = (k0_pay25 b.bd1 (k0_pay7 b.fts1 b.x2 b.x7)) := by
    unfold runC.sl.r_26
    rw [e4, e8]
  have e27 : runC.sl.r_27 c arg1 harg1 arg3 harg3 arg5 harg5 arg7 harg7 arg8 harg8 b = (k0_pay26 b.bd1 (k0_pay7 b.fts1 b.x2 b.x7)) := by
    unfold runC.sl.r_27
    rw [e4, e8]
  have e28 : runC.sl.r_28 c arg1 harg1 arg3 harg3 arg5 harg5 arg7 harg7 arg8 harg8 b = (k0_pay27 b.bd1 (k0_pay7 b.fts1 b.x2 b.x7)) := by
    unfold runC.sl.r_28
    rw [e4, e8]
  have e29 : runC.sl.r_29 c arg1 harg1 arg3 harg3 arg5 harg5 arg7 harg7 arg8 harg8 b = (k0_pay28 b.bd1 (k0_pay7 b.fts1 b.x2 b.x7)) := by
    unfold runC.sl.r_29
    rw [e4, e8]
  have e30 : runC.sl.r_30 c arg1 harg1 arg3 harg3 arg5 harg5 arg7 harg7 arg8 harg8 b = (k0_pay29 b.bd1 (k0_pay7 b.fts1 b.x2 b.x7)) := by
    unfold runC.sl.r_30
    rw [e4, e8]
  have e31 : runC.sl.r_31 c arg1 harg1 arg3 harg3 arg5 harg5 arg7 harg7 arg8 harg8 b = (k0_pay30 b.bd1 (k0_pay7 b.fts1 b.x2 b.x7)) := by
    unfold runC.sl.r_31
    rw [e4, e8]
  have e32 : runC.sl.r_32 c arg1 harg1 arg3 harg3 arg5 harg5 arg7 harg7 arg8 harg8 b = (k0_pay31 b.bd1 (k0_pay7 b.fts1 b.x2 b.x7)) := by
    unfold runC.sl.r_32
    rw [e4, e8]
  have e33 : runC.sl.r_33 c arg5 harg5 b = (k0_pay32 b.bd1) := by
    unfold runC.sl.r_33
    rw [e4]
  have e34 : runC.sl.r_34 c arg1 harg1 arg3 harg3 arg5 harg5 arg7 harg7 arg8 harg8 arg9 harg9 arg10 harg10 b = b.h13 := by
    unfold runC.sl.r_34 Blk.h13
    rw [e0, e4, e8, e10, e11, e12, e13, e14, e15, e16, e18, e19, e20, e21, e22, e23, e24, e25, e26, e27, e28, e29, e30, e31, e32, e33, hx8]
  have e35 : runC.sl.r_35 c arg2 harg2 arg4 harg4 arg6 harg6 arg7 harg7 arg8 harg8 b = (k0_pay34 b.bd2 b.fts24) := by
    unfold runC.sl.r_35
    rw [e5, e9]
  have e36 : runC.sl.r_36 c arg2 harg2 arg4 harg4 arg6 harg6 arg7 harg7 arg8 harg8 b = (k0_pay35 b.bd2 b.fts24) := by
    unfold runC.sl.r_36
    rw [e5, e9]
  have e37 : runC.sl.r_37 c arg6 harg6 b = (k0_pay36 b.bd2) := by
    unfold runC.sl.r_37
    rw [e5]
  have e38 : runC.sl.r_38 c arg2 harg2 arg4 harg4 arg7 harg7 arg8 harg8 b = (k0_pay37 b.fts24) := by
    unfold runC.sl.r_38
    rw [e9]
  have e39 : runC.sl.r_39 c arg2 harg2 arg4 harg4 arg6 harg6 arg7 harg7 arg8 harg8 b = (k0_pay38 (k0_pay36 b.bd2) (k0_pay37 b.fts24) (constant S128x128 .f32 0x00000000#32)) := by
    unfold runC.sl.r_39 runC.sl.cst_77
    rw [e37, e38]
  have e40 : runC.sl.r_40 c arg2 harg2 arg4 harg4 arg6 harg6 arg7 harg7 arg8 harg8 b = (k0_pay39 b.bd2 b.fts24) := by
    unfold runC.sl.r_40
    rw [e5, e9]
  have e41 : runC.sl.r_41 c arg2 harg2 arg4 harg4 arg6 harg6 arg7 harg7 arg8 harg8 b = (k0_pay40 b.bd2 b.fts24) := by
    unfold runC.sl.r_41
    rw [e5, e9]
  have e42 : runC.sl.r_42 c arg2 harg2 arg4 harg4 arg6 harg6 arg7 harg7 arg8 harg8 b = (k0_pay41 b.bd2 b.fts24) := by
    unfold runC.sl.r_42
    rw [e5, e9]
  have e43 : runC.sl.r_43 c arg2 harg2 arg4 harg4 arg6 harg6 arg7 harg7 arg8 harg8 b = (k0_pay42 b.bd2 b.fts24) := by
    unfold runC.sl.r_43
    rw [e5, e9]
  have e44 : runC.sl.r_44 c arg2 harg2 arg4 harg4 arg6 harg6 arg7 harg7 arg8 harg8 b = (k0_pay43 b.bd2 b.fts24) := by
    unfold runC.sl.r_44
    rw [e5, e9]
  have e45 : runC.sl.r_45 c arg2 harg2 arg4 harg4 arg6 harg6 arg7 harg7 arg8 harg8 b = (k0_pay44 b.bd2 b.fts24) := by
    unfold runC.sl.r_45
    rw [e5, e9]
  have e46 : runC.sl.r_46 c arg2 harg2 arg4 harg4 arg6 harg6 arg7 harg7 arg8 harg8 b = (k0_pay45 b.bd2 b.fts24) := by
    unfold runC.sl.r_46
    rw [e5, e9]
  have e47 : runC.sl.r_47 c arg2 harg2 arg4 harg4 arg6 harg6 arg7 harg7 arg8 harg8 b = (k0_pay46 b.bd2 b.fts24) := by
    unfold runC.sl.r_47
    rw [e5, e9]
  have e48 : runC.sl.r_48 c arg2 harg2 arg4 harg4 arg6 harg6 arg7 harg7 arg8 harg8 b = (k0_pay47 b.bd2 b.fts24) := by
    unfold runC.sl.r_48
    rw [e5, e9]
  have e49 : runC.sl.r_49 c arg2 harg2 arg4 harg4 arg6 harg6 arg7 harg7 arg8 harg8 b = (k0_pay48 b.bd2 b.fts24) := by
    unfold runC.sl.r_49
    rw [e5, e9]
  have e50 : runC.sl.r_50 c arg2 harg2 arg4 harg4 arg6 harg6 arg7 harg7 arg8 harg8 b = (k0_pay49 b.bd2 b.fts24) := by
    unfold runC.sl.r_50
    rw [e5, e9]
  have e51 : runC.sl.r_51 c arg2 harg2 arg4 harg4 arg6 harg6 arg7 harg7 arg8 harg8 b = (k0_pay50 b.bd2 b.fts24) := by
    unfold runC.sl.r_51
    rw [e5, e9]
  have e52 : runC.sl.r_52 c arg2 harg2 arg4 harg4 arg6 harg6 arg7 harg7 arg8 harg8 b = (k0_pay51 b.bd2 b.fts24) := by
    unfold runC.sl.r_52
    rw [e5, e9]
  have e53 : runC.sl.r_53 c arg2 harg2 arg4 harg4 arg6 harg6 arg7 harg7 arg8 harg8 b = (k0_pay52 b.bd2 b.fts24) := by
    unfold runC.sl.r_53
    rw [e5, e9]
  have e54 : runC.sl.r_54 c arg6 harg6 b = (k0_pay53 b.bd2) := by
    unfold runC.sl.r_54
    rw [e5]
  have e55 : runC.sl.r_55 c arg2 harg2 arg4 harg4 arg7 harg7 arg8 harg8 b = (k0_pay54 b.fts24) := by
    unfold runC.sl.r_55
    rw [e9]
  have e56 : runC.sl.r_56 c arg2 harg2 arg4 harg4 arg6 harg6 arg7 harg7 arg8 harg8 b = b.agg24 := by
    unfold runC.sl.r_56 Blk.agg24 runC.sl.cst_77
    rw [e5, e9, e35, e36, e39, e40, e41, e42, e43, e44, e45, e46, e47, e48, e49, e50, e51, e52, e53, e54, e55]
  have e57 : runC.sl.r_57 c arg1 harg1 arg3 harg3 arg5 harg5 arg7 harg7 arg8 harg8 arg9 harg9 arg10 harg10 b = (k0_pay56 b.h13) := by
    unfold runC.sl.r_57
    rw [e34]
  have e58 : runC.sl.r_58 c arg2 harg2 arg4 harg4 arg6 harg6 arg7 harg7 arg8 harg8 arg9 harg9 arg10 harg10 b = b.hb24 := by
    unfold runC.sl.r_58 Blk.hb24
    rw [e0, e56, hx8]
  have e59 : runC.sl.r_59 c arg18 harg18 b = (k0_pay58 b.x17) := by
    unfold runC.sl.r_59
    rw [hx17]
  have e60 : runC.sl.r_60 c arg1 harg1 arg3 harg3 arg5 harg5 arg7 harg7 arg8 harg8 arg9 harg9 arg10 harg10 arg18 harg18 b = (k0_pay59 b.h13 b.x17) := by
    unfold runC.sl.r_60
    rw [e34, hx17]
  have e61 : runC.sl.r_61 c arg1 harg1 arg3 harg3 arg5 harg5 arg7 harg7 arg8 harg8 arg9 harg9 arg10 harg10 arg18 harg18 b = (k0_pay60 b.h13 b.x17) := by
    unfold runC.sl.r_61
    rw [e34, hx17]
  have e62 : runC.sl.r_62 c arg1 harg1 arg3 harg3 arg5 harg5 arg7 harg7 arg8 harg8 arg9 harg9 arg10 harg10 arg18 harg18 b = (k0_pay61 b.h13 b.x17) := by
    unfold runC.sl.r_62
    rw [e34, hx17]
  have e63 : runC.sl.r_63 c arg1 harg1 arg3 harg3 arg5 harg5 arg7 harg7 arg8 harg8 arg9 harg9 arg10 harg10 arg18 harg18 b = (k0_pay62 b.h13 b.x17) := by
    unfold runC.sl.r_63
    rw [e34, hx17]
  have e64 : runC.sl.r_64 c arg1 harg1 arg3 harg3 arg5 harg5 arg7 harg7 arg8 harg8 arg9 harg9 arg10 harg10 arg18 harg18 b = (k0_pay63 b.h13 b.x17) := by
    unfold runC.sl.r_64
    rw [e34, hx17]
  have e65 : runC.sl.r_65 c arg1 harg1 arg3 harg3 arg5 harg5 arg7 harg7 arg8 harg8 arg9 harg9 arg10 harg10 arg18 harg18 b = (k0_pay64 b.h13 b.x17) := by
    unfold runC.sl.r_65
    rw [e34, hx17]
  have e66 : runC.sl.r_66 c arg1 harg1 arg3 harg3 arg5 harg5 arg7 harg7 arg8 harg8 arg9 harg9 arg10 harg10 arg18 harg18 b = (k0_pay65 b.h13 b.x17) := by
    unfold runC.sl.r_66
    rw [e34, hx17]
  have e67 : runC.sl.r_67 c arg1 harg1 arg3 harg3 arg5 harg5 arg7 harg7 arg8 harg8 arg9 harg9 arg10 harg10 arg18 harg18 b = (k0_pay66 b.h13 b.x17) := by
    unfold runC.sl.r_67
    rw [e34, hx17]
  have e68 : runC.sl.r_68 c arg1 harg1 arg3 harg3 arg5 harg5 arg7 harg7 arg8 harg8 arg9 harg9 arg10 harg10 arg18 harg18 b = (k0_pay67 b.h13 b.x17) := by
    unfold runC.sl.r_68
    rw [e34, hx17]
  have e69 : runC.sl.r_69 c arg1 harg1 arg3 harg3 arg5 harg5 arg7 harg7 arg8 harg8 arg9 harg9 arg10 harg10 arg18 harg18 b = (k0_pay68 b.h13 b.x17) := by
    unfold runC.sl.r_69
    rw [e34, hx17]
  have e70 : runC.sl.r_70 c arg1 harg1 arg3 harg3 arg5 harg5 arg7 harg7 arg8 harg8 arg9 harg9 arg10 harg10 arg18 harg18 b = (k0_pay69 b.h13 b.x17) := by
    unfold runC.sl.r_70
    rw [e34, hx17]
  have e71 : runC.sl.r_71 c arg1 harg1 arg3 harg3 arg5 harg5 arg7 harg7 arg8 harg8 arg9 harg9 arg10 harg10 arg18 harg18 b = (k0_pay70 b.h13 b.x17) := by
    unfold runC.sl.r_71
    rw [e34, hx17]
  have e72 : runC.sl.r_72 c arg1 harg1 arg3 harg3 arg5 harg5 arg7 harg7 arg8 harg8 arg9 harg9 arg10 harg10 arg18 harg18 b = (k0_pay71 b.h13 b.x17) := by
    unfold runC.sl.r_72
    rw [e34, hx17]
  have e73 : runC.sl.r_73 c arg1 harg1 arg3 harg3 arg5 harg5 arg7 harg7 arg8 harg8 arg9 harg9 arg10 harg10 arg18 harg18 b = (k0_pay72 b.h13 b.x17) := by
    unfold runC.sl.r_73
    rw [e34, hx17]
  have e74 : runC.sl.r_74 c arg1 harg1 arg3 harg3 arg5 harg5 arg7 harg7 arg8 harg8 arg9 harg9 arg10 harg10 arg18 harg18 b = (k0_pay73 b.h13 b.x17) := by
    unfold runC.sl.r_74
    rw [e34, hx17]
  have e75 : runC.sl.r_75 c arg1 harg1 arg3 harg3 arg5 harg5 arg7 harg7 arg8 harg8 arg9 harg9 arg10 harg10 b = (k0_pay74 b.h13) := by
    unfold runC.sl.r_75
    rw [e34]
  have e76 : runC.sl.r_76 c arg1 harg1 arg3 harg3 arg5 harg5 arg7 harg7 arg8 harg8 arg9 harg9 arg10 harg10 arg18 harg18 b = (k0_pay75 (k0_pay58 b.x17) (k0_pay74 b.h13) (constant S32x128 .f32 0x00000000#32)) := by
    unfold runC.sl.r_76 runC.sl.cst_126
    rw [e59, e75]
  have e77 : runC.sl.r_77 c arg1 harg1 arg3 harg3 arg5 harg5 arg7 harg7 arg8 harg8 arg9 harg9 arg10 harg10 arg18 harg18 b = (k0_pay76 (k0_pay56 b.h13) (k0_pay58 b.x17)) := by
    unfold runC.sl.r_77
    rw [e57, e59]
  have e78 : runC.sl.r_78 c arg1 harg1 arg3 harg3 arg5 harg5 arg7 harg7 arg8 harg8 arg9 harg9 arg10 harg10 arg18 harg18 b = (k0_pay77 (k0_pay56 b.h13) (k0_pay58 b.x17)) := by
    unfold runC.sl.r_78
    rw [e57, e59]
  have e79 : runC.sl.r_79 c arg1 harg1 arg3 harg3 arg5 harg5 arg7 harg7 arg8 harg8 arg9 harg9 arg10 harg10 arg18 harg18 b = (k0_pay78 (k0_pay56 b.h13) (k0_pay58 b.x17)) := by
    unfold runC.sl.r_79
    rw [e57, e59]
  have e80 : runC.sl.r_80 c arg1 harg1 arg3 harg3 arg5 harg5 arg7 harg7 arg8 harg8 arg9 harg9 arg10 harg10 arg18 harg18 b = (k0_pay79 (k0_pay56 b.h13) (k0_pay58 b.x17)) := by
    unfold runC.sl.r_80
    rw [e57, e59]
  have e81 : runC.sl.r_81 c arg1 harg1 arg3 harg3 arg5 harg5 arg7 harg7 arg8 harg8 arg9 harg9 arg10 harg10 arg18 harg18 b = (k0_pay80 (k0_pay56 b.h13) (k0_pay58 b.x17)) := by
    unfold runC.sl.r_81
    rw [e57, e59]
  have e82 : runC.sl.r_82 c arg1 harg1 arg3 harg3 arg5 harg5 arg7 harg7 arg8 harg8 arg9 harg9 arg10 harg10 arg18 harg18 b = (k0_pay81 (k0_pay56 b.h13) (k0_pay58 b.x17)) := by
    unfold runC.sl.r_82
    rw [e57, e59]
  have e83 : runC.sl.r_83 c arg1 harg1 arg3 harg3 arg5 harg5 arg7 harg7 arg8 harg8 arg9 harg9 arg10 harg10 arg18 harg18 b = (k0_pay82 (k0_pay56 b.h13) (k0_pay58 b.x17)) := by
    unfold runC.sl.r_83
    rw [e57, e59]
  have e84 : runC.sl.r_84 c arg1 harg1 arg3 harg3 arg5 harg5 arg7 harg7 arg8 harg8 arg9 harg9 arg10 harg10 arg18 harg18 b = (k0_pay83 (k0_pay56 b.h13) (k0_pay58 b.x17)) := by
    unfold runC.sl.r_84
    rw [e57, e59]
  have e85 : runC.sl.r_85 c arg1 harg1 arg3 harg3 arg5 harg5 arg7 harg7 arg8 harg8 arg9 harg9 arg10 harg10 arg18 harg18 b = (k0_pay84 (k0_pay56 b.h13) (k0_pay58 b.x17)) := by
    unfold runC.sl.r_85
    rw [e57, e59]
  have e86 : runC.sl.r_86 c arg1 harg1 arg3 harg3 arg5 harg5 arg7 harg7 arg8 harg8 arg9 harg9 arg10 harg10 arg18 harg18 b = (k0_pay85 (k0_pay56 b.h13) (k0_pay58 b.x17)) := by
    unfold runC.sl.r_86
    rw [e57, e59]
  have e87 : runC.sl.r_87 c arg1 harg1 arg3 harg3 arg5 harg5 arg7 harg7 arg8 harg8 arg9 harg9 arg10 harg10 arg18 harg18 b = (k0_pay86 (k0_pay56 b.h13) (k0_pay58 b.x17)) := by
    unfold runC.sl.r_87
    rw [e57, e59]
  have e88 : runC.sl.r_88 c arg1 harg1 arg3 harg3 arg5 harg5 arg7 harg7 arg8 harg8 arg9 harg9 arg10 harg10 arg18 harg18 b = (k0_pay87 (k0_pay56 b.h13) (k0_pay58 b.x17)) := by
    unfold runC.sl.r_88
    rw [e57, e59]
  have e89 : runC.sl.r_89 c arg1 harg1 arg3 harg3 arg5 harg5 arg7 harg7 arg8 harg8 arg9 harg9 arg10 harg10 arg18 harg18 b = (k0_pay88 (k0_pay56 b.h13) (k0_pay58 b.x17)) := by
    unfold runC.sl.r_89
    rw [e57, e59]
  have e90 : runC.sl.r_90 c arg1 harg1 arg3 harg3 arg5 harg5 arg7 harg7 arg8 harg8 arg9 harg9 arg10 harg10 arg18 harg18 b = (k0_pay89 (k0_pay56 b.h13) (k0_pay58 b.x17)) := by
    unfold runC.sl.r_90
    rw [e57, e59]
  have e91 : runC.sl.r_91 c arg1 harg1 arg3 harg3 arg5 harg5 arg7 harg7 arg8 harg8 arg9 harg9 arg10 harg10 arg18 harg18 b = (k0_pay90 (k0_pay56 b.h13) (k0_pay58 b.x17)) := by
    unfold runC.sl.r_91
    rw [e57, e59]
  have e92 : runC.sl.r_92 c arg1 harg1 arg3 harg3 arg5 harg5 arg7 harg7 arg8 harg8 arg9 harg9 arg10 harg10 arg18 harg18 b = (k0_pay91 (k0_pay56 b.h13) (k0_pay58 b.x17)) := by
    unfold runC.sl.r_92
    rw [e57, e59]
  have e93 : runC.sl.r_93 c arg1 harg1 arg3 harg3 arg5 harg5 arg7 harg7 arg8 harg8 arg9 harg9 arg10 harg10 arg18 harg18 b = (k0_pay92 (k0_pay59 b.h13 b.x17)) := by
    unfold runC.sl.r_93
    rw [e60]
  have e94 : runC.sl.r_94 c arg1 harg1 arg3 harg3 arg5 harg5 arg7 harg7 arg8 harg8 arg9 harg9 arg10 harg10 arg18 harg18 b = (k0_pay93 (k0_pay60 b.h13 b.x17)) := by
    unfold runC.sl.r_94
    rw [e61]
  have e95 : runC.sl.r_95 c arg1 harg1 arg3 harg3 arg5 harg5 arg7 harg7 arg8 harg8 arg9 harg9 arg10 harg10 arg18 harg18 b = (k0_pay94 (k0_pay61 b.h13 b.x17)) := by
    unfold runC.sl.r_95
    rw [e62]
  have e96 : runC.sl.r_96 c arg1 harg1 arg3 harg3 arg5 harg5 arg7 harg7 arg8 harg8 arg9 harg9 arg10 harg10 arg18 harg18 b = (k0_pay95 (k0_pay62 b.h13 b.x17)) := by
    unfold runC.sl.r_96
    rw [e63]
  have e97 : runC.sl.r_97 c arg1 harg1 arg3 harg3 arg5 harg5 arg7 harg7 arg8 harg8 arg9 harg9 arg10 harg10 arg18 harg18 b = (k0_pay96 (k0_pay63 b.h13 b.x17)) := by
    unfold runC.sl.r_97
    rw [e64]
  have e98 : runC.sl.r_98 c arg1 harg1 arg3 harg3 arg5 harg5 arg7 harg7 arg8 harg8 arg9 harg9 arg10 harg10 arg18 harg18 b = (k0_pay97 (k0_pay64 b.h13 b.x17)) := by
    unfold runC.sl.r_98
    rw [e65]
  have e99 : runC.sl.r_99 c arg1 harg1 arg3 harg3 arg5 harg5 arg7 harg7 arg8 harg8 arg9 harg9 arg10 harg10 arg18 harg18 b = (k0_pay98 (k0_pay65 b.h13 b.x17)) := by
    unfold runC.sl.r_99
    rw [e66]
  have e100 : runC.sl.r_100 c arg1 harg1 arg3 harg3 arg5 harg5 arg7 harg7 arg8 harg8 arg9 harg9 arg10 harg10 arg18 harg18 b = (k0_pay99 (k0_pay66 b.h13 b.x17)) := by
    unfold runC.sl.r_100
    rw [e67]
  have e101 : runC.sl.r_101 c arg1 harg1 arg3 harg3 arg5 harg5 arg7 harg7 arg8 harg8 arg9 harg9 arg10 harg10 arg18 harg18 b = (k0_pay100 (k0_pay67 b.h13 b.x17)) := by
    unfold runC.sl.r_101
    rw [e68]
  have e102 : runC.sl.r_102 c arg1 harg1 arg3 harg3 arg5 harg5 arg7 harg7 arg8 harg8 arg9 harg9 arg10 harg10 arg18 harg18 b = (k0_pay101 (k0_pay68 b.h13 b.x17)) := by
    unfold runC.sl.r_102
    rw [e69]
  have e103 : runC.sl.r_103 c arg1 harg1 arg3 harg3 arg5 harg5 arg7 harg7 arg8 harg8 arg9 harg9 arg10 harg10 arg18 harg18 b = (k0_pay102 (k0_pay69 b.h13 b.x17)) := by
    unfold runC.sl.r_103
    rw [e70]
  have e104 : runC.sl.r_104 c arg1 harg1 arg3 harg3 arg5 harg5 arg7 harg7 arg8 harg8 arg9 harg9 arg10 harg10 arg18 harg18 b = b.sum13 := by
    unfold runC.sl.r_104 Blk.sum13
    rw [e71, e72, e73, e74, e76, e77, e78, e79, e80, e81, e82, e83, e84, e85, e86, e87, e88, e89, e90, e91, e92, e93, e94, e95, e96, e97, e98, e99, e100, e101, e102, e103]
  have e105 : runC.sl.r_105 c arg1 harg1 arg3 harg3 arg5 harg5 arg7 harg7 arg8 harg8 arg9 harg9 arg10 harg10 arg18 harg18 b = b.hm13 := by
    unfold runC.sl.r_105 Blk.hm13
    rw [e60, e61, e62, e63, e64, e65, e66, e67, e68, e69, e70, e71, e72, e73, e74, e76, e77, e78, e79, e80, e81, e82, e83, e84, e85, e86, e87, e88, e89, e90, e91, e92]
  have e106 : runC.sl.r_106 c arg2 harg2 arg4 harg4 arg6 harg6 arg7 harg7 arg8 harg8 arg9 harg9 arg10 harg10 arg18 harg18 b = (k0_pay105 b.hb24 (k0_pay58 b.x17)) := by
    unfold runC.sl.r_106
    rw [e58, e59]
  have e107 : runC.sl.r_107 c arg2 harg2 arg4 harg4 arg6 harg6 arg7 harg7 arg8 harg8 arg9 harg9 arg10 harg10 b = (k0_pay106 b.hb24) := by
    unfold runC.sl.r_107
    rw [e58]
  have e108 : runC.sl.r_108 c arg2 harg2 arg4 harg4 arg6 harg6 arg7 harg7 arg8 harg8 arg9 harg9 arg10 harg10 arg18 harg18 b = (k0_pay107 (k0_pay58 b.x17) (k0_pay106 b.hb24) (constant S32x128 .f32 0x00000000#32)) := by
    unfold runC.sl.r_108 runC.sl.cst_126
    rw [e59, e107]
  have e109 : runC.sl.r_109 c arg2 harg2 arg4 harg4 arg6 harg6 arg7 harg7 arg8 harg8 arg9 harg9 arg10 harg10 arg18 harg18 b = (k0_pay108 b.hb24 (k0_pay58 b.x17)) := by
    unfold runC.sl.r_109
    rw [e58, e59]
  have e110 : runC.sl.r_110 c arg2 harg2 arg4 harg4 arg6 harg6 arg7 harg7 arg8 harg8 arg9 harg9 arg10 harg10 arg18 harg18 b = (k0_pay109 b.hb24 (k0_pay58 b.x17)) := by
    unfold runC.sl.r_110
    rw [e58, e59]
  have e111 : runC.sl.r_111 c arg2 harg2 arg4 harg4 arg6 harg6 arg7 harg7 arg8 harg8 arg9 harg9 arg10 harg10 arg18 harg18 b = (k0_pay110 b.hb24 (k0_pay58 b.x17)) := by
    unfold runC.sl.r_111
    rw [e58, e59]
  have e112 : runC.sl.r_112 c arg2 harg2 arg4 harg4 arg6 harg6 arg7 harg7 arg8 harg8 arg9 harg9 arg10 harg10 arg18 harg18 b = (k0_pay111 b.hb24 (k0_pay58 b.x17)) := by
    unfold runC.sl.r_112
    rw [e58, e59]
  have e113 : runC.sl.r_113 c arg2 harg2 arg4 harg4 arg6 harg6 arg7 harg7 arg8 harg8 arg9 harg9 arg10 harg10 arg18 harg18 b = (k0_pay112 b.hb24 (k0_pay58 b.x17)) := by
    unfold runC.sl.r_113
    rw [e58, e59]
  have e114 : runC.sl.r_114 c arg2 harg2 arg4 harg4 arg6 harg6 arg7 harg7 arg8 harg8 arg9 harg9 arg10 harg10 arg18 harg18 b = (k0_pay113 b.hb24 (k0_pay58 b.x17)) := by
    unfold runC.sl.r_114
    rw [e58, e59]
  have e115 : runC.sl.r_115 c arg2 harg2 arg4 harg4 arg6 harg6 arg7 harg7 arg8 harg8 arg9 harg9 arg10 harg10 arg18 harg18 b = (k0_pay114 b.hb24 (k0_pay58 b.x17)) := by
    unfold runC.sl.r_115
    rw [e58, e59]
  have e116 : runC.sl.r_116 c arg2 harg2 arg4 harg4 arg6 harg6 arg7 harg7 arg8 harg8 arg9 harg9 arg10 harg10 arg18 harg18 b = (k0_pay115 b.hb24 (k0_pay58 b.x17)) := by
    unfold runC.sl.r_116
    rw [e58, e59]
  have e117 : runC.sl.r_117 c arg2 harg2 arg4 harg4 arg6 harg6 arg7 harg7 arg8 harg8 arg9 harg9 arg10 harg10 arg18 harg18 b = (k0_pay116 b.hb24 (k0_pay58 b.x17)) := by
    unfold runC.sl.r_117
    rw [e58, e59]
  have e118 : runC.sl.r_118 c arg2 harg2 arg4 harg4 arg6 harg6 arg7 harg7 arg8 harg8 arg9 harg9 arg10 harg10 arg18 harg18 b = (k0_pay117 b.hb24 (k0_pay58 b.x17)) := by
    unfold runC.sl.r_118
    rw [e58, e59]
  have e119 : runC.sl.r_119 c arg2 harg2 arg4 harg4 arg6 harg6 arg7 harg7 arg8 harg8 arg9 harg9 arg10 harg10 arg18 harg18 b = (k0_pay118 b.hb24 (k0_pay58 b.x17)) := by
    unfold runC.sl.r_119
    rw [e58, e59]
  have e120 : runC.sl.r_120 c arg2 harg2 arg4 harg4 arg6 harg6 arg7 harg7 arg8 harg8 arg9 harg9 arg10 harg10 arg18 harg18 b = (k0_pay119 b.hb24 (k0_pay58 b.x17)) := by
    unfold runC.sl.r_120
    rw [e58, e59]
  have e121 : runC.sl.r_121 c arg2 harg2 arg4 harg4 arg6 harg6 arg7 harg7 arg8 harg8 arg9 harg9 arg10 harg10 arg18 harg18 b = (k0_pay120 b.hb24 (k0_pay58 b.x17)) := by
    unfold runC.sl.r_121
    rw [e58, e59]
  have e122 : runC.sl.r_122 c arg2 harg2 arg4 harg4 arg6 harg6 arg7 harg7 arg8 harg8 arg9 harg9 arg10 harg10 arg18 harg18 b = (k0_pay121 b.hb24 (k0_pay58 b.x17)) := by
    unfold runC.sl.r_122
    rw [e58, e59]
  have e123 : runC.sl.r_123 c arg2 harg2 arg4 harg4 arg6 harg6 arg7 harg7 arg8 harg8 arg9 harg9 arg10 harg10 arg18 harg18 b = (k0_pay122 b.hb24 (k0_pay58 b.x17)) := by
    unfold runC.sl.r_123
    rw [e58, e59]
  have e124 : runC.sl.r_124 c arg2 harg2 arg4 harg4 arg6 harg6 arg7 harg7 arg8 harg8 arg9 harg9 arg10 harg10 arg18 harg18 b = (k0_pay123 b.hb24 (k0_pay58 b.x17)) := by
    unfold runC.sl.r_124
    rw [e58, e59]
  have e125 : runC.sl.r_125 c arg2 harg2 arg4 harg4 arg6 harg6 arg7 harg7 arg8 harg8 arg9 harg9 arg10 harg10 arg18 harg18 b = (k0_pay124 b.hb24 (k0_pay58 b.x17)) := by
    unfold runC.sl.r_125
    rw [e58, e59]
  have e126 : runC.sl.r_126 c arg2 harg2 arg4 harg4 arg6 harg6 arg7 harg7 arg8 harg8 arg9 harg9 arg10 harg10 arg18 harg18 b = (k0_pay125 b.hb24 (k0_pay58 b.x17)) := by
    unfold runC.sl.r_126
    rw [e58, e59]
  have e127 : runC.sl.r_127 c arg2 harg2 arg4 harg4 arg6 harg6 arg7 harg7 arg8 harg8 arg9 harg9 arg10 harg10 arg18 harg18 b = (k0_pay126 b.hb24 (k0_pay58 b.x17)) := by
    unfold runC.sl.r_127
    rw [e58, e59]
  have e128 : runC.sl.r_128 c arg2 harg2 arg4 harg4 arg6 harg6 arg7 harg7 arg8 harg8 arg9 harg9 arg10 harg10 b = (k0_pay127 b.hb24) := by
    unfold runC.sl.r_128
    rw [e58]
  have e129 : runC.sl.r_129 c arg2 harg2 arg4 harg4 arg6 harg6 arg7 harg7 arg8 harg8 arg9 harg9 arg10 harg10 arg18 harg18 b = (k0_pay128 (k0_pay58 b.x17) (k0_pay127 b.hb24) (constant S32x128 .f32 0x00000000#32)) := by
    unfold runC.sl.r_129 runC.sl.cst_126
    rw [e59, e128]
  have e130 : runC.sl.r_130 c arg2 harg2 arg4 harg4 arg6 harg6 arg7 harg7 arg8 harg8 arg9 harg9 arg10 harg10 arg18 harg18 b = (k0_pay129 b.hb24 (k0_pay58 b.x17)) := by
    unfold runC.sl.r_130
    rw [e58, e59]
  have e131 : runC.sl.r_131 c arg2 harg2 arg4 harg4 arg6 harg6 arg7 harg7 arg8 harg8 arg9 harg9 arg10 harg10 arg18 harg18 b = (k0_pay130 b.hb24 (k0_pay58 b.x17)) := by
    unfold runC.sl.r_131
    rw [e58, e59]
  have e132 : runC.sl.r_132 c arg2 harg2 arg4 harg4 arg6 harg6 arg7 harg7 arg8 harg8 arg9 harg9 arg10 harg10 arg18 harg18 b = (k0_pay131 b.hb24 (k0_pay58 b.x17)) := by
    unfold runC.sl.r_132
    rw [e58, e59]
  have e133 : runC.sl.r_133 c arg2 harg2 arg4 harg4 arg6 harg6 arg7 harg7 arg8 harg8 arg9 harg9 arg10 harg10 arg18 harg18 b = (k0_pay132 b.hb24 (k0_pay58 b.x17)) := by
    unfold runC.sl.r_133
    rw [e58, e59]
  have e134 : runC.sl.r_134 c arg2 harg2 arg4 harg4 arg6 harg6 arg7 harg7 arg8 harg8 arg9 harg9 arg10 harg10 arg18 harg18 b = (k0_pay133 b.hb24 (k0_pay58 b.x17)) := by
    unfold runC.sl.r_134
    rw [e58, e59]
  have e135 : runC.sl.r_135 c arg2 harg2 arg4 harg4 arg6 harg6 arg7 harg7 arg8 harg8 arg9 harg9 arg10 harg10 arg18 harg18 b = (k0_pay134 b.hb24 (k0_pay58 b.x17)) := by
    unfold runC.sl.r_135
    rw [e58, e59]
  have e136 : runC.sl.r_136 c arg2 harg2 arg4 harg4 arg6 harg6 arg7 harg7 arg8 harg8 arg9 harg9 arg10 harg10 arg18 harg18 b = (k0_pay135 b.hb24 (k0_pay58 b.x17)) := by
    unfold runC.sl.r_136
    rw [e58, e59]
  have e137 : runC.sl.r_137 c arg2 harg2 arg4 harg4 arg6 harg6 arg7 harg7 arg8 harg8 arg9 harg9 arg10 harg10 arg18 harg18 b = (k0_pay136 b.hb24 (k0_pay58 b.x17)) := by
    unfold runC.sl.r_137
    rw [e58, e59]
  have e138 : runC.sl.r_138 c arg2 harg2 arg4 harg4 arg6 harg6 arg7 harg7 arg8 harg8 arg9 harg9 arg10 harg10 arg18 harg18 b = (k0_pay137 b.hb24 (k0_pay58 b.x17)) := by
    unfold runC.sl.r_138
    rw [e58, e59]
  have e139 : runC.sl.r_139 c arg2 harg2 arg4 harg4 arg6 harg6 arg7 harg7 arg8 harg8 arg9 harg9 arg10 harg10 arg18 harg18 b = (k0_pay138 b.hb24 (k0_pay58 b.x17)) := by
    unfold runC.sl.r_139
    rw [e58, e59]
  have e140 : runC.sl.r_140 c arg2 harg2 arg4 harg4 arg6 harg6 arg7 harg7 arg8 harg8 arg9 harg9 arg10 harg10 arg18 harg18 b = (k0_pay139 (k0_pay105 b.hb24 (k0_pay58 b.x17))) := by
    unfold runC.sl.r_140
    rw [e106]
  have e141 : runC.sl.r_141 c arg2 harg2 arg4 harg4 arg6 harg6 arg7 harg7 arg8 harg8 arg9 harg9 arg10 harg10 arg18 harg18 b = (k0_pay140 (k0_pay107 (k0_pay58 b.x17) (k0_pay106 b.hb24) (constant S32x128 .f32 0x00000000#32))) := by
    unfold runC.sl.r_141
    rw [e108]
  have e142 : runC.sl.r_142 c arg2 harg2 arg4 harg4 arg6 harg6 arg7 harg7 arg8 harg8 arg9 harg9 arg10 harg10 arg18 harg18 b = (k0_pay141 (k0_pay108 b.hb24 (k0_pay58 b.x17))) := by
    unfold runC.sl.r_142
    rw [e109]
  have e143 : runC.sl.r_143 c arg2 harg2 arg4 harg4 arg6 harg6 arg7 harg7 arg8 harg8 arg9 harg9 arg10 harg10 arg18 harg18 b = (k0_pay142 (k0_pay109 b.hb24 (k0_pay58 b.x17))) := by
    unfold runC.sl.r_143
    rw [e110]
  have e144 : runC.sl.r_144 c arg2 harg2 arg4 harg4 arg6 harg6 arg7 harg7 arg8 harg8 arg9 harg9 arg10 harg10 arg18 harg18 b = (k0_pay143 (k0_pay110 b.hb24 (k0_pay58 b.x17))) := by
    unfold runC.sl.r_144
    rw [e111]
  have e145 : runC.sl.r_145 c arg2 harg2 arg4 harg4 arg6 harg6 arg7 harg7 arg8 harg8 arg9 harg9 arg10 harg10 arg18 harg18 b = (k0_pay144 (k0_pay111 b.hb24 (k0_pay58 b.x17))) := by
    unfold runC.sl.r_145
    rw [e112]
  have e146 : runC.sl.r_146 c arg2 harg2 arg4 harg4 arg6 harg6 arg7 harg7 arg8 harg8 arg9 harg9 arg10 harg10 arg18 harg18 b = (k0_pay145 (k0_pay112 b.hb24 (k0_pay58 b.x17))) := by
    unfold runC.sl.r_146
    rw [e113]
  have e147 : runC.sl.r_147 c arg2 harg2 arg4 harg4 arg6 harg6 arg7 harg7 arg8 harg8 arg9 harg9 arg10 harg10 arg18 harg18 b = (k0_pay146 (k0_pay113 b.hb24 (k0_pay58 b.x17))) := by
    unfold runC.sl.r_147
    rw [e114]
  have e148 : runC.sl.r_148 c arg2 harg2 arg4 harg4 arg6 harg6 arg7 harg7 arg8 harg8 arg9 harg9 arg10 harg10 arg18 harg18 b = (k0_pay147 (k0_pay114 b.hb24 (k0_pay58 b.x17))) := by
    unfold runC.sl.r_148
    rw [e115]
  have e149 : runC.sl.r_149 c arg2 harg2 arg4 harg4 arg6 harg6 arg7 harg7 arg8 harg8 arg9 harg9 arg10 harg10 arg18 harg18 b = (k0_pay148 (k0_pay115 b.hb24 (k0_pay58 b.x17))) := by
    unfold runC.sl.r_149
    rw [e116]
  have e150 : runC.sl.r_150 c arg2 harg2 arg4 harg4 arg6 harg6 arg7 harg7 arg8 harg8 arg9 harg9 arg10 harg10 arg18 harg18 b = (k0_pay149 (k0_pay116 b.hb24 (k0_pay58 b.x17))) := by
    unfold runC.sl.r_150
    rw [e117]
  have e151 : runC.sl.r_151 c arg2 harg2 arg4 harg4 arg6 harg6 arg7 harg7 arg8 harg8 arg9 harg9 arg10 harg10 arg18 harg18 b = (k0_pay150 (k0_pay117 b.hb24 (k0_pay58 b.x17))) := by
    unfold runC.sl.r_151
    rw [e118]
  have e152 : runC.sl.r_152 c arg2 harg2 arg4 harg4 arg6 harg6 arg7 harg7 arg8 harg8 arg9 harg9 arg10 harg10 arg18 harg18 b = (k0_pay151 (k0_pay118 b.hb24 (k0_pay58 b.x17))) := by
    unfold runC.sl.r_152
    rw [e119]
  have e153 : runC.sl.r_153 c arg2 harg2 arg4 harg4 arg6 harg6 arg7 harg7 arg8 harg8 arg9 harg9 arg10 harg10 arg18 harg18 b = (k0_pay152 (k0_pay119 b.hb24 (k0_pay58 b.x17))) := by
    unfold runC.sl.r_153
    rw [e120]
  have e154 : runC.sl.r_154 c arg2 harg2 arg4 harg4 arg6 harg6 arg7 harg7 arg8 harg8 arg9 harg9 arg10 harg10 arg18 harg18 b = (k0_pay153 (k0_pay120 b.hb24 (k0_pay58 b.x17))) := by
    unfold runC.sl.r_154
    rw [e121]
  have e155 : runC.sl.r_155 c arg2 harg2 arg4 harg4 arg6 harg6 arg7 harg7 arg8 harg8 arg9 harg9 arg10 harg10 arg18 harg18 b = (k0_pay154 (k0_pay121 b.hb24 (k0_pay58 b.x17))) := by
    unfold runC.sl.r_155
    rw [e122]
  have e156 : runC.sl.r_156 c arg2 harg2 arg4 harg4 arg6 harg6 arg7 harg7 arg8 harg8 arg9 harg9 arg10 harg10 arg18 harg18 b = (k0_pay155 (k0_pay122 b.hb24 (k0_pay58 b.x17))) := by
    unfold runC.sl.r_156
    rw [e123]
  have e157 : runC.sl.r_157 c arg2 harg2 arg4 harg4 arg6 harg6 arg7 harg7 arg8 harg8 arg9 harg9 arg10 harg10 arg18 harg18 b = (k0_pay156 (k0_pay123 b.hb24 (k0_pay58 b.x17))) := by
    unfold runC.sl.r_157
    rw [e124]
  have e158 : runC.sl.r_158 c arg2 harg2 arg4 harg4 arg6 harg6 arg7 harg7 arg8 harg8 arg9 harg9 arg10 harg10 arg18 harg18 b = (k0_pay157 (k0_pay124 b.hb24 (k0_pay58 b.x17))) := by
    unfold runC.sl.r_158
    rw [e125]
  have e159 : runC.sl.r_159 c arg2 harg2 arg4 harg4 arg6 harg6 arg7 harg7 arg8 harg8 arg9 harg9 arg10 harg10 arg18 harg18 b = (k0_pay158 (k0_pay125 b.hb24 (k0_pay58 b.x17))) := by
    unfold runC.sl.r_159
    rw [e126]
  have e160 : runC.sl.r_160 c arg2 harg2 arg4 harg4 arg6 harg6 arg7 harg7 arg8 harg8 arg9 harg9 arg10 harg10 arg18 harg18 b = (k0_pay159 (k0_pay126 b.hb24 (k0_pay58 b.x17))) := by
    unfold runC.sl.r_160
    rw [e127]
  have e161 : runC.sl.r_161 c arg2 harg2 arg4 harg4 arg6 harg6 arg7 harg7 arg8 harg8 arg9 harg9 arg10 harg10 arg18 harg18 b = (k0_pay160 (k0_pay58 b.x17) (k0_pay127 b.hb24) (constant S32x128 .f32 0x00000000#32)) := by
    unfold runC.sl.r_161 runC.sl.cst_126
    rw [e59, e128]
  have e162 : runC.sl.r_162 c arg2 harg2 arg4 harg4 arg6 harg6 arg7 harg7 arg8 harg8 arg9 harg9 arg10 harg10 arg18 harg18 b = (k0_pay161 b.hb24 (k0_pay58 b.x17)) := by
    unfold runC.sl.r_162
    rw [e58, e59]
  have e163 : runC.sl.r_163 c arg2 harg2 arg4 harg4 arg6 harg6 arg7 harg7 arg8 harg8 arg9 harg9 arg10 harg10 arg18 harg18 b = (k0_pay162 b.hb24 (k0_pay58 b.x17)) := by
    unfold runC.sl.r_163
    rw [e58, e59]
  have e164 : runC.sl.r_164 c arg2 harg2 arg4 harg4 arg6 harg6 arg7 harg7 arg8 harg8 arg9 harg9 arg10 harg10 arg18 harg18 b = (k0_pay163 b.hb24 (k0_pay58 b.x17)) := by
    unfold runC.sl.r_164
    rw [e58, e59]
  have e165 : runC.sl.r_165 c arg2 harg2 arg4 harg4 arg6 harg6 arg7 harg7 arg8 harg8 arg9 harg9 arg10 harg10 arg18 harg18 b = (k0_pay164 b.hb24 (k0_pay58 b.x17)) := by
    unfold runC.sl.r_165
    rw [e58, e59]
  have e166 : runC.sl.r_166 c arg2 harg2 arg4 harg4 arg6 harg6 arg7 harg7 arg8 harg8 arg9 harg9 arg10 harg10 arg18 harg18 b = (k0_pay165 b.hb24 (k0_pay58 b.x17)) := by
    unfold runC.sl.r_166
    rw [e58, e59]
  have e167 : runC.sl.r_167 c arg2 harg2 arg4 harg4 arg6 harg6 arg7 harg7 arg8 harg8 arg9 harg9 arg10 harg10 arg18 harg18 b = (k0_pay166 b.hb24 (k0_pay58 b.x17)) := by
    unfold runC.sl.r_167
    rw [e58, e59]
  have e168 : runC.sl.r_168 c arg2 harg2 arg4 harg4 arg6 harg6 arg7 harg7 arg8 harg8 arg9 harg9 arg10 harg10 arg18 harg18 b = (k0_pay167 b.hb24 (k0_pay58 b.x17)) := by
    unfold runC.sl.r_168
    rw [e58, e59]
  have e169 : runC.sl.r_169 c arg1 harg1 arg3 harg3 arg5 harg5 arg7 harg7 arg8 harg8 arg9 harg9 arg10 harg10 arg18 harg18 b = b.cc13 := by
    unfold runC.sl.r_169 Blk.cc13
    rw [e104]
  have e170 : runC.sl.r_170 c arg2 harg2 arg4 harg4 arg6 harg6 arg7 harg7 arg8 harg8 arg9 harg9 arg10 harg10 arg18 harg18 b = b.cc24 := by
    unfold runC.sl.r_170 Blk.cc24
    rw [e137, e138, e139, e140, e141, e142, e143, e144, e145, e146, e147, e148, e149, e150, e151, e152, e153, e154, e155, e156, e157, e158, e159, e160, e161, e162, e163, e164, e165, e166, e167, e168]
  have e171 : runC.sl.r_171 c arg2 harg2 arg4 harg4 arg6 harg6 arg7 harg7 arg8 harg8 arg9 harg9 arg10 harg10 arg14 harg14 arg18 harg18 b = b.m2 := by
    unfold runC.sl.r_171 Blk.m2
    rw [e106, e108, e109, e110, e111, e112, e113, e114, e115, e116, e117, e118, e119, e120, e121, e122, e123, e124, e125, e126, e127, e129, e130, e131, e132, e133, e134, e135, e136, e137, e138, e139, hx13]
  have e172 : runC.sl.r_172 c arg1 harg1 arg3 harg3 arg5 harg5 arg7 harg7 arg8 harg8 arg9 harg9 arg10 harg10 arg16 harg16 arg18 harg18 b = b.m1 := by
    unfold runC.sl.r_172 Blk.m1
    rw [e105, hx15]
  have e173 : runC.sl.r_173 c arg15 harg15 arg17 harg17 b = b.hbias := by
    unfold runC.sl.r_173 Blk.hbias
    rw [e2, e3]
  have e174 : runC.sl.r_174 c arg1 harg1 arg2 harg2 arg3 harg3 arg4 harg4 arg5 harg5 arg6 harg6 arg7 harg7 arg8 harg8 arg9 harg9 arg10 harg10 arg14 harg14 arg18 harg18 b = (k0_pay173 b.sum13 (k0_pay105 b.hb24 (k0_pay58 b.x17)) (k0_pay107 (k0_pay58 b.x17) (k0_pay106 b.hb24) (constant S32x128 .f32 0x00000000#32)) (k0_pay108 b.hb24 (k0_pay58 b.x17)) (k0_pay109 b.hb24 (k0_pay58 b.x17)) (k0_pay110 b.hb24 (k0_pay58 b.x17)) (k0_pay111 b.hb24 (k0_pay58 b.x17)) (k0_pay112 b.hb24 (k0_pay58 b.x17)) (k0_pay113 b.hb24 (k0_pay58 b.x17)) (k0_pay114 b.hb24 (k0_pay58 b.x17)) (k0_pay115 b.hb24 (k0_pay58 b.x17)) (k0_pay116 b.hb24 (k0_pay58 b.x17)) (k0_pay117 b.hb24 (k0_pay58 b.x17)) (k0_pay118 b.hb24 (k0_pay58 b.x17)) (k0_pay119 b.hb24 (k0_pay58 b.x17)) (k0_pay120 b.hb24 (k0_pay58 b.x17)) (k0_pay121 b.hb24 (k0_pay58 b.x17)) (k0_pay122 b.hb24 (k0_pay58 b.x17)) (k0_pay123 b.hb24 (k0_pay58 b.x17)) (k0_pay124 b.hb24 (k0_pay58 b.x17)) (k0_pay125 b.hb24 (k0_pay58 b.x17)) (k0_pay126 b.hb24 (k0_pay58 b.x17)) (k0_pay128 (k0_pay58 b.x17) (k0_pay127 b.hb24) (constant S32x128 .f32 0x00000000#32)) (k0_pay129 b.hb24 (k0_pay58 b.x17)) (k0_pay130 b.hb24 (k0_pay58 b.x17)) (k0_pay131 b.hb24 (k0_pay58 b.x17)) (k0_pay132 b.hb24 (k0_pay58 b.x17)) (k0_pay133 b.hb24 (k0_pay58 b.x17)) (k0_pay134 b.hb24 (k0_pay58 b.x17)) (k0_pay135 b.hb24 (k0_pay58 b.x17)) (k0_pay136 b.hb24 (k0_pay58 b.x17)) (k0_pay137 b.hb24 (k0_pay58 b.x17)) (k0_pay138 b.hb24 (k0_pay58 b.x17)) b.x13) := by
    unfold runC.sl.r_174
    rw [e104, e106, e108, e109, e110, e111, e112, e113, e114, e115, e116, e117, e118, e119, e120, e121, e122, e123, e124, e125, e126, e127, e129, e130, e131, e132, e133, e134, e135, e136, e137, e138, e139, hx13]
  have e175 : runC.sl.r_175 c arg1 harg1 arg2 harg2 arg3 harg3 arg4 harg4 arg5 harg5 arg6 harg6 arg7 harg7 arg8 harg8 arg9 harg9 arg10 harg10 arg16 harg16 arg18 harg18 b = (k0_pay174 b.hm13 (k0_pay136 b.hb24 (k0_pay58 b.x17)) (k0_pay137 b.hb24 (k0_pay58 b.x17)) (k0_pay138 b.hb24 (k0_pay58 b.x17)) (k0_pay139 (k0_pay105 b.hb24 (k0_pay58 b.x17))) (k0_pay140 (k0_pay107 (k0_pay58 b.x17) (k0_pay106 b.hb24) (constant S32x128 .f32 0x00000000#32))) (k0_pay141 (k0_pay108 b.hb24 (k0_pay58 b.x17))) (k0_pay142 (k0_pay109 b.hb24 (k0_pay58 b.x17))) (k0_pay143 (k0_pay110 b.hb24 (k0_pay58 b.x17))) (k0_pay144 (k0_pay111 b.hb24 (k0_pay58 b.x17))) (k0_pay145 (k0_pay112 b.hb24 (k0_pay58 b.x17))) (k0_pay146 (k0_pay113 b.hb24 (k0_pay58 b.x17))) (k0_pay147 (k0_pay114 b.hb24 (k0_pay58 b.x17))) (k0_pay148 (k0_pay115 b.hb24 (k0_pay58 b.x17))) (k0_pay149 (k0_pay116 b.hb24 (k0_pay58 b.x17))) (k0_pay150 (k0_pay117 b.hb24 (k0_pay58 b.x17))) (k0_pay151 (k0_pay118 b.hb24 (k0_pay58 b.x17))) (k0_pay152 (k0_pay119 b.hb24 (k0_pay58 b.x17))) (k0_pay153 (k0_pay120 b.hb24 (k0_pay58 b.x17))) (k0_pay154 (k0_pay121 b.hb24 (k0_pay58 b.x17))) (k0_pay155 (k0_pay122 b.hb24 (k0_pay58 b.x17))) (k0_pay156 (k0_pay123 b.hb24 (k0_pay58 b.x17))) (k0_pay157 (k0_pay124 b.hb24 (k0_pay58 b.x17))) (k0_pay158 (k0_pay125 b.hb24 (k0_pay58 b.x17))) (k0_pay159 (k0_pay126 b.hb24 (k0_pay58 b.x17))) (k0_pay160 (k0_pay58 b.x17) (k0_pay127 b.hb24) (constant S32x128 .f32 0x00000000#32)) (k0_pay161 b.hb24 (k0_pay58 b.x17)) (k0_pay162 b.hb24 (k0_pay58 b.x17)) (k0_pay163 b.hb24 (k0_pay58 b.x17)) (k0_pay164 b.hb24 (k0_pay58 b.x17)) (k0_pay165 b.hb24 (k0_pay58 b.x17)) (k0_pay166 b.hb24 (k0_pay58 b.x17)) (k0_pay167 b.hb24 (k0_pay58 b.x17)) b.x15) := by
    unfold runC.sl.r_175
    rw [e105, e137, e138, e139, e140, e141, e142, e143, e144, e145, e146, e147, e148, e149, e150, e151, e152, e153, e154, e155, e156, e157, e158, e159, e160, e161, e162, e163, e164, e165, e166, e167, e168, hx15]
  have e176 : runC.sl.r_176 c arg2 harg2 arg4 harg4 arg6 harg6 arg7 harg7 arg8 harg8 arg9 harg9 arg10 harg10 arg18 harg18 b = (k0_pay180 b.cc24) := by
    unfold runC.sl.r_176
    rw [e170]
  have e177 : runC.sl.r_177 c arg1 harg1 arg3 harg3 arg5 harg5 arg7 harg7 arg8 harg8 arg9 harg9 arg10 harg10 arg11 harg11 b = b.ftsf1 := by
    unfold runC.sl.r_177 Blk.ftsf1
    rw [e57, hx10]
  have e178 : runC.sl.r_178 c arg2 harg2 arg4 harg4 arg6 harg6 arg7 harg7 arg8 harg8 arg9 harg9 arg10 harg10 arg11 harg11 b = b.ftsf2 := by
    unfold runC.sl.r_178 Blk.ftsf2
    rw [e58, hx10]
  have e179 : runC.sl.r_179 c arg12 harg12 b = b.bdec := by
    unfold runC.sl.r_179 Blk.bdec
    rw [hx11]
  have e180 : runC.sl.r_180 c arg1 harg1 arg3 harg3 arg5 harg5 arg7 harg7 arg8 harg8 arg9 harg9 arg10 harg10 arg11 harg11 b = (k0_pay186 b.bd1 (k0_pay56 b.h13) b.x10) := by
    unfold runC.sl.r_180
    rw [e4, e57, hx10]
  have e181 : runC.sl.r_181 c arg1 harg1 arg3 harg3 arg5 harg5 arg7 harg7 arg8 harg8 arg9 harg9 arg10 harg10 arg11 harg11 b = (k0_pay187 b.bd1 (k0_pay56 b.h13) b.x10) := by
    unfold runC.sl.r_181
    rw [e4, e57, hx10]
  have e182 : runC.sl.r_182 c arg1 harg1 arg3 harg3 arg5 harg5 arg7 harg7 arg8 harg8 arg9 harg9 arg10 harg10 arg11 harg11 b = (k0_pay188 b.bd1 (k0_pay56 b.h13) b.x10) := by
    unfold runC.sl.r_182
    rw [e4, e57, hx10]
  have e183 : runC.sl.r_183 c arg1 harg1 arg3 harg3 arg5 harg5 arg7 harg7 arg8 harg8 arg9 harg9 arg10 harg10 arg11 harg11 b = (k0_pay189 b.bd1 (k0_pay56 b.h13) b.x10) := by
    unfold runC.sl.r_183
    rw [e4, e57, hx10]
  have e184 : runC.sl.r_184 c arg1 harg1 arg3 harg3 arg5 harg5 arg7 harg7 arg8 harg8 arg9 harg9 arg10 harg10 arg11 harg11 b = (k0_pay190 b.bd1 (k0_pay56 b.h13) b.x10) := by
    unfold runC.sl.r_184
    rw [e4, e57, hx10]
  have e185 : runC.sl.r_185 c arg1 harg1 arg3 harg3 arg5 harg5 arg7 harg7 arg8 harg8 arg9 harg9 arg10 harg10 arg11 harg11 b = (k0_pay191 b.bd1 (k0_pay56 b.h13) b.x10) := by
    unfold runC.sl.r_185
    rw [e4, e57, hx10]
  have e186 : runC.sl.r_186 c arg1 harg1 arg3 harg3 arg5 harg5 arg7 harg7 arg8 harg8 arg9 harg9 arg10 harg10 arg11 harg11 b = (k0_pay192 b.bd1 (k0_pay56 b.h13) b.x10) := by
    unfold runC.sl.r_186
    rw [e4, e57, hx10]
  have e187 : runC.sl.r_187 c arg1 harg1 arg3 harg3 arg5 harg5 arg7 harg7 arg8 harg8 arg9 harg9 arg10 harg10 arg11 harg11 b = (k0_pay193 b.bd1 (k0_pay56 b.h13) b.x10) := by
    unfold runC.sl.r_187
    rw [e4, e57, hx10]
  have e188 : runC.sl.r_188 c arg5 harg5 b = (k0_pay194 b.bd1) := by
    unfold runC.sl.r_188
    rw [e4]
  have e189 : runC.sl.r_189 c arg1 harg1 arg3 harg3 arg5 harg5 arg7 harg7 arg8 harg8 arg9 harg9 arg10 harg10 arg11 harg11 b = (k0_pay195 (k0_pay56 b.h13) b.x10) := by
    unfold runC.sl.r_189
    rw [e57, hx10]
  have e190 : runC.sl.r_190 c arg1 harg1 arg3 harg3 arg5 harg5 arg7 harg7 arg8 harg8 arg9 harg9 arg10 harg10 arg11 harg11 b = (k0_pay196 (k0_pay194 b.bd1) (k0_pay195 (k0_pay56 b.h13) b.x10)) := by
    unfold runC.sl.r_190
    rw [e188, e189]
  have e191 : runC.sl.r_191 c arg1 harg1 arg3 harg3 arg5 harg5 arg7 harg7 arg8 harg8 arg9 harg9 arg10 harg10 arg11 harg11 b = (k0_pay197 b.bd1 b.ftsf1) := by
    unfold runC.sl.r_191
    rw [e4, e177]
  have e192 : runC.sl.r_192 c arg1 harg1 arg3 harg3 arg5 harg5 arg7 harg7 arg8 harg8 arg9 harg9 arg10 harg10 arg11 harg11 b = (k0_pay198 b.bd1 b.ftsf1) := by
    unfold runC.sl.r_192
    rw [e4, e177]
  have e193 : runC.sl.r_193 c arg1 harg1 arg3 harg3 arg5 harg5 arg7 harg7 arg8 harg8 arg9 harg9 arg10 harg10 arg11 harg11 b = (k0_pay199 b.bd1 b.ftsf1) := by
    unfold runC.sl.r_193
    rw [e4, e177]
  have e194 : runC.sl.r_194 c arg1 harg1 arg3 harg3 arg5 harg5 arg7 harg7 arg8 harg8 arg9 harg9 arg10 harg10 arg11 harg11 b = (k0_pay200 b.bd1 b.ftsf1) := by
    unfold runC.sl.r_194
    rw [e4, e177]
  have e195 : runC.sl.r_195 c arg1 harg1 arg3 harg3 arg5 harg5 arg7 harg7 arg8 harg8 arg9 harg9 arg10 harg10 arg11 harg11 b = (k0_pay201 b.bd1 b.ftsf1) := by
    unfold runC.sl.r_195
    rw [e4, e177]
  have e196 : runC.sl.r_196 c arg1 harg1 arg3 harg3 arg5 harg5 arg7 harg7 arg8 harg8 arg9 harg9 arg10 harg10 arg11 harg11 b = (k0_pay202 b.bd1 b.ftsf1) := by
    unfold runC.sl.r_196
    rw [e4, e177]
  have e197 : runC.sl.r_197 c arg1 harg1 arg3 harg3 arg5 harg5 arg7 harg7 arg8 harg8 arg9 harg9 arg10 harg10 arg11 harg11 b = (k0_pay203 b.bd1 b.ftsf1) := by
    unfold runC.sl.r_197
    rw [e4, e177]
  have e198 : runC.sl.r_198 c arg1 harg1 arg3 harg3 arg5 harg5 arg7 harg7 arg8 harg8 arg9 harg9 arg10 harg10 arg11 harg11 b = (k0_pay204 b.bd1 b.ftsf1) := by
    unfold runC.sl.r_198
    rw [e4, e177]
  have e199 : runC.sl.r_199 c arg1 harg1 arg3 harg3 arg5 harg5 arg7 harg7 arg8 harg8 arg9 harg9 arg10 harg10 arg11 harg11 b = (k0_pay205 b.bd1 b.ftsf1) := by
    unfold runC.sl.r_199
    rw [e4, e177]
  have e200 : runC.sl.r_200 c arg1 harg1 arg3 harg3 arg5 harg5 arg7 harg7 arg8 harg8 arg9 harg9 arg10 harg10 arg11 harg11 b = (k0_pay206 b.bd1 b.ftsf1) := by
    unfold runC.sl.r_200
    rw [e4, e177]
  have e201 : runC.sl.r_201 c arg1 harg1 arg3 harg3 arg5 harg5 arg7 harg7 arg8 harg8 arg9 harg9 arg10 harg10 arg11 harg11 b = (k0_pay207 b.bd1 b.ftsf1) := by
    unfold runC.sl.r_201
    rw [e4, e177]
  have e202 : runC.sl.r_202 c arg1 harg1 arg3 harg3 arg5 harg5 arg7 harg7 arg8 harg8 arg9 harg9 arg10 harg10 arg11 harg11 b = (k0_pay208 b.bd1 b.ftsf1) := by
    unfold runC.sl.r_202
    rw [e4, e177]
  have e203 : runC.sl.r_203 c arg1 harg1 arg3 harg3 arg5 harg5 arg7 harg7 arg8 harg8 arg9 harg9 arg10 harg10 arg11 harg11 b = (k0_pay209 b.bd1 b.ftsf1) := by
    unfold runC.sl.r_203
    rw [e4, e177]
  have e204 : runC.sl.r_204 c arg1 harg1 arg3 harg3 arg5 harg5 arg7 harg7 arg8 harg8 arg9 harg9 arg10 harg10 arg11 harg11 b = (k0_pay210 b.bd1 b.ftsf1) := by
    unfold runC.sl.r_204
    rw [e4, e177]
  have e205 : runC.sl.r_205 c arg5 harg5 b = (k0_pay211 b.bd1) := by
    unfold runC.sl.r_205
    rw [e4]
  have e206 : runC.sl.r_206 c arg1 harg1 arg3 harg3 arg5 harg5 arg7 harg7 arg8 harg8 arg9 harg9 arg10 harg10 arg11 harg11 b = (k0_pay212 b.ftsf1) := by
    unfold runC.sl.r_206
    rw [e177]
  have e207 : runC.sl.r_207 c arg1 harg1 arg3 harg3 arg5 harg5 arg7 harg7 arg8 harg8 arg9 harg9 arg10 harg10 arg11 harg11 arg12 harg12 arg13 harg13 b = b.f1 := by
    unfold runC.sl.r_207 Blk.f1
    rw [e1, e4, e177, e179, e180, e181, e182, e183, e184, e185, e186, e187, e190, e191, e192, e193, e194, e195, e196, e197, e198, e199, e200, e201, e202, e203, e204, e205, e206]
  have e208 : runC.sl.r_208 c arg2 harg2 arg4 harg4 arg6 harg6 arg7 harg7 arg8 harg8 arg9 harg9 arg10 harg10 arg11 harg11 b = (k0_pay214 b.bd2 b.ftsf2) := by
    unfold runC.sl.r_208
    rw [e5, e178]
  have e209 : runC.sl.r_209 c arg2 harg2 arg4 harg4 arg6 harg6 arg7 harg7 arg8 harg8 arg9 harg9 arg10 harg10 arg11 harg11 b = (k0_pay215 b.bd2 b.ftsf2) := by
    unfold runC.sl.r_209
    rw [e5, e178]
  have e210 : runC.sl.r_210 c arg2 harg2 arg4 harg4 arg6 harg6 arg7 harg7 arg8 harg8 arg9 harg9 arg10 harg10 arg11 harg11 b = (k0_pay216 b.bd2 b.ftsf2) := by
    unfold runC.sl.r_210
    rw [e5, e178]
  have e211 : runC.sl.r_211 c arg2 harg2 arg4 harg4 arg6 harg6 arg7 harg7 arg8 harg8 arg9 harg9 arg10 harg10 arg11 harg11 b = (k0_pay217 b.bd2 b.ftsf2) := by
    unfold runC.sl.r_211
    rw [e5, e178]
  have e212 : runC.sl.r_212 c arg2 harg2 arg4 harg4 arg6 harg6 arg7 harg7 arg8 harg8 arg9 harg9 arg10 harg10 arg11 harg11 b = (k0_pay218 b.bd2 b.ftsf2) := by
    unfold runC.sl.r_212
    rw [e5, e178]
  have e213 : runC.sl.r_213 c arg2 harg2 arg4 harg4 arg6 harg6 arg7 harg7 arg8 harg8 arg9 harg9 arg10 harg10 arg11 harg11 b = (k0_pay219 b.bd2 b.ftsf2) := by
    unfold runC.sl.r_213
    rw [e5, e178]
  have e214 : runC.sl.r_214 c arg2 harg2 arg4 harg4 arg6 harg6 arg7 harg7 arg8 harg8 arg9 harg9 arg10 harg10 arg11 harg11 b = (k0_pay220 b.bd2 b.ftsf2) := by
    unfold runC.sl.r_214
    rw [e5, e178]
  have e215 : runC.sl.r_215 c arg2 harg2 arg4 harg4 arg6 harg6 arg7 harg7 arg8 harg8 arg9 harg9 arg10 harg10 arg11 harg11 b = (k0_pay221 b.bd2 b.ftsf2) := by
    unfold runC.sl.r_215
    rw [e5, e178]
  have e216 : runC.sl.r_216 c arg2 harg2 arg4 harg4 arg6 harg6 arg7 harg7 arg8 harg8 arg9 harg9 arg10 harg10 arg11 harg11 b = (k0_pay222 b.bd2 b.ftsf2) := by
    unfold runC.sl.r_216
    rw [e5, e178]
  have e217 : runC.sl.r_217 c arg2 harg2 arg4 harg4 arg6 harg6 arg7 harg7 arg8 harg8 arg9 harg9 arg10 harg10 arg11 harg11 b = (k0_pay223 b.bd2 b.ftsf2) := by
    unfold runC.sl.r_217
    rw [e5, e178]
  have e218 : runC.sl.r_218 c arg2 harg2 arg4 harg4 arg6 harg6 arg7 harg7 arg8 harg8 arg9 harg9 arg10 harg10 arg11 harg11 b = (k0_pay224 b.bd2 b.ftsf2) := by
    unfold runC.sl.r_218
    rw [e5, e178]
  have e219 : runC.sl.r_219 c arg2 harg2 arg4 harg4 arg6 harg6 arg7 harg7 arg8 harg8 arg9 harg9 arg10 harg10 arg11 harg11 b = (k0_pay225 b.bd2 b.ftsf2) := by
    unfold runC.sl.r_219
    rw [e5, e178]
  have e220 : runC.sl.r_220 c arg2 harg2 arg4 harg4 arg6 harg6 arg7 harg7 arg8 harg8 arg9 harg9 arg10 harg10 arg11 harg11 b = (k0_pay226 b.bd2 b.ftsf2) := by
    unfold runC.sl.r_220
    rw [e5, e178]
  have e221 : runC.sl.r_221 c arg2 harg2 arg4 harg4 arg6 harg6 arg7 harg7 arg8 harg8 arg9 harg9 arg10 harg10 arg11 harg11 b = (k0_pay227 b.bd2 b.ftsf2) := by
    unfold runC.sl.r_221
    rw [e5, e178]
  have e222 : runC.sl.r_222 c arg2 harg2 arg4 harg4 arg6 harg6 arg7 harg7 arg8 harg8 arg9 harg9 arg10 harg10 arg11 harg11 b = (k0_pay228 b.bd2 b.ftsf2) := by
    unfold runC.sl.r_222
    rw [e5, e178]
  have e223 : runC.sl.r_223 c arg2 harg2 arg4 harg4 arg6 harg6 arg7 harg7 arg8 harg8 arg9 harg9 arg10 harg10 arg11 harg11 b = (k0_pay229 b.bd2 b.ftsf2) := by
    unfold runC.sl.r_223
    rw [e5, e178]
  have e224 : runC.sl.r_224 c arg2 harg2 arg4 harg4 arg6 harg6 arg7 harg7 arg8 harg8 arg9 harg9 arg10 harg10 arg11 harg11 b = (k0_pay230 b.bd2 b.ftsf2) := by
    unfold runC.sl.r_224
    rw [e5, e178]
  have e225 : runC.sl.r_225 c arg2 harg2 arg4 harg4 arg6 harg6 arg7 harg7 arg8 harg8 arg9 harg9 arg10 harg10 arg11 harg11 b = (k0_pay231 b.bd2 b.ftsf2) := by
    unfold runC.sl.r_225
    rw [e5, e178]
  have e226 : runC.sl.r_226 c arg2 harg2 arg4 harg4 arg6 harg6 arg7 harg7 arg8 harg8 arg9 harg9 arg10 harg10 arg11 harg11 b = (k0_pay232 b.bd2 b.ftsf2) := by
    unfold runC.sl.r_226
    rw [e5, e178]
  have e227 : runC.sl.r_227 c arg2 harg2 arg4 harg4 arg6 harg6 arg7 harg7 arg8 harg8 arg9 harg9 arg10 harg10 arg11 harg11 b = (k0_pay233 b.bd2 b.ftsf2) := by
    unfold runC.sl.r_227
    rw [e5, e178]
  have e228 : runC.sl.r_228 c arg2 harg2 arg4 harg4 arg6 harg6 arg7 harg7 arg8 harg8 arg9 harg9 arg10 harg10 arg11 harg11 arg12 harg12 arg13 harg13 b = b.f2 := by
    unfold runC.sl.r_228 Blk.f2
    rw [e1, e5, e178, e179, e208, e209, e210, e211, e212, e213, e214, e215, e216, e217, e218, e219, e220, e221, e222, e223, e224, e225, e226, e227]
  isplitl [H0]
  · iexists _; isplitr; swap
    · iexact H0
    · ipureintro
      exact harg1.read_unread b.x0
  isplitl [H1]
  · iexists _; isplitr; swap
    · iexact H1
    · ipureintro
      exact harg2.read_unread b.x1
  isplitl [H2]
  · iexists _; isplitr; swap
    · iexact H2
    · ipureintro
      exact harg3.read_unread b.x2
  isplitl [H3]
  · iexists _; isplitr; swap
    · iexact H3
    · ipureintro
      exact harg4.read_unread b.x3
  isplitl [H4]
  · iexists _; isplitr; swap
    · iexact H4
    · ipureintro
      exact harg5.read_unread b.x4
  isplitl [H5]
  · iexists _; isplitr; swap
    · iexact H5
    · ipureintro
      exact harg6.read_unread b.x5
  isplitl [H6]
  · iexists _; isplitr; swap
    · iexact H6
    · ipureintro
      exact harg7.read_unread b.x6
  isplitl [H7]
  · iexists _; isplitr; swap
    · iexact H7
    · ipureintro
      exact harg8.read_unread b.x7
  isplitl [H8]
  · iexists _; isplitr; swap
    · iexact H8
    · ipureintro
      exact harg9.read_unread b.x8
  isplitl [H9]
  · iexists _; isplitr; swap
    · iexact H9
    · ipureintro
      exact harg10.read_unread b.x9
  isplitl [H10]
  · iexists _; isplitr; swap
    · iexact H10
    · ipureintro
      exact harg11.read_unread b.x10
  isplitl [H11]
  · iexists _; isplitr; swap
    · iexact H11
    · ipureintro
      exact harg12.read_unread b.x11
  isplitl [H12]
  · iexists _; isplitr; swap
    · iexact H12
    · ipureintro
      exact harg13.read_unread b.x12
  isplitl [H13]
  · iexists _; isplitr; swap
    · iexact H13
    · ipureintro
      exact harg14.read_unread b.x13
  isplitl [H14]
  · iexists _; isplitr; swap
    · iexact H14
    · ipureintro
      exact harg15.read_unread b.x14
  isplitl [H15]
  · iexists _; isplitr; swap
    · iexact H15
    · ipureintro
      exact harg16.read_unread b.x15
  isplitl [H16]
  · iexists _; isplitr; swap
    · iexact H16
    · ipureintro
      exact harg17.read_unread b.x16
  isplitl [H17]
  · iexists _; isplitr; swap
    · iexact H17
    · ipureintro
      exact harg18.read_unread b.x17
  isplitl [H18]
  · iexists _; isplitr; swap
    · iexact H18
    · ipureintro
      refine (View.read_writes_full _ _ _ _ _).trans ?_
      unfold Blk.out1
      rw [e207]
  isplitl [H19]
  · iexists _; isplitr; swap
    · iexact H19
    · ipureintro
      refine (View.read_writes_full _ _ _ _ _).trans ?_
      unfold Blk.out2
      rw [e228]
  isplitl [H20]
  · iexists _; isplitr; swap
    · iexact H20
    · ipureintro
      refine (read_updWrap _ _ _ _ _).trans ?_
      refine congr (congrArg updWrap ?_) ?_
      · unfold Blk.wrap
        rw [e2, e3, e169, e170, View.readAt_full, View.readAt_full, harg24.read_unread, harg25.read_unread]
      refine (read_upd _ _ i _ _ _ _).trans ?_
      refine congr (congr (congrArg (upd (i 0).val) ?_) ?_) ?_
      · unfold Blk.sa
        rw [e173, e174, e175]
      · unfold Blk.sb
        rw [e169, e170, e171, e172, e173, View.readAt_full, View.readAt_full, harg22.read_unread, harg23.read_unread]
      · exact harg21.read_unread y
  isplitl [HS0]
  · iexists _; isplitr; swap
    · iexact HS0
    · ipureintro
      refine (View.read_writes_full _ _ _ _ _).trans ?_
      unfold Blk.last13
      rw [e169]
  isplitl [HS1]
  · iexists _; isplitr; swap
    · iexact HS1
    · ipureintro
      refine (View.read_writes_full _ _ _ _ _).trans ?_
      unfold Blk.last24
      rw [e176]
  isplitl [HS2]
  · iexists _; isplitr; swap
    · iexact HS2
    · ipureintro
      exact harg24.read_unread s2
  iexists _; isplitr; swap
  · iexact HS3
  · ipureintro
    exact harg25.read_unread s3

end Cert.KernelIdeal.Fused

end
-- ==== Proof.Launch.lean ====
/- The launch of the kernel: what every window and every carried row holds point by point, the run, and the frame. -/
module

public import proofs.«01_k».proof.Proof.Column
public import proofs.«01_k».proof.Proof.RunA
public import proofs.«01_k».proof.Proof.RunB
public import proofs.«01_k».proof.Proof.RunC
public import Idealize.ShloMosaic.Lib.Pipeline.DatRel
public import Idealize.ShloMosaic.Lib.Pipeline.ArrRel
public import Idealize.ShloMosaic.Lib.WordCmp
public import Idealize.ShloMosaic.Lib.Ring
public import Idealize.ShloMosaic.Lib.Claim

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev condFirst (i : grid0.Coords) : Prop := (Scalar.cmpi .ne (Scalar.extui (Scalar.cmpi .eq (BitVec.ofNat 32 (i 0).val) 0#32)) 0#32) = 1#1
abbrev condLast (i : grid0.Coords) : Prop := (Scalar.cmpi .ne (Scalar.extui (Scalar.cmpi .eq (BitVec.ofNat 32 (i 0).val) 15#32)) 0#32) = 1#1

/-- The first branch is taken at the first point only. -/
theorem condFirst_iff : ∀ t : Fin cfg0.N, condFirst (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [condFirst, e0]
    word_cmp
   : ∀ t : Fin grid0.N, condFirst (grid0.coords t) ↔ t.val % 16 = 0)

/-- The last branch is taken at the last point only. -/
theorem condLast_iff : ∀ t : Fin cfg0.N, condLast (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [condLast, e0]
    word_cmp
   : ∀ t : Fin grid0.N, condLast (grid0.coords t) ↔ t.val % 16 = 15)

theorem coords_zero (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

abbrev ms0 (t : Fin cfg0.N) : Memref sig .tc .vmem S512x8x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x8x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x8x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x8x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x8x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x8x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .smem S1x1 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x128 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .smem S1x1 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .smem S1x1 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S128x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .smem S1x1 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S32x128 .bf16 := win0_17.stage (cfg0.slots t 17)
abbrev hs17 (t : Fin cfg0.N) : (ms17 t).IsWhole := hstage0_17 ((cfg0.slots t 17).cast nbuf0_17)
abbrev ms18 (t : Fin cfg0.N) : Memref sig .tc .vmem S512x8x128 .f32 := win0_18.stage (cfg0.slots t 18)
abbrev hs18 (t : Fin cfg0.N) : (ms18 t).IsWhole := hstage0_18 ((cfg0.slots t 18).cast nbuf0_18)
abbrev ms19 (t : Fin cfg0.N) : Memref sig .tc .vmem S512x8x128 .f32 := win0_19.stage (cfg0.slots t 19)
abbrev hs19 (t : Fin cfg0.N) : (ms19 t).IsWhole := hstage0_19 ((cfg0.slots t 19).cast nbuf0_19)
abbrev ms20 (t : Fin cfg0.N) : Memref sig .tc .vmem S16384x1 .f32 := win0_20.stage (cfg0.slots t 20)
abbrev hs20 (t : Fin cfg0.N) : (ms20 t).IsWhole := hstage0_20 ((cfg0.slots t 20).cast nbuf0_20)
abbrev scr0 : Memref sig .tc .vmem S1x128 .f32 := Memref.whole cc0_scratch0
abbrev scr1 : Memref sig .tc .vmem S1x128 .f32 := Memref.whole cc0_scratch1
abbrev scr2 : Memref sig .tc .vmem S1x128 .f32 := Memref.whole cc0_scratch2
abbrev scr3 : Memref sig .tc .vmem S1x128 .f32 := Memref.whole cc0_scratch3

/-- The class's invariant: the four carried rows at some contents, and the generator's register. -/
theorem PhiA_eq (c : Dev nD) :
    (Pipeline.ΦA spec0 c : sProp 𝕄)
      = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d)) ∗ (∃ r, prngReg c r)) := by
  unfold Pipeline.ΦA; rw [scopedRest0_eq]; simp only [scr0, scr1, scr2, scr3, owns_whole]; try rfl

/-- Before point `n`: nothing is known of the carried rows at first; later they hold the means' last row of the point before and the first rows of the first point. -/
def Inv (c : Dev nD) : ℕ → sProp 𝕄
  | 0 => Pipeline.ΦA spec0 c
  | n + 1 => iprop(iprop(owns (c : Thread nD τ) scr0 fullShare (bk m c n).last13 ∗ owns (c : Thread nD τ) scr1 fullShare (bk m c n).last24
      ∗ owns (c : Thread nD τ) scr2 fullShare (bk m c 0).m1first ∗ owns (c : Thread nD τ) scr3 fullShare (bk m c 0).m2first) ∗ (∃ r, prngReg c r))

/-- The names of the carried rows may be forgotten. -/
theorem inv_forget (c : Dev nD) (n : ℕ) : Inv m c n ⊢ Pipeline.ΦA spec0 c := by
  cases n with
  | zero => exact .rfl
  | succ n =>
    rw [PhiA_eq]
    unfold Inv
    iintro ⟨⟨H0, H1, H2, H3⟩, Hg⟩
    isplitl [H0 H1 H2 H3]
    · isplitl [H0]; · iexists _; iexact H0
      isplitl [H1]; · iexists _; iexact H1
      isplitl [H2]; · iexists _; iexact H2
      iexists _; iexact H3
    iexact Hg

/-- The proof data: each input at its block, the two reconstructions at the point's arrays, the column of scores held to a predicate. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => (blkAt m c t).out1
    | ⟨19, _⟩ => (blkAt m c t).out2
    | ⟨20, h⟩ => Pipeline.Dat.unnamed (cfg := cfg0) ⟨20, h⟩ t
    | ⟨_ + 21, h⟩ => absurd h (Nat.not_lt.2 (Nat.le_add_left _ _))
  Φ t := Inv m c t.val
  q _ := fullShare
  owed _ := 0

/-- The window held to a predicate: the column of scores. -/
def marked : Fin 21 → Bool := fun w => w.val == 20

/-- The predicate: the rows stored so far hold the column's values. -/
def Holds (c : Dev nD) : (w : Fin cfg0.W) → Fin cfg0.N → ((cfg0.win w).block.Idx → Elt F (cfg0.win w).elt) → Prop := fun w t => match w with
  | ⟨20, _⟩ => fun X => Filled m c t.val X
  | ⟨_, _⟩ => fun _ => True

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = (blkAt m c t).out1 := by dsimp only [dats]
theorem after_19 (c : Dev nD) (t : Fin cfg0.N) : (dats m 0 c).after 19 t = (blkAt m c t).out2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d

/-- What the body finds in the column of scores after the first point holds the rows stored so far. -/
theorem finds_column (c : Dev nD) (t : Fin cfg0.N) (Y : Vec F S16384x1 .f32) (hY : ((dats m 0 c).toRRel marked (Holds m c)).Finds 20 t Y)
    (k : ℕ) (hk : t.val = k + 1) : FilledBut m c k Y := by
  have hN : t.val < 16 := lt_of_lt_of_eq t.isLt (show cfg0.N = 16 from N_0)
  have h := (Pipeline.RDat.finds_of_pos (w := 20) (t := t) (rd := (dats m 0 c).toRRel marked (Holds m c)) rfl (by omega) Y).mp hY
  rcases h with h | h
  · have := (flush0_20 _).mp h
    dsimp only at this
    omega
  · have h' : Filled m c (t.val - 1) Y := Pipeline.Dat.toRRel_leaves (dats m 0 c) (fgt := marked) (Rl := Holds m c) (w := 20) rfl h
    rw [show t.val - 1 = k from by omega] at h'
    exact h'.but m (by omega)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d))
    ∗ (∃ d, owns (c : Thread nD τ) (ms19 t) fullShare ((dats m 0 c).before 19 t d))
    ∗ (∃ Y, ⌜((dats m 0 c).toRRel marked (Holds m c)).Finds 20 t Y⌝ ∗ owns (c : Thread nD τ) (ms20 t) fullShare Y))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t)
    ∗ owns (c : Thread nD τ) (ms17 t) fullShare ((dats m 0 c).after 17 t)
    ∗ owns (c : Thread nD τ) (ms18 t) fullShare ((dats m 0 c).after 18 t)
    ∗ owns (c : Thread nD τ) (ms19 t) fullShare ((dats m 0 c).after 19 t)
    ∗ (∃ X, ⌜Holds m c 20 t X⌝ ∗ owns (c : Thread nD τ) (ms20 t) fullShare X))

set_option maxHeartbeats 7200000 in
/-- The body at any point takes what the point before left to what this point leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17]
  rw [show (dats m 0 c).Φ t.succ = Inv m c (t.val + 1) from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19]
  rw [show (dats m 0 c).Φ t.castSucc = Inv m c t.val from rfl]
  have hN : t.val < 16 := lt_of_lt_of_eq t.isLt (show cfg0.N = 16 from N_0)
  have hi : (grid0.coords t 0).val = t.val := coords_zero t
  have hb : blkAt m c t = bk m c t.val := (bk_val m c t).symm
  by_cases h0 : t.val = 0
  · rw [show Inv m c t.val = Pipeline.ΦA spec0 c from by rw [h0]; rfl, PhiA_eq]
    unfold Inv
    iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y, %hY, H20⟩⟩
    iapply (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) scr0 (Memref.isWhole_whole _) scr1 (Memref.isWhole_whole _) scr2 (Memref.isWhole_whole _) scr3 (Memref.isWhole_whole _) ((condFirst_iff t).mpr (by omega)) (fun h => absurd ((condLast_iff t).mp h) (by omega)) (blkAt m c t) Y s0 s1 s2 s3 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexact H20
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, HS0, HS1, HS2, HS3⟩
    isplitl [HS0 HS1 HS2 HS3 Hg]
    · isplitl [HS0 HS1 HS2 HS3]
      · isplitl [HS0]; · rw [hb]; iexact HS0
        isplitl [HS1]; · rw [hb]; iexact HS1
        isplitl [HS2]; · rw [hb, h0]; iexact HS2
        rw [hb, h0]; iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexists _; isplitr; swap
    · iexact H20
    ipureintro
    show Filled m c t.val (upd (grid0.coords t 0).val (blkAt m c t).sa ((blkAt m c t).sb k0_pay2 k0_pay3) Y)
    rw [hi, hb, h0]
    exact (filledBut_upd m c 0 (by decide) Y fun k hk => absurd hk (by omega)).filled m (by decide)
  by_cases h15 : t.val = 15
  · obtain ⟨k, hk⟩ : ∃ k, t.val = k + 1 := ⟨t.val - 1, by omega⟩
    rw [show Inv m c t.val = Inv m c (k + 1) from by rw [hk]]; unfold Inv
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y, %hY, H20⟩⟩
    iapply (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) scr0 (Memref.isWhole_whole _) scr1 (Memref.isWhole_whole _) scr2 (Memref.isWhole_whole _) scr3 (Memref.isWhole_whole _) (fun h => absurd ((condFirst_iff t).mp h) (by omega)) ((condLast_iff t).mpr (by omega)) (blkAt m c t) Y (bk m c k).last13 (bk m c k).last24 (bk m c 0).m1first (bk m c 0).m2first Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexact H20
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, HS0, HS1, HS2, HS3⟩
    isplitl [HS0 HS1 HS2 HS3 Hg]
    · isplitl [HS0 HS1 HS2 HS3]
      · isplitl [HS0]; · rw [hb]; iexact HS0
        isplitl [HS1]; · rw [hb]; iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexists _; isplitr; swap
    · iexact H20
    ipureintro
    show Filled m c t.val (updWrap ((blkAt m c t).wrap (bk m c 0).m1first (bk m c 0).m2first) (upd (grid0.coords t 0).val (blkAt m c t).sa ((blkAt m c t).sb (bk m c k).last13 (bk m c k).last24) Y))
    obtain rfl : k = 14 := by omega
    rw [hi, hb, h15]
    exact filled_updWrap m c _ (filledBut_upd m c 15 (by decide) Y fun k' hk' => finds_column m c t Y hY k' (by omega))
  · obtain ⟨k, hk⟩ : ∃ k, t.val = k + 1 := ⟨t.val - 1, by omega⟩
    rw [show Inv m c t.val = Inv m c (k + 1) from by rw [hk]]; unfold Inv
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%Y, %hY, H20⟩⟩
    iapply (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) scr0 (Memref.isWhole_whole _) scr1 (Memref.isWhole_whole _) scr2 (Memref.isWhole_whole _) scr3 (Memref.isWhole_whole _) (fun h => absurd ((condFirst_iff t).mp h) (by omega)) (fun h => absurd ((condLast_iff t).mp h) (by omega)) (blkAt m c t) Y (bk m c k).last13 (bk m c k).last24 (bk m c 0).m1first (bk m c 0).m2first Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [H19]; · iexists _; iexact H19
    isplitl [H20]; · iexact H20
    isplitl [HS0]; · iexact HS0
    isplitl [HS1]; · iexact HS1
    isplitl [HS2]; · iexact HS2
    isplitl [HS3]; · iexact HS3
    iintro ⟨H0, H1, H2, H3, H4, H5, H6, H7, H8, H9, H10, H11, H12, H13, H14, H15, H16, H17, H18, H19, H20, HS0, HS1, HS2, HS3⟩
    isplitl [HS0 HS1 HS2 HS3 Hg]
    · isplitl [HS0 HS1 HS2 HS3]
      · isplitl [HS0]; · rw [hb]; iexact HS0
        isplitl [HS1]; · rw [hb]; iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexists _; isplitr; swap
    · iexact H20
    ipureintro
    show Filled m c t.val (upd (grid0.coords t 0).val (blkAt m c t).sa ((blkAt m c t).sb (bk m c k).last13 (bk m c k).last24) Y)
    rw [hi, hb, hk]
    exact (filledBut_upd m c (k + 1) (by omega) Y fun k' hk' => finds_column m c t Y hY k' (by omega)).filled m (by omega)

theorem defs₀_row (t : Fin cfg0.N) :
    defs₀ (F := F) .tc cfg0.body (cfg0.bodyArgs t (cfg0.slots t)) = bodyAt0 t := by
  unfold defs₀; rw [Defs.onTc_tc]

set_option maxHeartbeats 4000000 in
theorem body_obligation (c : Dev nD) : Pipeline.BodyObligationRel (dats (F := F) m 0 c) (defs₀ (F := F)) Variants.none () Set.univ marked (Holds m c) := fun t => by
  rw [bigSep_W0, bigSep_W0, defs₀_row]
  exact triple_restated (sound_body m c t) rfl .rfl fun _ => .rfl

end Cert.KernelIdeal.Fused

end
-- ==== Proof.RunAll.lean ====
/- The run of the kernel and its frame. -/
module

public import proofs.«01_k».proof.Proof.Launch

@[expose] public section

set_option maxRecDepth 16384

noncomputable section

namespace Cert.KernelIdeal.Fused

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev rdat (c : Dev nD) : RDat τ (Elt F) Unit ℕ (UR sig nD τ) ℕ cfg0 c := (dats m 0 c).toRRel marked (Holds m c)

set_option backward.isDefEq.respectTransparency.types false in
/-- The run: every execution ends, each array as the proof data say, every counter at zero. -/
theorem run_quiescent : θ_run defs (onTc (τ := τ) (main (F := F))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := fun c => .rfl) (hout := fun c => inv_forget m c cfg0.N)

theorem run : θ_run defs (onTc (τ := τ) (main (F := F))) (s₀ m ρ) (Pipeline.RDat.FramePost (cfgs 0) (rdat m) (V m)) :=
  (θ_run defs _ _).mono (fun _ h => h.1) (run_quiescent m ρ)

set_option maxHeartbeats 4000000 in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) (run m ρ)

/-- The frame: every execution ends with the argument arrays unchanged and every counter at zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_quiescent m ρ))

end Cert.KernelIdeal.Fused

end
-- ==== Proof.Plain.lean ====
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact

/-!
# Named constants over bit patterns
-/

@[expose] public section

set_option maxRecDepth 16384

noncomputable section

namespace Cert.Alone

open Idealize.ShloMosaic Idealize.SL.Sem

attribute [local instance] Cert.Kernel.Gen.facts Cert.KernelIdeal.Gen.facts

/-- Over bit patterns a named constant is its own pattern. -/
@[reducible] def plain : Named Bits := ⟨fun _ _ φ bits => Scalar.ofBits (F := Bits) φ bits⟩

end Cert.Alone

end
-- ==== Proof.TwinA.lean ====
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact
public import proofs.«01_k».proof.Proof.Plain

/-!
# One text, parts 1 to 5

The kernel over bit patterns and the program with the named constant, read over bit patterns with
every name standing for its own pattern, run the same text: here part by part.
-/

@[expose] public section

set_option maxRecDepth 16384
set_option maxHeartbeats 4000000

noncomputable section

namespace Cert.Alone

open Idealize.ShloMosaic Idealize.SL.Sem

attribute [local instance] Cert.Kernel.Gen.facts Cert.KernelIdeal.Gen.facts

attribute [local instance] plain

theorem part1_eq : Cert.Kernel.k0_part1 (F := Bits) = Cert.KernelIdeal.k0_part1 (F := Bits) := rfl

theorem part2_eq : Cert.Kernel.k0_part2 (F := Bits) = Cert.KernelIdeal.k0_part2 (F := Bits) := rfl

theorem part3_eq : Cert.Kernel.k0_part3 (F := Bits) = Cert.KernelIdeal.k0_part3 (F := Bits) := rfl

theorem part4_eq : Cert.Kernel.k0_part4 (F := Bits) = Cert.KernelIdeal.k0_part4 (F := Bits) := rfl

theorem part5_eq : Cert.Kernel.k0_part5 (F := Bits) = Cert.KernelIdeal.k0_part5 (F := Bits) := rfl

end Cert.Alone

end
-- ==== Proof.TwinB.lean ====
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact
public import proofs.«01_k».proof.Proof.Plain

/-!
# One text, parts 6 to 10

The kernel over bit patterns and the program with the named constant, read over bit patterns with
every name standing for its own pattern, run the same text: here part by part.
-/

@[expose] public section

set_option maxRecDepth 16384
set_option maxHeartbeats 4000000

noncomputable section

namespace Cert.Alone

open Idealize.ShloMosaic Idealize.SL.Sem

attribute [local instance] Cert.Kernel.Gen.facts Cert.KernelIdeal.Gen.facts

attribute [local instance] plain

theorem part6_eq : Cert.Kernel.k0_part6 (F := Bits) = Cert.KernelIdeal.k0_part6 (F := Bits) := rfl

theorem part7_eq : Cert.Kernel.k0_part7 (F := Bits) = Cert.KernelIdeal.k0_part7 (F := Bits) := rfl

theorem part8_eq : Cert.Kernel.k0_part8 (F := Bits) = Cert.KernelIdeal.k0_part8 (F := Bits) := rfl

theorem part9_eq : Cert.Kernel.k0_part9 (F := Bits) = Cert.KernelIdeal.k0_part9 (F := Bits) := rfl

theorem part10_eq : Cert.Kernel.k0_part10 (F := Bits) = Cert.KernelIdeal.k0_part10 (F := Bits) := rfl

end Cert.Alone

end
-- ==== Proof.TwinC.lean ====
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact
public import proofs.«01_k».proof.Proof.Plain

/-!
# One text, parts 11 to 14

The kernel over bit patterns and the program with the named constant, read over bit patterns with
every name standing for its own pattern, run the same text: here part by part.
-/

@[expose] public section

set_option maxRecDepth 16384
set_option maxHeartbeats 4000000

noncomputable section

namespace Cert.Alone

open Idealize.ShloMosaic Idealize.SL.Sem

attribute [local instance] Cert.Kernel.Gen.facts Cert.KernelIdeal.Gen.facts

attribute [local instance] plain

theorem part11_eq : Cert.Kernel.k0_part11 (F := Bits) = Cert.KernelIdeal.k0_part11 (F := Bits) := rfl

theorem part12_eq : Cert.Kernel.k0_part12 (F := Bits) = Cert.KernelIdeal.k0_part12 (F := Bits) := rfl

theorem part13_eq : Cert.Kernel.k0_part13 (F := Bits) = Cert.KernelIdeal.k0_part13 (F := Bits) := rfl

theorem part14_eq : Cert.Kernel.k0_part14 (F := Bits) = Cert.KernelIdeal.k0_part14 (F := Bits) := rfl

end Cert.Alone

end
-- ==== Proof.TwinD.lean ====
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact
public import proofs.«01_k».proof.Proof.Plain

/-!
# One text, parts 15 to 18

The kernel over bit patterns and the program with the named constant, read over bit patterns with
every name standing for its own pattern, run the same text: here part by part.
-/

@[expose] public section

set_option maxRecDepth 16384
set_option maxHeartbeats 4000000

noncomputable section

namespace Cert.Alone

open Idealize.ShloMosaic Idealize.SL.Sem

attribute [local instance] Cert.Kernel.Gen.facts Cert.KernelIdeal.Gen.facts

attribute [local instance] plain

theorem part15_eq : Cert.Kernel.k0_part15 (F := Bits) = Cert.KernelIdeal.k0_part15 (F := Bits) := rfl

theorem part16_eq : Cert.Kernel.k0_part16 (F := Bits) = Cert.KernelIdeal.k0_part16 (F := Bits) := rfl

theorem part17_eq : Cert.Kernel.k0_part17 (F := Bits) = Cert.KernelIdeal.k0_part17 (F := Bits) := rfl

theorem part18_eq : Cert.Kernel.k0_part18 (F := Bits) = Cert.KernelIdeal.k0_part18 (F := Bits) := rfl

end Cert.Alone

end
-- ==== Proof.Twin.lean ====
module

public import proofs.«01_k».proof.Kernel
public import proofs.«01_k».proof.KernelIdeal
public import proofs.«01_k».proof.Proof.Gen.Kernel
public import proofs.«01_k».proof.Proof.Gen.KernelIdeal
public import Idealize.ShloMosaic.PureOps.BitExact
public import proofs.«01_k».proof.Proof.TwinA
public import proofs.«01_k».proof.Proof.TwinB
public import proofs.«01_k».proof.Proof.TwinC
public import proofs.«01_k».proof.Proof.TwinD

/-!
# One text

The whole program, from its parts: the body of the kernel, the definitions, the host program.
-/

@[expose] public section

set_option maxRecDepth 16384

noncomputable section

namespace Cert.Alone

open Idealize.ShloMosaic Idealize.SL.Sem

attribute [local instance] Cert.Kernel.Gen.facts Cert.KernelIdeal.Gen.facts

attribute [local instance] plain

set_option maxHeartbeats 4000000 in
/-- The body of the kernel. -/
theorem body_eq : Cert.Kernel.cc0__fused_kernel (F := Bits) = Cert.KernelIdeal.cc0__fused_kernel (F := Bits) := by
  unfold Cert.Kernel.cc0__fused_kernel Cert.KernelIdeal.cc0__fused_kernel
  simp only [part1_eq, part2_eq, part3_eq, part4_eq, part5_eq, part6_eq, part7_eq, part8_eq, part9_eq, part10_eq, part11_eq, part12_eq, part13_eq, part14_eq,
    part15_eq, part16_eq, part17_eq, part18_eq]
  rfl

set_option maxHeartbeats 4000000 in
/-- The launches' bodies. -/
theorem defs₀_eq : Cert.Kernel.defs₀ (F := Bits) = Cert.KernelIdeal.defs₀ (F := Bits) := by
  unfold Cert.Kernel.defs₀ Cert.KernelIdeal.defs₀
  rw [body_eq]
  refine congrArg Defs.onTc ?_
  funext l a
  match l, a with
  | 0, (t, s) => rfl

set_option maxHeartbeats 4000000 in
/-- The definitions of the launches. -/
theorem defs_eq : Cert.Kernel.defs (F := Bits) = Cert.KernelIdeal.defs (F := Bits) := by
  unfold Cert.Kernel.defs Cert.KernelIdeal.defs
  rw [defs₀_eq]
  rfl

set_option maxHeartbeats 4000000 in
/-- The host program. -/
theorem main_eq : onTc (τ := Cert.Kernel.τ) (Cert.Kernel.main (F := Bits)) = onTc (τ := Cert.KernelIdeal.τ) (Cert.KernelIdeal.main (F := Bits)) := rfl

end Cert.Alone

end
-- ==== Proof.Frames.lean ====
/- The claims that speak of one program at a time: each runs, leaves its arguments and its semaphores, and the named constant is the one the float stands for. -/
module

public import proofs.«01_k».proof.Proof.RunAll
public import proofs.«01_k».proof.Defs
public import proofs.«01_k».proof.Proof.Twin
public import proofs.«01_k».proof.Proof.Gen.ReferenceIdeal.Run
public import Idealize.ShloMosaic.Lib.Quiescent

@[expose] public section

noncomputable section

namespace Cert.Alone

open Idealize.ShloMosaic Idealize.SL.Sem

attribute [local instance] Cert.Kernel.Gen.facts Cert.KernelIdeal.Gen.facts Cert.ReferenceIdeal.Gen.facts

section

attribute [local instance] plain

set_option maxHeartbeats 4000000 in
/-- The kernel runs and leaves its arguments: it runs the text of the program with the named constant. -/
theorem frame_p : Cert.quiescent_Kernel := fun m ρ _ => by
  have h := Cert.KernelIdeal.Fused.frame_ideal (F := Bits) m ρ
  rw [← defs_eq, ← main_eq] at h
  exact h

end

/-- The idealized kernel runs and leaves its arguments. -/
theorem frame_pi : Cert.quiescent_KernelIdeal := fun m ρ _ => Cert.KernelIdeal.Fused.frame_ideal m ρ

/-- The idealized reference runs and leaves its arguments. -/
theorem frame_ri : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The named constant is one seventh. -/
theorem preserves : Cert.preserves_Kernel_KernelIdeal :=
  IdealRules.named_const.statement Cert.KernelIdeal.κ "seventh" .f32 0x3E124925#32 ((7⁻¹ : ℝ) : EReal) rfl

end Cert.Alone

end
-- ==== Proof.Model.lean ====
/- The mathematics both programs compute, over the extended reals: two graph encoders, two decoders, and the score of a graph against
   the mean of another. -/
module

public import Idealize.ShloMosaic.PureOps.Ideal
public import Mathlib.Data.EReal.Operations
public import Mathlib.Data.EReal.Inv
public import Mathlib.Algebra.BigOperators.Fin

@[expose] public section

noncomputable section

namespace Cert.Model

/-- The arguments, by their coordinates. -/
structure Args where
  (seq1 seq2 seq3 seq4 : Fin 8192 → Fin 8 → Fin 128 → EReal)
  (adj1 adj2 : Fin 8192 → Fin 8 → Fin 8 → EReal)
  (We : Fin 64 → Fin 128 → EReal)
  (be : Fin 64 → EReal)
  (ae : EReal)
  (Wd : Fin 128 → Fin 64 → EReal)
  (bd : Fin 128 → EReal)
  (ad : EReal)
  (Wb1 : Fin 64 → Fin 64 → EReal)
  (bb1 : EReal)
  (Wb2 : Fin 64 → Fin 64 → EReal)
  (bb2 : EReal)

/-- The activation with slope `a`, as a maximum. -/
def prelu (a z : EReal) : EReal := max z (a * z)

/-- With a slope of at most one, the maximum is the choice by sign. -/
theorem prelu_eq {a : EReal} (ha : a ≤ 1) (z : EReal) : prelu a z = if 0 ≤ z then z else a * z := by
  unfold prelu
  split
  · next h =>
    have := mul_le_mul_of_nonneg_right ha h
    rw [one_mul] at this
    exact max_eq_left this
  · next h =>
    have h' : 0 ≤ -z := by
      rw [EReal.neg_nonneg]
      exact (not_le.1 h).le
    have := mul_le_mul_of_nonneg_right ha h'
    rw [one_mul, mul_neg, EReal.neg_le_neg_iff] at this
    exact max_eq_right this

/-- An encoder: the aggregated features of a graph's members, activated. -/
def enc (A : Args) (seq : Fin 8192 → Fin 8 → Fin 128 → EReal) (adj : Fin 8192 → Fin 8 → Fin 8 → EReal) (B : Fin 8192) (s : Fin 8) (l : Fin 64) : EReal :=
  prelu A.ae ((∑ t, adj B s t * ∑ k, seq B t k * A.We l k) + A.be l)

/-- A decoder: the same, back to the width of the input. -/
def dec (A : Args) (h : Fin 8192 → Fin 8 → Fin 64 → EReal) (adj : Fin 8192 → Fin 8 → Fin 8 → EReal) (B : Fin 8192) (s : Fin 8) (l : Fin 128) : EReal :=
  prelu A.ad ((∑ t, adj B s t * ∑ k, h B t k * A.Wd l k) + A.bd l)

def h1 (A : Args) := enc A A.seq1 A.adj1
def h2 (A : Args) := enc A A.seq2 A.adj2
def h3 (A : Args) := enc A A.seq3 A.adj1
def h4 (A : Args) := enc A A.seq4 A.adj2

/-- The mean over a graph's first seven members. -/
def mean (h : Fin 8192 → Fin 8 → Fin 64 → EReal) (B : Fin 8192) (l : Fin 64) : EReal :=
  (∑ s : Fin 7, h B s.castSucc l) * ((7⁻¹ : ℝ) : EReal)

/-- The last member through a matrix. -/
def bil (W : Fin 64 → Fin 64 → EReal) (h : Fin 8192 → Fin 8 → Fin 64 → EReal) (B : Fin 8192) (l : Fin 64) : EReal :=
  ∑ k, h B 7 k * W k l

/-- The first of the two scores, before its bias. -/
def s1 (A : Args) (B B' : Fin 8192) : EReal := ∑ l, bil A.Wb1 (h2 A) B l * mean (h1 A) B' l
/-- The second. -/
def s2 (A : Args) (B B' : Fin 8192) : EReal := ∑ l, bil A.Wb2 (h1 A) B l * mean (h2 A) B' l

/-- The score of graph `B` against the means of graph `B'`. -/
def score (A : Args) (B B' : Fin 8192) : EReal :=
  ((s1 A B B' + A.bb1) + (s2 A B B' + A.bb2)) * ((2⁻¹ : ℝ) : EReal)

/-- The graph before, round the end. -/
def before (B : Fin 8192) : Fin 8192 := if B.val = 0 then 8191 else ⟨B.val - 1, by omega⟩

/-- The column of scores: the matching pairs, then the shifted ones. -/
def ret (A : Args) (j : Fin 16384) : EReal :=
  if h : j.val < 8192 then score A ⟨j.val, h⟩ ⟨j.val, h⟩ else score A ⟨j.val - 8192, by omega⟩ (before ⟨j.val - 8192, by omega⟩)

theorem half_add (x y : EReal) : (x + y) * ((2⁻¹ : ℝ) : EReal) = x * ((2⁻¹ : ℝ) : EReal) + y * ((2⁻¹ : ℝ) : EReal) :=
  EReal.right_distrib_of_nonneg_of_ne_top (by exact_mod_cast (by norm_num : (0 : ℝ) ≤ 2⁻¹)) (EReal.coe_ne_top _) x y

theorem score_sum (A : Args) (B B' : Fin 8192) :
    (∑ l, (bil A.Wb1 (h2 A) B l * mean (h1 A) B' l + bil A.Wb2 (h1 A) B l * mean (h2 A) B' l)) * ((2⁻¹ : ℝ) : EReal)
      + (A.bb1 + A.bb2) * ((2⁻¹ : ℝ) : EReal) = score A B B' := by
  rw [← half_add, Finset.sum_add_distrib, add_add_add_comm]
  rfl

theorem score_chain (A : Args) (B B' : Fin 8192) :
    (s1 A B B' + A.bb1 + s2 A B B' + A.bb2) * ((2⁻¹ : ℝ) : EReal) = score A B B' := by
  rw [add_assoc (s1 A B B' + A.bb1)]
  rfl

/-- Lanes in two halves. -/
def two (f g : Fin 64 → EReal) (l : Fin 128) : EReal := if h : l.val < 64 then f ⟨l.val, h⟩ else g ⟨l.val - 64, by omega⟩

theorem sum_halves (f : Fin 128 → EReal) :
    ∑ k, f k = (∑ k : Fin 64, f ⟨k.val, by omega⟩) + ∑ k : Fin 64, f ⟨64 + k.val, by omega⟩ :=
  Fin.sum_univ_add (a := 64) (b := 64) f

theorem sum_eights (f : Fin 128 → EReal) :
    ∑ k, f k = ∑ i : Fin 16, ∑ t : Fin 8, f ⟨8 * i.val + t.val, by omega⟩ := by
  rw [← Fintype.sum_prod_type' (f := fun (i : Fin 16) (t : Fin 8) => f ⟨8 * i.val + t.val, by omega⟩)]
  refine (Fintype.sum_equiv (finProdFinEquiv (m := 16) (n := 8)) _ _ fun x => ?_).symm
  congr 1
  exact Fin.ext (Nat.add_comm _ _)

/-- A sum over 128 whose terms vanish but in one group of eight. -/
theorem sum_group (f : Fin 128 → EReal) (i : Fin 16) (hf : ∀ k : Fin 128, k.val / 8 ≠ i.val → f k = 0) :
    ∑ k, f k = ∑ t : Fin 8, f ⟨8 * i.val + t.val, by omega⟩ := by
  rw [sum_eights]
  refine Finset.sum_eq_single i (fun j _ hj => Finset.sum_eq_zero fun t _ => hf _ ?_) (fun h => absurd (Finset.mem_univ _) h)
  have : j.val ≠ i.val := fun h => hj (Fin.ext h)
  show (8 * j.val + t.val) / 8 ≠ i.val
  omega

end Cert.Model

end
-- ==== Proof.Host.lean ====
/- The arrays the launch reads besides the arguments: what the host line before it has made of the weights, the biases and the adjacency. -/
module

public import proofs.«01_k».proof.Proof.Gen.KernelIdeal.Frame
public import proofs.«01_k».proof.Proof.Model
public import Idealize.ShloMosaic.Lib.Pointwise
public import Idealize.ShloMosaic.Lib.Claim
public import Idealize.ShloMosaic.Lib.Tactic.CleanTypes
public import Idealize.ShloMosaic.Lib.Tactic.WordOmega
public import Idealize.ShloMosaic.PureOps.Ideal

@[expose] public section

set_option maxRecDepth 16384

noncomputable section

namespace Cert.KernelIdeal.Fused

open Idealize.ShloMosaic Idealize.SL.Sem Cert.KernelIdeal Cert.KernelIdeal.Gen Cert.Model

theorem select_bit {w : BitVec 1} {P : Prop} [Decidable P] (h : w = BitVec.ofBool (decide P)) :
    Scalar.select w (1 : EReal) 0 = if P then 1 else 0 := by
  subst h
  by_cases hP : P
  · rw [if_pos hP, decide_eq_true hP]; rfl
  · rw [if_neg hP, decide_eq_false hP]; rfl

/-- The arguments, by their coordinates, in the memory the program starts from. -/
def args (m : (ℓ : Loc nD τ sig) → Buf (Elt Ideal) ℓ) (c : Dev nD) : Args where
  seq1 B s k := m ((c.tc : Thread nD τ).loc main_arg0) (ix3 B s k)
  seq2 B s k := m ((c.tc : Thread nD τ).loc main_arg1) (ix3 B s k)
  seq3 B s k := m ((c.tc : Thread nD τ).loc main_arg2) (ix3 B s k)
  seq4 B s k := m ((c.tc : Thread nD τ).loc main_arg3) (ix3 B s k)
  adj1 B s u := m ((c.tc : Thread nD τ).loc main_arg4) (ix3 B s u)
  adj2 B s u := m ((c.tc : Thread nD τ).loc main_arg5) (ix3 B s u)
  We l k := m ((c.tc : Thread nD τ).loc main_arg6) (ix2 l k)
  be l := m ((c.tc : Thread nD τ).loc main_arg7) (ix1 l)
  ae := m ((c.tc : Thread nD τ).loc main_arg8) (ix1 0)
  Wd l k := m ((c.tc : Thread nD τ).loc main_arg9) (ix2 l k)
  bd l := m ((c.tc : Thread nD τ).loc main_arg10) (ix1 l)
  ad := m ((c.tc : Thread nD τ).loc main_arg11) (ix1 0)
  Wb1 k l := m ((c.tc : Thread nD τ).loc main_arg12) (ix3 0 k l)
  bb1 := m ((c.tc : Thread nD τ).loc main_arg13) (ix1 0)
  Wb2 k l := m ((c.tc : Thread nD τ).loc main_arg14) (ix3 0 k l)
  bb2 := m ((c.tc : Thread nD τ).loc main_arg15) (ix1 0)

variable (m : (ℓ : Loc nD τ sig) → Buf (Elt Ideal) ℓ) (c : Dev nD)

set_option maxHeartbeats 2000000 in
theorem v45_eq : @Eq (FVec Ideal S8x8x8192 .f32) (V m c main_v45) (fun i => (args m c).adj1 (i 2) (i 0) (i 1)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v46_eq : @Eq (FVec Ideal S8x8x8192 .f32) (V m c main_v46) (fun i => (args m c).adj2 (i 2) (i 0) (i 1)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v47_eq : @Eq (FVec Ideal S128x128 .bf16) (V m c main_v47) (fun i => two (fun l => (args m c).We l (i 0)) (fun _ => 0) (i 1)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v48_eq : @Eq (FVec Ideal S128x128 .bf16) (V m c main_v48) (fun i => two (fun _ => 0) (fun l => (args m c).We l (i 0)) (i 1)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v6_eq : @Eq (FVec Ideal S1x128 .f32) (V m c main_v6) (fun i => two (args m c).be (args m c).be (i 1)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v49_eq : @Eq (FVec Ideal S1x1 .f32) (V m c main_v49) (fun i => (args m c).ae) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v50_eq : @Eq (FVec Ideal S128x128 .bf16) (V m c main_v50) (fun i => two (fun _ => 0) (fun k => (args m c).Wd (i 1) k) (i 0)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v51_eq : @Eq (FVec Ideal S1x128 .f32) (V m c main_v51) (fun i => (args m c).bd (i 1)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v52_eq : @Eq (FVec Ideal S1x1 .f32) (V m c main_v52) (fun i => (args m c).ad) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v14_eq : @Eq (FVec Ideal S128x128 .f32) (V m c main_v14) (fun i => two (fun k => two (fun l => (args m c).Wb1 k l) (fun _ => 0) (i 1)) (fun _ => 0) (i 0)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v53_eq : @Eq (FVec Ideal S1x1 .f32) (V m c main_v53) (fun i => (args m c).bb1) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v18_eq : @Eq (FVec Ideal S128x128 .f32) (V m c main_v18) (fun i => two (fun k => two (fun l => (args m c).Wb2 k l) (fun _ => 0) (i 1)) (fun _ => 0) (i 0)) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v54_eq : @Eq (FVec Ideal S1x1 .f32) (V m c main_v54) (fun i => (args m c).bb2) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  funext i; idx_vars i
  pointwise
  rfl

set_option maxHeartbeats 2000000 in
theorem v44_eq : @Eq (FVec Ideal S32x128 .bf16) (V m c main_v44) (fun i => if ((i 0).val < 16 ∧ (i 1).val / 8 = (i 0).val ∧ (i 1).val % 8 < 7) ∨ (16 ≤ (i 0).val ∧ (i 1).val = ((i 0).val - 16) * 8 + 7) then (1 : EReal) else 0) := by
  simp only [V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  after_results_loop
  simp only [StableHlo.TRef.ofBuf_toBuf, id]
  simp only [StableHlo.TRef.of, StableHlo.TRef.ofBuf, StableHlo.TRef.toBuf]
  clean_types
  simp only [cast_eq]
  funext i; idx_vars i
  pointwise
  refine select_bit ?_
  revert i0 i1
  decide +kernel

end Cert.KernelIdeal.Fused

end
-- ==== Proof.Stack.lean ====
/- Stacks of 32 equal pieces read at an index, and the two products that the kernel makes piece by piece. -/
module

public import proofs.«01_k».proof.Proof.Block
public import Idealize.ShloMosaic.Lib.Pipeline.Value

@[expose] public section

set_option maxRecDepth 16384

noncomputable section

namespace Cert.KernelIdeal.Fused

open Idealize.ShloMosaic Idealize.SL.Sem Cert.KernelIdeal Cert.KernelIdeal.Gen

/-- A stack of 32 pieces of 128 rows, each one of a family: row `r` is row `r % 128` of piece `r / 128`. -/
theorem stack128 {α : Type} (f : Fin 32 → (S128x128.Idx → α)) {v0 v1 v2 v3 v4 v5 v6 v7 v8 v9 v10 v11 v12 v13 v14 v15 v16 v17 v18 v19 v20 v21 v22 v23 v24 v25 v26 v27 v28 v29 v30 v31 : S128x128.Idx → α} (hc)
    (h0 : v0 = f 0) (h1 : v1 = f 1) (h2 : v2 = f 2) (h3 : v3 = f 3) (h4 : v4 = f 4) (h5 : v5 = f 5) (h6 : v6 = f 6) (h7 : v7 = f 7) (h8 : v8 = f 8) (h9 : v9 = f 9) (h10 : v10 = f 10) (h11 : v11 = f 11) (h12 : v12 = f 12) (h13 : v13 = f 13) (h14 : v14 = f 14) (h15 : v15 = f 15) (h16 : v16 = f 16) (h17 : v17 = f 17) (h18 : v18 = f 18) (h19 : v19 = f 19) (h20 : v20 = f 20) (h21 : v21 = f 21) (h22 : v22 = f 22) (h23 : v23 = f 23) (h24 : v24 = f 24) (h25 : v25 = f 25) (h26 : v26 = f 26) (h27 : v27 = f 27) (h28 : v28 = f 28) (h29 : v29 = f 29) (h30 : v30 = f 30) (h31 : v31 = f 31) (j : S4096x128.Idx) :
    concatenate S4096x128 0 [⟨S128x128, v0⟩, ⟨S128x128, v1⟩, ⟨S128x128, v2⟩, ⟨S128x128, v3⟩, ⟨S128x128, v4⟩, ⟨S128x128, v5⟩, ⟨S128x128, v6⟩, ⟨S128x128, v7⟩, ⟨S128x128, v8⟩, ⟨S128x128, v9⟩, ⟨S128x128, v10⟩, ⟨S128x128, v11⟩, ⟨S128x128, v12⟩, ⟨S128x128, v13⟩, ⟨S128x128, v14⟩, ⟨S128x128, v15⟩, ⟨S128x128, v16⟩, ⟨S128x128, v17⟩, ⟨S128x128, v18⟩, ⟨S128x128, v19⟩, ⟨S128x128, v20⟩, ⟨S128x128, v21⟩, ⟨S128x128, v22⟩, ⟨S128x128, v23⟩, ⟨S128x128, v24⟩, ⟨S128x128, v25⟩, ⟨S128x128, v26⟩, ⟨S128x128, v27⟩, ⟨S128x128, v28⟩, ⟨S128x128, v29⟩, ⟨S128x128, v30⟩, ⟨S128x128, v31⟩] hc j
      = f ⟨(j 0).val / 128, Nat.div_lt_of_lt_mul (show (j 0).val < 128 * 32 from (j 0).isLt)⟩ (ix2 ⟨(j 0).val % 128, Nat.mod_lt _ (by decide)⟩ (j 1)) := by
  subst h0 h1 h2 h3 h4 h5 h6 h7 h8 h9 h10 h11 h12 h13 h14 h15 h16 h17 h18 h19 h20 h21 h22 h23 h24 h25 h26 h27 h28 h29 h30 h31
  exact concatenate_ofFn_apply (t := S4096x128) (s₁ := S128x128) 0 f hc rfl 128 rfl j ⟨(j 0).val / 128, Nat.div_lt_of_lt_mul (show (j 0).val < 128 * 32 from (j 0).isLt)⟩ rfl _ rfl
    (fun b hb => by
      match b, hb with
      | ⟨0, _⟩, hb => exact absurd rfl hb
      | ⟨1, _⟩, _ => rfl)

/-- A stack of 32 pieces of 16 rows, each one of a family: row `r` is row `r % 16` of piece `r / 16`. -/
theorem stack16 {α : Type} (f : Fin 32 → (S16x128.Idx → α)) {v0 v1 v2 v3 v4 v5 v6 v7 v8 v9 v10 v11 v12 v13 v14 v15 v16 v17 v18 v19 v20 v21 v22 v23 v24 v25 v26 v27 v28 v29 v30 v31 : S16x128.Idx → α} (hc)
    (h0 : v0 = f 0) (h1 : v1 = f 1) (h2 : v2 = f 2) (h3 : v3 = f 3) (h4 : v4 = f 4) (h5 : v5 = f 5) (h6 : v6 = f 6) (h7 : v7 = f 7) (h8 : v8 = f 8) (h9 : v9 = f 9) (h10 : v10 = f 10) (h11 : v11 = f 11) (h12 : v12 = f 12) (h13 : v13 = f 13) (h14 : v14 = f 14) (h15 : v15 = f 15) (h16 : v16 = f 16) (h17 : v17 = f 17) (h18 : v18 = f 18) (h19 : v19 = f 19) (h20 : v20 = f 20) (h21 : v21 = f 21) (h22 : v22 = f 22) (h23 : v23 = f 23) (h24 : v24 = f 24) (h25 : v25 = f 25) (h26 : v26 = f 26) (h27 : v27 = f 27) (h28 : v28 = f 28) (h29 : v29 = f 29) (h30 : v30 = f 30) (h31 : v31 = f 31) (j : S512x128.Idx) :
    concatenate S512x128 0 [⟨S16x128, v0⟩, ⟨S16x128, v1⟩, ⟨S16x128, v2⟩, ⟨S16x128, v3⟩, ⟨S16x128, v4⟩, ⟨S16x128, v5⟩, ⟨S16x128, v6⟩, ⟨S16x128, v7⟩, ⟨S16x128, v8⟩, ⟨S16x128, v9⟩, ⟨S16x128, v10⟩, ⟨S16x128, v11⟩, ⟨S16x128, v12⟩, ⟨S16x128, v13⟩, ⟨S16x128, v14⟩, ⟨S16x128, v15⟩, ⟨S16x128, v16⟩, ⟨S16x128, v17⟩, ⟨S16x128, v18⟩, ⟨S16x128, v19⟩, ⟨S16x128, v20⟩, ⟨S16x128, v21⟩, ⟨S16x128, v22⟩, ⟨S16x128, v23⟩, ⟨S16x128, v24⟩, ⟨S16x128, v25⟩, ⟨S16x128, v26⟩, ⟨S16x128, v27⟩, ⟨S16x128, v28⟩, ⟨S16x128, v29⟩, ⟨S16x128, v30⟩, ⟨S16x128, v31⟩] hc j
      = f ⟨(j 0).val / 16, Nat.div_lt_of_lt_mul (show (j 0).val < 16 * 32 from (j 0).isLt)⟩ (ix2 ⟨(j 0).val % 16, Nat.mod_lt _ (by decide)⟩ (j 1)) := by
  subst h0 h1 h2 h3 h4 h5 h6 h7 h8 h9 h10 h11 h12 h13 h14 h15 h16 h17 h18 h19 h20 h21 h22 h23 h24 h25 h26 h27 h28 h29 h30 h31
  exact concatenate_ofFn_apply (t := S512x128) (s₁ := S16x128) 0 f hc rfl 16 rfl j ⟨(j 0).val / 16, Nat.div_lt_of_lt_mul (show (j 0).val < 16 * 32 from (j 0).isLt)⟩ rfl _ rfl
    (fun b hb => by
      match b, hb with
      | ⟨0, _⟩, hb => exact absurd rfl hb
      | ⟨1, _⟩, _ => rfl)

/-- The product of the `g`-th 128 rows of `A` with the `g`-th 128 rows of `B`. -/
def aggP (A : FVec Ideal S4096x128 .bf16) (B : FVec Ideal S4096x128 .f32) (g : Fin 32) : FVec Ideal S128x128 .f32 := fun i =>
  ∑ k : Fin 128, A (ix2 ⟨128 * g.val + (i 0).val, by have : (i 0).val < 128 := (i 0).isLt; omega⟩ k) * B (ix2 ⟨128 * g.val + k.val, by omega⟩ (i 1))

theorem aggP_eq (A : FVec Ideal S4096x128 .bf16) (B : FVec Ideal S4096x128 .f32) (o : ℕ) (hs hs') (g : Fin 32) (ho : 128 * g.val = o) :
    matmul dot_S128x128_S128x128_S128x128_1_0_0_1_n_n none (extractStridedSlice S128x128 ![o, 0] A hs) (extractStridedSlice S128x128 ![o, 0] B hs') (constant S128x128 .f32 0x00000000#32)
      = aggP A B g := by
  subst ho
  funext i
  idx_vars i
  pointwise [aggP]

/-- Group by group, the product of 128 rows of `A` with 128 rows of `B`. -/
def agg (A : FVec Ideal S4096x128 .bf16) (B : FVec Ideal S4096x128 .f32) : FVec Ideal S4096x128 .f32 := fun j =>
  aggP A B ⟨(j 0).val / 128, Nat.div_lt_of_lt_mul (show (j 0).val < 128 * 32 from (j 0).isLt)⟩ (ix2 ⟨(j 0).val % 128, Nat.mod_lt _ (by decide)⟩ (j 1))

/-- The product of the selector with the `g`-th 128 rows of `H`. -/
def rdP (S : FVec Ideal S32x128 .bf16) (H : FVec Ideal S4096x128 .bf16) (g : Fin 32) : FVec Ideal S32x128 .f32 := fun i =>
  ∑ k : Fin 128, S (ix2 (i 0) k) * H (ix2 ⟨128 * g.val + k.val, by omega⟩ (i 1))

theorem rdP_eq (S : FVec Ideal S32x128 .bf16) (H : FVec Ideal S4096x128 .bf16) (o : ℕ) (hs) (g : Fin 32) (ho : 128 * g.val = o) :
    matmul dot_S32x128_S128x128_S32x128_1_0_0_1_n_n none S (extractStridedSlice S128x128 ![o, 0] H hs) (constant S32x128 .f32 0x00000000#32)
      = rdP S H g := by
  subst ho
  funext i
  idx_vars i
  pointwise [rdP]

/-- The upper half of the selector's products, stacked. -/
def rdLo (S : FVec Ideal S32x128 .bf16) (H : FVec Ideal S4096x128 .bf16) : FVec Ideal S512x128 .f32 := fun j =>
  rdP S H ⟨(j 0).val / 16, Nat.div_lt_of_lt_mul (show (j 0).val < 16 * 32 from (j 0).isLt)⟩ (ix2 ⟨(j 0).val % 16, by omega⟩ (j 1))

/-- The lower half of the selector's products, stacked. -/
def rdHi (S : FVec Ideal S32x128 .bf16) (H : FVec Ideal S4096x128 .bf16) : FVec Ideal S512x128 .f32 := fun j =>
  rdP S H ⟨(j 0).val / 16, Nat.div_lt_of_lt_mul (show (j 0).val < 16 * 32 from (j 0).isLt)⟩ (ix2 ⟨16 + (j 0).val % 16, by omega⟩ (j 1))

def pLo (S : FVec Ideal S32x128 .bf16) (H : FVec Ideal S4096x128 .bf16) (g : Fin 32) : FVec Ideal S16x128 .f32 := fun i =>
  rdP S H g (ix2 ⟨(i 0).val, Nat.lt_trans (show (i 0).val < 16 from (i 0).isLt) (by decide)⟩ (i 1))

def pHi (S : FVec Ideal S32x128 .bf16) (H : FVec Ideal S4096x128 .bf16) (g : Fin 32) : FVec Ideal S16x128 .f32 := fun i =>
  rdP S H g (ix2 ⟨16 + (i 0).val, Nat.add_lt_add_left (show (i 0).val < 16 from (i 0).isLt) 16⟩ (i 1))

theorem pLo_eq (S : FVec Ideal S32x128 .bf16) (H : FVec Ideal S4096x128 .bf16) (o : ℕ) (hs hs') (g : Fin 32) (ho : 128 * g.val = o) :
    extractStridedSlice S16x128 ![0, 0] (matmul dot_S32x128_S128x128_S32x128_1_0_0_1_n_n none S (extractStridedSlice S128x128 ![o, 0] H hs) (constant S32x128 .f32 0x00000000#32)) hs'
      = pLo S H g := by
  rw [rdP_eq S H o hs g ho]
  funext i
  idx_vars i
  pointwise [pLo]

theorem pHi_eq (S : FVec Ideal S32x128 .bf16) (H : FVec Ideal S4096x128 .bf16) (o : ℕ) (hs hs') (g : Fin 32) (ho : 128 * g.val = o) :
    extractStridedSlice S16x128 ![16, 0] (matmul dot_S32x128_S128x128_S32x128_1_0_0_1_n_n none S (extractStridedSlice S128x128 ![o, 0] H hs) (constant S32x128 .f32 0x00000000#32)) hs'
      = pHi S H g := by
  rw [rdP_eq S H o hs g ho]
  funext i
  idx_vars i
  pointwise [pHi]

/-- The activation of `z` plus the bias row, with slope `a`. -/
def act (z : FVec Ideal S4096x128 .f32) (x : FVec Ideal S1x128 .f32) (a : EReal) : FVec Ideal S4096x128 .f32 := fun j =>
  max (z j + x (ix2 0 (j 1))) (a * (z j + x (ix2 0 (j 1))))

theorem act_eq {z Z : FVec Ideal S4096x128 .f32} (hz : z = Z) (x : FVec Ideal S1x128 .f32) (a : Ideal .f32) :
    maximumf (addf z (broadcastTo S4096x128 (shapeCast S1x128 x shapeCasts_S1x128_S1x128) broadcasts_S1x128_S4096x128))
      (mulf (broadcast S4096x128 a) (addf z (broadcastTo S4096x128 (shapeCast S1x128 x shapeCasts_S1x128_S1x128) broadcasts_S1x128_S4096x128)))
      = act Z x a := by
  subst hz
  funext i
  idx_vars i
  pointwise [act]

end Cert.KernelIdeal.Fused

end
-- ==== Proof.Arrays.lean ====
/- The named arrays of a grid point over the extended reals: activations of aggregated features, and the two read-outs. -/
module

public import proofs.«01_k».proof.Proof.Stack

@[expose] public section

set_option maxRecDepth 16384

noncomputable section

namespace Cert.KernelIdeal.Fused

open Idealize.ShloMosaic Idealize.SL.Sem Cert.KernelIdeal Cert.KernelIdeal.Gen

namespace Blk

variable (b : Blk Ideal)

/-- The features of sequences one and three, side by side. -/
def fts13 : FVec Ideal S4096x128 .f32 := k0_pay7 b.fts1 b.x2 b.x7

set_option maxHeartbeats 4000000 in
theorem h13_eq : b.h13 = act (agg b.bd1 b.fts13) b.x8 (b.x9 (ix2 0 0)) :=
  act_eq (funext fun j => stack128 (aggP b.bd1 b.fts13) concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4096x128_d0
      (aggP_eq b.bd1 b.fts13 0 (by decide) (by decide) 0 rfl) (aggP_eq b.bd1 b.fts13 128 (by decide) (by decide) 1 rfl) (aggP_eq b.bd1 b.fts13 256 (by decide) (by decide) 2 rfl) (aggP_eq b.bd1 b.fts13 384 (by decide) (by decide) 3 rfl) (aggP_eq b.bd1 b.fts13 512 (by decide) (by decide) 4 rfl) (aggP_eq b.bd1 b.fts13 640 (by decide) (by decide) 5 rfl) (aggP_eq b.bd1 b.fts13 768 (by decide) (by decide) 6 rfl) (aggP_eq b.bd1 b.fts13 896 (by decide) (by decide) 7 rfl) (aggP_eq b.bd1 b.fts13 1024 (by decide) (by decide) 8 rfl) (aggP_eq b.bd1 b.fts13 1152 (by decide) (by decide) 9 rfl) (aggP_eq b.bd1 b.fts13 1280 (by decide) (by decide) 10 rfl) (aggP_eq b.bd1 b.fts13 1408 (by decide) (by decide) 11 rfl) (aggP_eq b.bd1 b.fts13 1536 (by decide) (by decide) 12 rfl) (aggP_eq b.bd1 b.fts13 1664 (by decide) (by decide) 13 rfl) (aggP_eq b.bd1 b.fts13 1792 (by decide) (by decide) 14 rfl) (aggP_eq b.bd1 b.fts13 1920 (by decide) (by decide) 15 rfl) (aggP_eq b.bd1 b.fts13 2048 (by decide) (by decide) 16 rfl) (aggP_eq b.bd1 b.fts13 2176 (by decide) (by decide) 17 rfl) (aggP_eq b.bd1 b.fts13 2304 (by decide) (by decide) 18 rfl) (aggP_eq b.bd1 b.fts13 2432 (by decide) (by decide) 19 rfl) (aggP_eq b.bd1 b.fts13 2560 (by decide) (by decide) 20 rfl) (aggP_eq b.bd1 b.fts13 2688 (by decide) (by decide) 21 rfl) (aggP_eq b.bd1 b.fts13 2816 (by decide) (by decide) 22 rfl) (aggP_eq b.bd1 b.fts13 2944 (by decide) (by decide) 23 rfl) (aggP_eq b.bd1 b.fts13 3072 (by decide) (by decide) 24 rfl) (aggP_eq b.bd1 b.fts13 3200 (by decide) (by decide) 25 rfl) (aggP_eq b.bd1 b.fts13 3328 (by decide) (by decide) 26 rfl) (aggP_eq b.bd1 b.fts13 3456 (by decide) (by decide) 27 rfl) (aggP_eq b.bd1 b.fts13 3584 (by decide) (by decide) 28 rfl) (aggP_eq b.bd1 b.fts13 3712 (by decide) (by decide) 29 rfl) (aggP_eq b.bd1 b.fts13 3840 (by decide) (by decide) 30 rfl) (aggP_eq b.bd1 b.fts13 3968 (by decide) (by decide) 31 rfl) j) _ _

set_option maxHeartbeats 4000000 in
theorem agg24_eq : b.agg24 = agg b.bd2 b.fts24 :=
  (funext fun j => stack128 (aggP b.bd2 b.fts24) concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4096x128_d0
      (aggP_eq b.bd2 b.fts24 0 (by decide) (by decide) 0 rfl) (aggP_eq b.bd2 b.fts24 128 (by decide) (by decide) 1 rfl) (aggP_eq b.bd2 b.fts24 256 (by decide) (by decide) 2 rfl) (aggP_eq b.bd2 b.fts24 384 (by decide) (by decide) 3 rfl) (aggP_eq b.bd2 b.fts24 512 (by decide) (by decide) 4 rfl) (aggP_eq b.bd2 b.fts24 640 (by decide) (by decide) 5 rfl) (aggP_eq b.bd2 b.fts24 768 (by decide) (by decide) 6 rfl) (aggP_eq b.bd2 b.fts24 896 (by decide) (by decide) 7 rfl) (aggP_eq b.bd2 b.fts24 1024 (by decide) (by decide) 8 rfl) (aggP_eq b.bd2 b.fts24 1152 (by decide) (by decide) 9 rfl) (aggP_eq b.bd2 b.fts24 1280 (by decide) (by decide) 10 rfl) (aggP_eq b.bd2 b.fts24 1408 (by decide) (by decide) 11 rfl) (aggP_eq b.bd2 b.fts24 1536 (by decide) (by decide) 12 rfl) (aggP_eq b.bd2 b.fts24 1664 (by decide) (by decide) 13 rfl) (aggP_eq b.bd2 b.fts24 1792 (by decide) (by decide) 14 rfl) (aggP_eq b.bd2 b.fts24 1920 (by decide) (by decide) 15 rfl) (aggP_eq b.bd2 b.fts24 2048 (by decide) (by decide) 16 rfl) (aggP_eq b.bd2 b.fts24 2176 (by decide) (by decide) 17 rfl) (aggP_eq b.bd2 b.fts24 2304 (by decide) (by decide) 18 rfl) (aggP_eq b.bd2 b.fts24 2432 (by decide) (by decide) 19 rfl) (aggP_eq b.bd2 b.fts24 2560 (by decide) (by decide) 20 rfl) (aggP_eq b.bd2 b.fts24 2688 (by decide) (by decide) 21 rfl) (aggP_eq b.bd2 b.fts24 2816 (by decide) (by decide) 22 rfl) (aggP_eq b.bd2 b.fts24 2944 (by decide) (by decide) 23 rfl) (aggP_eq b.bd2 b.fts24 3072 (by decide) (by decide) 24 rfl) (aggP_eq b.bd2 b.fts24 3200 (by decide) (by decide) 25 rfl) (aggP_eq b.bd2 b.fts24 3328 (by decide) (by decide) 26 rfl) (aggP_eq b.bd2 b.fts24 3456 (by decide) (by decide) 27 rfl) (aggP_eq b.bd2 b.fts24 3584 (by decide) (by decide) 28 rfl) (aggP_eq b.bd2 b.fts24 3712 (by decide) (by decide) 29 rfl) (aggP_eq b.bd2 b.fts24 3840 (by decide) (by decide) 30 rfl) (aggP_eq b.bd2 b.fts24 3968 (by decide) (by decide) 31 rfl) j)

theorem hb24_eq : b.hb24 = act (agg b.bd2 b.fts24) b.x8 (b.x9 (ix2 0 0)) := by
  rw [← agg24_eq]
  exact act_eq rfl _ _

theorem sel_eq : k0_pay58 b.x17 = b.x17 := by
  funext i; idx_vars i; pointwise [k0_pay58]

set_option maxHeartbeats 4000000 in
theorem sum13_eq : b.sum13 = rdLo (k0_pay58 b.x17) (k0_pay56 b.h13) :=
  (funext fun j => stack16 (pLo (k0_pay58 b.x17) (k0_pay56 b.h13)) concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0
      (pLo_eq (k0_pay58 b.x17) (k0_pay56 b.h13) 0 (by decide) (by decide) 0 rfl) (pLo_eq (k0_pay58 b.x17) (k0_pay56 b.h13) 128 (by decide) (by decide) 1 rfl) (pLo_eq (k0_pay58 b.x17) (k0_pay56 b.h13) 256 (by decide) (by decide) 2 rfl) (pLo_eq (k0_pay58 b.x17) (k0_pay56 b.h13) 384 (by decide) (by decide) 3 rfl) (pLo_eq (k0_pay58 b.x17) (k0_pay56 b.h13) 512 (by decide) (by decide) 4 rfl) (pLo_eq (k0_pay58 b.x17) (k0_pay56 b.h13) 640 (by decide) (by decide) 5 rfl) (pLo_eq (k0_pay58 b.x17) (k0_pay56 b.h13) 768 (by decide) (by decide) 6 rfl) (pLo_eq (k0_pay58 b.x17) (k0_pay56 b.h13) 896 (by decide) (by decide) 7 rfl) (pLo_eq (k0_pay58 b.x17) (k0_pay56 b.h13) 1024 (by decide) (by decide) 8 rfl) (pLo_eq (k0_pay58 b.x17) (k0_pay56 b.h13) 1152 (by decide) (by decide) 9 rfl) (pLo_eq (k0_pay58 b.x17) (k0_pay56 b.h13) 1280 (by decide) (by decide) 10 rfl) (pLo_eq (k0_pay58 b.x17) (k0_pay56 b.h13) 1408 (by decide) (by decide) 11 rfl) (pLo_eq (k0_pay58 b.x17) (k0_pay56 b.h13) 1536 (by decide) (by decide) 12 rfl) (pLo_eq (k0_pay58 b.x17) (k0_pay56 b.h13) 1664 (by decide) (by decide) 13 rfl) (pLo_eq (k0_pay58 b.x17) (k0_pay56 b.h13) 1792 (by decide) (by decide) 14 rfl) (pLo_eq (k0_pay58 b.x17) (k0_pay56 b.h13) 1920 (by decide) (by decide) 15 rfl) (pLo_eq (k0_pay58 b.x17) (k0_pay56 b.h13) 2048 (by decide) (by decide) 16 rfl) (pLo_eq (k0_pay58 b.x17) (k0_pay56 b.h13) 2176 (by decide) (by decide) 17 rfl) (pLo_eq (k0_pay58 b.x17) (k0_pay56 b.h13) 2304 (by decide) (by decide) 18 rfl) (pLo_eq (k0_pay58 b.x17) (k0_pay56 b.h13) 2432 (by decide) (by decide) 19 rfl) (pLo_eq (k0_pay58 b.x17) (k0_pay56 b.h13) 2560 (by decide) (by decide) 20 rfl) (pLo_eq (k0_pay58 b.x17) (k0_pay56 b.h13) 2688 (by decide) (by decide) 21 rfl) (pLo_eq (k0_pay58 b.x17) (k0_pay56 b.h13) 2816 (by decide) (by decide) 22 rfl) (pLo_eq (k0_pay58 b.x17) (k0_pay56 b.h13) 2944 (by decide) (by decide) 23 rfl) (pLo_eq (k0_pay58 b.x17) (k0_pay56 b.h13) 3072 (by decide) (by decide) 24 rfl) (pLo_eq (k0_pay58 b.x17) (k0_pay56 b.h13) 3200 (by decide) (by decide) 25 rfl) (pLo_eq (k0_pay58 b.x17) (k0_pay56 b.h13) 3328 (by decide) (by decide) 26 rfl) (pLo_eq (k0_pay58 b.x17) (k0_pay56 b.h13) 3456 (by decide) (by decide) 27 rfl) (pLo_eq (k0_pay58 b.x17) (k0_pay56 b.h13) 3584 (by decide) (by decide) 28 rfl) (pLo_eq (k0_pay58 b.x17) (k0_pay56 b.h13) 3712 (by decide) (by decide) 29 rfl) (pLo_eq (k0_pay58 b.x17) (k0_pay56 b.h13) 3840 (by decide) (by decide) 30 rfl) (pLo_eq (k0_pay58 b.x17) (k0_pay56 b.h13) 3968 (by decide) (by decide) 31 rfl) j)

set_option maxHeartbeats 4000000 in
theorem hm13_eq : b.hm13 = rdHi (k0_pay58 b.x17) (k0_pay56 b.h13) :=
  (funext fun j => stack16 (pHi (k0_pay58 b.x17) (k0_pay56 b.h13)) concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0
      (pHi_eq (k0_pay58 b.x17) (k0_pay56 b.h13) 0 (by decide) (by decide) 0 rfl) (pHi_eq (k0_pay58 b.x17) (k0_pay56 b.h13) 128 (by decide) (by decide) 1 rfl) (pHi_eq (k0_pay58 b.x17) (k0_pay56 b.h13) 256 (by decide) (by decide) 2 rfl) (pHi_eq (k0_pay58 b.x17) (k0_pay56 b.h13) 384 (by decide) (by decide) 3 rfl) (pHi_eq (k0_pay58 b.x17) (k0_pay56 b.h13) 512 (by decide) (by decide) 4 rfl) (pHi_eq (k0_pay58 b.x17) (k0_pay56 b.h13) 640 (by decide) (by decide) 5 rfl) (pHi_eq (k0_pay58 b.x17) (k0_pay56 b.h13) 768 (by decide) (by decide) 6 rfl) (pHi_eq (k0_pay58 b.x17) (k0_pay56 b.h13) 896 (by decide) (by decide) 7 rfl) (pHi_eq (k0_pay58 b.x17) (k0_pay56 b.h13) 1024 (by decide) (by decide) 8 rfl) (pHi_eq (k0_pay58 b.x17) (k0_pay56 b.h13) 1152 (by decide) (by decide) 9 rfl) (pHi_eq (k0_pay58 b.x17) (k0_pay56 b.h13) 1280 (by decide) (by decide) 10 rfl) (pHi_eq (k0_pay58 b.x17) (k0_pay56 b.h13) 1408 (by decide) (by decide) 11 rfl) (pHi_eq (k0_pay58 b.x17) (k0_pay56 b.h13) 1536 (by decide) (by decide) 12 rfl) (pHi_eq (k0_pay58 b.x17) (k0_pay56 b.h13) 1664 (by decide) (by decide) 13 rfl) (pHi_eq (k0_pay58 b.x17) (k0_pay56 b.h13) 1792 (by decide) (by decide) 14 rfl) (pHi_eq (k0_pay58 b.x17) (k0_pay56 b.h13) 1920 (by decide) (by decide) 15 rfl) (pHi_eq (k0_pay58 b.x17) (k0_pay56 b.h13) 2048 (by decide) (by decide) 16 rfl) (pHi_eq (k0_pay58 b.x17) (k0_pay56 b.h13) 2176 (by decide) (by decide) 17 rfl) (pHi_eq (k0_pay58 b.x17) (k0_pay56 b.h13) 2304 (by decide) (by decide) 18 rfl) (pHi_eq (k0_pay58 b.x17) (k0_pay56 b.h13) 2432 (by decide) (by decide) 19 rfl) (pHi_eq (k0_pay58 b.x17) (k0_pay56 b.h13) 2560 (by decide) (by decide) 20 rfl) (pHi_eq (k0_pay58 b.x17) (k0_pay56 b.h13) 2688 (by decide) (by decide) 21 rfl) (pHi_eq (k0_pay58 b.x17) (k0_pay56 b.h13) 2816 (by decide) (by decide) 22 rfl) (pHi_eq (k0_pay58 b.x17) (k0_pay56 b.h13) 2944 (by decide) (by decide) 23 rfl) (pHi_eq (k0_pay58 b.x17) (k0_pay56 b.h13) 3072 (by decide) (by decide) 24 rfl) (pHi_eq (k0_pay58 b.x17) (k0_pay56 b.h13) 3200 (by decide) (by decide) 25 rfl) (pHi_eq (k0_pay58 b.x17) (k0_pay56 b.h13) 3328 (by decide) (by decide) 26 rfl) (pHi_eq (k0_pay58 b.x17) (k0_pay56 b.h13) 3456 (by decide) (by decide) 27 rfl) (pHi_eq (k0_pay58 b.x17) (k0_pay56 b.h13) 3584 (by decide) (by decide) 28 rfl) (pHi_eq (k0_pay58 b.x17) (k0_pay56 b.h13) 3712 (by decide) (by decide) 29 rfl) (pHi_eq (k0_pay58 b.x17) (k0_pay56 b.h13) 3840 (by decide) (by decide) 30 rfl) (pHi_eq (k0_pay58 b.x17) (k0_pay56 b.h13) 3968 (by decide) (by decide) 31 rfl) j)

/-- The constant that stands for one seventh. -/
def seventh : EReal := Named.named (F := Ideal) κ "seventh" (φ := .f32) 0x3E124925#32

theorem scale_eq {z Z : FVec Ideal S512x128 .f32} (hz : z = Z) :
    mulf z (broadcast S512x128 (Named.named (F := Ideal) κ "seventh" (φ := .f32) 0x3E124925#32)) = fun j => Z j * seventh := by
  subst hz; rfl

theorem cc13_eq : b.cc13 = fun j => rdLo (k0_pay58 b.x17) (k0_pay56 b.h13) j * seventh :=
  scale_eq (sum13_eq b)

set_option maxHeartbeats 4000000 in
theorem cc24_eq : b.cc24 = fun j => rdLo (k0_pay58 b.x17) b.hb24 j * seventh :=
  scale_eq (funext fun j => stack16 (pLo (k0_pay58 b.x17) b.hb24) concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0
      (pLo_eq (k0_pay58 b.x17) b.hb24 0 (by decide) (by decide) 0 rfl) (pLo_eq (k0_pay58 b.x17) b.hb24 128 (by decide) (by decide) 1 rfl) (pLo_eq (k0_pay58 b.x17) b.hb24 256 (by decide) (by decide) 2 rfl) (pLo_eq (k0_pay58 b.x17) b.hb24 384 (by decide) (by decide) 3 rfl) (pLo_eq (k0_pay58 b.x17) b.hb24 512 (by decide) (by decide) 4 rfl) (pLo_eq (k0_pay58 b.x17) b.hb24 640 (by decide) (by decide) 5 rfl) (pLo_eq (k0_pay58 b.x17) b.hb24 768 (by decide) (by decide) 6 rfl) (pLo_eq (k0_pay58 b.x17) b.hb24 896 (by decide) (by decide) 7 rfl) (pLo_eq (k0_pay58 b.x17) b.hb24 1024 (by decide) (by decide) 8 rfl) (pLo_eq (k0_pay58 b.x17) b.hb24 1152 (by decide) (by decide) 9 rfl) (pLo_eq (k0_pay58 b.x17) b.hb24 1280 (by decide) (by decide) 10 rfl) (pLo_eq (k0_pay58 b.x17) b.hb24 1408 (by decide) (by decide) 11 rfl) (pLo_eq (k0_pay58 b.x17) b.hb24 1536 (by decide) (by decide) 12 rfl) (pLo_eq (k0_pay58 b.x17) b.hb24 1664 (by decide) (by decide) 13 rfl) (pLo_eq (k0_pay58 b.x17) b.hb24 1792 (by decide) (by decide) 14 rfl) (pLo_eq (k0_pay58 b.x17) b.hb24 1920 (by decide) (by decide) 15 rfl) (pLo_eq (k0_pay58 b.x17) b.hb24 2048 (by decide) (by decide) 16 rfl) (pLo_eq (k0_pay58 b.x17) b.hb24 2176 (by decide) (by decide) 17 rfl) (pLo_eq (k0_pay58 b.x17) b.hb24 2304 (by decide) (by decide) 18 rfl) (pLo_eq (k0_pay58 b.x17) b.hb24 2432 (by decide) (by decide) 19 rfl) (pLo_eq (k0_pay58 b.x17) b.hb24 2560 (by decide) (by decide) 20 rfl) (pLo_eq (k0_pay58 b.x17) b.hb24 2688 (by decide) (by decide) 21 rfl) (pLo_eq (k0_pay58 b.x17) b.hb24 2816 (by decide) (by decide) 22 rfl) (pLo_eq (k0_pay58 b.x17) b.hb24 2944 (by decide) (by decide) 23 rfl) (pLo_eq (k0_pay58 b.x17) b.hb24 3072 (by decide) (by decide) 24 rfl) (pLo_eq (k0_pay58 b.x17) b.hb24 3200 (by decide) (by decide) 25 rfl) (pLo_eq (k0_pay58 b.x17) b.hb24 3328 (by decide) (by decide) 26 rfl) (pLo_eq (k0_pay58 b.x17) b.hb24 3456 (by decide) (by decide) 27 rfl) (pLo_eq (k0_pay58 b.x17) b.hb24 3584 (by decide) (by decide) 28 rfl) (pLo_eq (k0_pay58 b.x17) b.hb24 3712 (by decide) (by decide) 29 rfl) (pLo_eq (k0_pay58 b.x17) b.hb24 3840 (by decide) (by decide) 30 rfl) (pLo_eq (k0_pay58 b.x17) b.hb24 3968 (by decide) (by decide) 31 rfl) j)

/-- The product with a 128 by 128 matrix. -/
def mm (z : FVec Ideal S512x128 .f32) (w : FVec Ideal S128x128 .f32) : FVec Ideal S512x128 .f32 := fun j =>
  ∑ k : Fin 128, z (ix2 (j 0) k) * w (ix2 k (j 1))

theorem mm_eq {z Z : FVec Ideal S512x128 .f32} (hz : z = Z) (w : FVec Ideal S128x128 .f32) :
    matmul dot_S512x128_S128x128_S512x128_1_0_0_1_n_n none z (shapeCast S128x128 w shapeCasts_S128x128_S128x128) (constant S512x128 .f32 0x00000000#32) = mm Z w := by
  subst hz
  funext i; idx_vars i; pointwise [mm]

theorem m1_eq : b.m1 = mm (rdHi (k0_pay58 b.x17) (k0_pay56 b.h13)) b.x15 :=
  mm_eq (hm13_eq b) _

set_option maxHeartbeats 4000000 in
theorem m2_eq : b.m2 = mm (rdHi (k0_pay58 b.x17) b.hb24) b.x13 :=
  mm_eq (funext fun j => stack16 (pHi (k0_pay58 b.x17) b.hb24) concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S512x128_d0
      (pHi_eq (k0_pay58 b.x17) b.hb24 0 (by decide) (by decide) 0 rfl) (pHi_eq (k0_pay58 b.x17) b.hb24 128 (by decide) (by decide) 1 rfl) (pHi_eq (k0_pay58 b.x17) b.hb24 256 (by decide) (by decide) 2 rfl) (pHi_eq (k0_pay58 b.x17) b.hb24 384 (by decide) (by decide) 3 rfl) (pHi_eq (k0_pay58 b.x17) b.hb24 512 (by decide) (by decide) 4 rfl) (pHi_eq (k0_pay58 b.x17) b.hb24 640 (by decide) (by decide) 5 rfl) (pHi_eq (k0_pay58 b.x17) b.hb24 768 (by decide) (by decide) 6 rfl) (pHi_eq (k0_pay58 b.x17) b.hb24 896 (by decide) (by decide) 7 rfl) (pHi_eq (k0_pay58 b.x17) b.hb24 1024 (by decide) (by decide) 8 rfl) (pHi_eq (k0_pay58 b.x17) b.hb24 1152 (by decide) (by decide) 9 rfl) (pHi_eq (k0_pay58 b.x17) b.hb24 1280 (by decide) (by decide) 10 rfl) (pHi_eq (k0_pay58 b.x17) b.hb24 1408 (by decide) (by decide) 11 rfl) (pHi_eq (k0_pay58 b.x17) b.hb24 1536 (by decide) (by decide) 12 rfl) (pHi_eq (k0_pay58 b.x17) b.hb24 1664 (by decide) (by decide) 13 rfl) (pHi_eq (k0_pay58 b.x17) b.hb24 1792 (by decide) (by decide) 14 rfl) (pHi_eq (k0_pay58 b.x17) b.hb24 1920 (by decide) (by decide) 15 rfl) (pHi_eq (k0_pay58 b.x17) b.hb24 2048 (by decide) (by decide) 16 rfl) (pHi_eq (k0_pay58 b.x17) b.hb24 2176 (by decide) (by decide) 17 rfl) (pHi_eq (k0_pay58 b.x17) b.hb24 2304 (by decide) (by decide) 18 rfl) (pHi_eq (k0_pay58 b.x17) b.hb24 2432 (by decide) (by decide) 19 rfl) (pHi_eq (k0_pay58 b.x17) b.hb24 2560 (by decide) (by decide) 20 rfl) (pHi_eq (k0_pay58 b.x17) b.hb24 2688 (by decide) (by decide) 21 rfl) (pHi_eq (k0_pay58 b.x17) b.hb24 2816 (by decide) (by decide) 22 rfl) (pHi_eq (k0_pay58 b.x17) b.hb24 2944 (by decide) (by decide) 23 rfl) (pHi_eq (k0_pay58 b.x17) b.hb24 3072 (by decide) (by decide) 24 rfl) (pHi_eq (k0_pay58 b.x17) b.hb24 3200 (by decide) (by decide) 25 rfl) (pHi_eq (k0_pay58 b.x17) b.hb24 3328 (by decide) (by decide) 26 rfl) (pHi_eq (k0_pay58 b.x17) b.hb24 3456 (by decide) (by decide) 27 rfl) (pHi_eq (k0_pay58 b.x17) b.hb24 3584 (by decide) (by decide) 28 rfl) (pHi_eq (k0_pay58 b.x17) b.hb24 3712 (by decide) (by decide) 29 rfl) (pHi_eq (k0_pay58 b.x17) b.hb24 3840 (by decide) (by decide) 30 rfl) (pHi_eq (k0_pay58 b.x17) b.hb24 3968 (by decide) (by decide) 31 rfl) j) _

theorem sa_eq : b.sa = k0_pay175 b.hbias (mulf b.m2 b.cc13) (mulf b.m1 b.cc24) := rfl

set_option maxHeartbeats 4000000 in
theorem f1_eq : b.f1 = act (agg b.bd1 b.ftsf1) b.x11 (b.x12 (ix2 0 0)) :=
  act_eq (funext fun j => stack128 (aggP b.bd1 b.ftsf1) concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4096x128_d0
      (aggP_eq b.bd1 b.ftsf1 0 (by decide) (by decide) 0 rfl) (aggP_eq b.bd1 b.ftsf1 128 (by decide) (by decide) 1 rfl) (aggP_eq b.bd1 b.ftsf1 256 (by decide) (by decide) 2 rfl) (aggP_eq b.bd1 b.ftsf1 384 (by decide) (by decide) 3 rfl) (aggP_eq b.bd1 b.ftsf1 512 (by decide) (by decide) 4 rfl) (aggP_eq b.bd1 b.ftsf1 640 (by decide) (by decide) 5 rfl) (aggP_eq b.bd1 b.ftsf1 768 (by decide) (by decide) 6 rfl) (aggP_eq b.bd1 b.ftsf1 896 (by decide) (by decide) 7 rfl) (aggP_eq b.bd1 b.ftsf1 1024 (by decide) (by decide) 8 rfl) (aggP_eq b.bd1 b.ftsf1 1152 (by decide) (by decide) 9 rfl) (aggP_eq b.bd1 b.ftsf1 1280 (by decide) (by decide) 10 rfl) (aggP_eq b.bd1 b.ftsf1 1408 (by decide) (by decide) 11 rfl) (aggP_eq b.bd1 b.ftsf1 1536 (by decide) (by decide) 12 rfl) (aggP_eq b.bd1 b.ftsf1 1664 (by decide) (by decide) 13 rfl) (aggP_eq b.bd1 b.ftsf1 1792 (by decide) (by decide) 14 rfl) (aggP_eq b.bd1 b.ftsf1 1920 (by decide) (by decide) 15 rfl) (aggP_eq b.bd1 b.ftsf1 2048 (by decide) (by decide) 16 rfl) (aggP_eq b.bd1 b.ftsf1 2176 (by decide) (by decide) 17 rfl) (aggP_eq b.bd1 b.ftsf1 2304 (by decide) (by decide) 18 rfl) (aggP_eq b.bd1 b.ftsf1 2432 (by decide) (by decide) 19 rfl) (aggP_eq b.bd1 b.ftsf1 2560 (by decide) (by decide) 20 rfl) (aggP_eq b.bd1 b.ftsf1 2688 (by decide) (by decide) 21 rfl) (aggP_eq b.bd1 b.ftsf1 2816 (by decide) (by decide) 22 rfl) (aggP_eq b.bd1 b.ftsf1 2944 (by decide) (by decide) 23 rfl) (aggP_eq b.bd1 b.ftsf1 3072 (by decide) (by decide) 24 rfl) (aggP_eq b.bd1 b.ftsf1 3200 (by decide) (by decide) 25 rfl) (aggP_eq b.bd1 b.ftsf1 3328 (by decide) (by decide) 26 rfl) (aggP_eq b.bd1 b.ftsf1 3456 (by decide) (by decide) 27 rfl) (aggP_eq b.bd1 b.ftsf1 3584 (by decide) (by decide) 28 rfl) (aggP_eq b.bd1 b.ftsf1 3712 (by decide) (by decide) 29 rfl) (aggP_eq b.bd1 b.ftsf1 3840 (by decide) (by decide) 30 rfl) (aggP_eq b.bd1 b.ftsf1 3968 (by decide) (by decide) 31 rfl) j) _ _

set_option maxHeartbeats 4000000 in
theorem f2_eq : b.f2 = act (agg b.bd2 b.ftsf2) b.x11 (b.x12 (ix2 0 0)) :=
  act_eq (funext fun j => stack128 (aggP b.bd2 b.ftsf2) concatenates_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S128x128_S4096x128_d0
      (aggP_eq b.bd2 b.ftsf2 0 (by decide) (by decide) 0 rfl) (aggP_eq b.bd2 b.ftsf2 128 (by decide) (by decide) 1 rfl) (aggP_eq b.bd2 b.ftsf2 256 (by decide) (by decide) 2 rfl) (aggP_eq b.bd2 b.ftsf2 384 (by decide) (by decide) 3 rfl) (aggP_eq b.bd2 b.ftsf2 512 (by decide) (by decide) 4 rfl) (aggP_eq b.bd2 b.ftsf2 640 (by decide) (by decide) 5 rfl) (aggP_eq b.bd2 b.ftsf2 768 (by decide) (by decide) 6 rfl) (aggP_eq b.bd2 b.ftsf2 896 (by decide) (by decide) 7 rfl) (aggP_eq b.bd2 b.ftsf2 1024 (by decide) (by decide) 8 rfl) (aggP_eq b.bd2 b.ftsf2 1152 (by decide) (by decide) 9 rfl) (aggP_eq b.bd2 b.ftsf2 1280 (by decide) (by decide) 10 rfl) (aggP_eq b.bd2 b.ftsf2 1408 (by decide) (by decide) 11 rfl) (aggP_eq b.bd2 b.ftsf2 1536 (by decide) (by decide) 12 rfl) (aggP_eq b.bd2 b.ftsf2 1664 (by decide) (by decide) 13 rfl) (aggP_eq b.bd2 b.ftsf2 1792 (by decide) (by decide) 14 rfl) (aggP_eq b.bd2 b.ftsf2 1920 (by decide) (by decide) 15 rfl) (aggP_eq b.bd2 b.ftsf2 2048 (by decide) (by decide) 16 rfl) (aggP_eq b.bd2 b.ftsf2 2176 (by decide) (by decide) 17 rfl) (aggP_eq b.bd2 b.ftsf2 2304 (by decide) (by decide) 18 rfl) (aggP_eq b.bd2 b.ftsf2 2432 (by decide) (by decide) 19 rfl) (aggP_eq b.bd2 b.ftsf2 2560 (by decide) (by decide) 20 rfl) (aggP_eq b.bd2 b.ftsf2 2688 (by decide) (by decide) 21 rfl) (aggP_eq b.bd2 b.ftsf2 2816 (by decide) (by decide) 22 rfl) (aggP_eq b.bd2 b.ftsf2 2944 (by decide) (by decide) 23 rfl) (aggP_eq b.bd2 b.ftsf2 3072 (by decide) (by decide) 24 rfl) (aggP_eq b.bd2 b.ftsf2 3200 (by decide) (by decide) 25 rfl) (aggP_eq b.bd2 b.ftsf2 3328 (by decide) (by decide) 26 rfl) (aggP_eq b.bd2 b.ftsf2 3456 (by decide) (by decide) 27 rfl) (aggP_eq b.bd2 b.ftsf2 3584 (by decide) (by decide) 28 rfl) (aggP_eq b.bd2 b.ftsf2 3712 (by decide) (by decide) 29 rfl) (aggP_eq b.bd2 b.ftsf2 3840 (by decide) (by decide) 30 rfl) (aggP_eq b.bd2 b.ftsf2 3968 (by decide) (by decide) 31 rfl) j) _ _

end Blk

end Cert.KernelIdeal.Fused

end
-- ==== Proof.Entry.lean ====
/- The entries of a grid point's arrays, from the arguments its blocks are cut out of. -/
module

public import proofs.«01_k».proof.Proof.Arrays
public import proofs.«01_k».proof.Proof.Model

@[expose] public section

set_option maxRecDepth 16384

noncomputable section

namespace Cert.KernelIdeal.Fused

open Idealize.ShloMosaic Idealize.SL.Sem Cert.KernelIdeal Cert.KernelIdeal.Gen Cert.Model

/-- The graph that is number `r` of grid point `t`. -/
def gr (t : Fin 16) (r : Fin 512) : Fin 8192 := ⟨512 * t.val + r.val, by omega⟩

/-- The row of member `s` of graph `r`. -/
def row (r : Fin 512) (s : Fin 8) : Fin 4096 := ⟨r.val * 8 + s.val, by omega⟩

/-- The blocks of grid point `t` are those cut out of the arguments `A`. -/
structure Reads (b : Blk Ideal) (A : Args) (t : Fin 16) : Prop where
  x0 : ∀ r s k, b.x0 (ix3 r s k) = A.seq1 (gr t r) s k
  x1 : ∀ r s k, b.x1 (ix3 r s k) = A.seq2 (gr t r) s k
  x2 : ∀ r s k, b.x2 (ix3 r s k) = A.seq3 (gr t r) s k
  x3 : ∀ r s k, b.x3 (ix3 r s k) = A.seq4 (gr t r) s k
  x4 : ∀ r s u, b.x4 (ix3 s u r) = A.adj1 (gr t r) s u
  x5 : ∀ r s u, b.x5 (ix3 s u r) = A.adj2 (gr t r) s u
  x6 : ∀ k l, b.x6 (ix2 k l) = two (fun l => A.We l k) (fun _ => 0) l
  x7 : ∀ k l, b.x7 (ix2 k l) = two (fun _ => 0) (fun l => A.We l k) l
  x8 : ∀ l, b.x8 (ix2 0 l) = two A.be A.be l
  x9 : b.x9 (ix2 0 0) = A.ae
  x10 : ∀ k l, b.x10 (ix2 k l) = two (fun _ => 0) (fun k => A.Wd l k) k
  x11 : ∀ l, b.x11 (ix2 0 l) = A.bd l
  x12 : b.x12 (ix2 0 0) = A.ad
  x13 : ∀ k l, b.x13 (ix2 k l) = two (fun k => two (fun l => A.Wb1 k l) (fun _ => 0) l) (fun _ => 0) k
  x14 : b.x14 (ix2 0 0) = A.bb1
  x15 : ∀ k l, b.x15 (ix2 k l) = two (fun k => two (fun l => A.Wb2 k l) (fun _ => 0) l) (fun _ => 0) k
  x16 : b.x16 (ix2 0 0) = A.bb2
  lo : ∀ (r : Fin 16) (k : Fin 128), b.x17 (ix2 ⟨r.val, by omega⟩ k) = if k.val / 8 = r.val ∧ k.val % 8 < 7 then 1 else 0
  hi : ∀ (r : Fin 16) (k : Fin 128), b.x17 (ix2 ⟨16 + r.val, by omega⟩ k) = if k.val = r.val * 8 + 7 then 1 else 0

theorem diag_n (x : Vec Ideal S8x8x512 .f32) (n : Fin 4096) (k : Fin 128) :
    k0_pay4 x (ix2 n k) = if h : (k.val + 128 - 8 * (n.val / 8) % 128) % 128 < 8 then
      x (ix3 ⟨n.val % 8, Nat.mod_lt _ (by decide)⟩ ⟨(k.val + 128 - 8 * (n.val / 8) % 128) % 128, h⟩ ⟨n.val / 8, by omega⟩) else 0 := by
  pointwise [k0_pay4]

theorem diag_eq (x : Vec Ideal S8x8x512 .f32) (r : Fin 512) (s : Fin 8) (k : Fin 128) :
    k0_pay4 x (ix2 (row r s) k) = if k.val / 8 = r.val % 16 then x (ix3 s ⟨k.val % 8, Nat.mod_lt _ (by decide)⟩ r) else 0 := by
  rw [diag_n]
  have h1 : (row r s).val / 8 = r.val := by show (r.val * 8 + s.val) / 8 = r.val; omega
  have h2 : (row r s).val % 8 = s.val := by show (r.val * 8 + s.val) % 8 = s.val; omega
  simp only [h1, h2]
  by_cases h : k.val / 8 = r.val % 16
  · have h3 : (k.val + 128 - 8 * r.val % 128) % 128 = k.val % 8 := by omega
    rw [if_pos h, dif_pos (by omega)]
    simp only [h3]
  · rw [if_neg h, dif_neg (by omega)]

/-- Aggregation with the adjacency laid out along the diagonal is aggregation within a graph. -/
theorem agg_diag (x : Vec Ideal S8x8x512 .f32) (B : FVec Ideal S4096x128 .f32) (r : Fin 512) (s : Fin 8) (l : Fin 128) :
    agg (k0_pay4 x) B (ix2 (row r s) l) = ∑ u : Fin 8, x (ix3 s u r) * B (ix2 (row r u) l) := by
  have e : ∀ (k : Fin 128), (⟨128 * ((row r s).val / 128) + (row r s).val % 128, by have := (row r s).isLt; omega⟩ : Fin 4096) = row r s := fun k => Fin.ext (by show 128 * ((row r s).val / 128) + (row r s).val % 128 = (row r s).val; omega)
  show ∑ k : Fin 128, k0_pay4 x (ix2 ⟨128 * ((row r s).val / 128) + (row r s).val % 128, _⟩ k) * B (ix2 ⟨128 * ((row r s).val / 128) + k.val, _⟩ l) = _
  rw [e 0]
  simp only [diag_eq]
  rw [sum_group _ ⟨r.val % 16, by omega⟩ (fun k hk => by rw [if_neg hk, zero_mul])]
  refine Finset.sum_congr rfl fun u _ => ?_
  have h1 : (8 * (r.val % 16) + u.val) / 8 = r.val % 16 := by omega
  have h2 : (8 * (r.val % 16) + u.val) % 8 = u.val := by omega
  simp only [h1, h2, if_true]
  congr 3
  refine Fin.ext ?_
  show 128 * ((r.val * 8 + s.val) / 128) + (8 * (r.val % 16) + u.val) = r.val * 8 + u.val
  omega

theorem pay5_eq (x : Vec Ideal S8x8x512 .f32) : k0_pay5 x = k0_pay4 x := rfl

namespace Blk

variable {b : Blk Ideal} {A : Args} {t : Fin 16} (h : Reads b A t)

theorem sel_sum7 (g : Fin 8 → EReal) : (∑ u : Fin 8, (if u.val < 7 then (1 : EReal) else 0) * g u) = ∑ s : Fin 7, g s.castSucc := by
  rw [Fin.sum_univ_castSucc]
  rw [if_neg (by decide), zero_mul, add_zero]
  refine Finset.sum_congr rfl fun u _ => ?_
  rw [if_pos (show u.castSucc.val < 7 from u.isLt), one_mul]

include h

/-- The read-out of the first seven members. -/
theorem lo_ix (H : FVec Ideal S4096x128 .bf16) (r : Fin 512) (l : Fin 128) :
    rdLo (k0_pay58 b.x17) H (ix2 r l) = ∑ s : Fin 7, H (ix2 (row r s.castSucc) l) := by
  rw [sel_eq]
  show ∑ k : Fin 128, b.x17 (ix2 ⟨r.val % 16, _⟩ k) * H (ix2 ⟨128 * (r.val / 16) + k.val, _⟩ l) = _
  rw [Finset.sum_congr rfl (fun k _ => by rw [h.lo ⟨r.val % 16, by omega⟩ k])]
  rw [sum_group _ ⟨r.val % 16, by omega⟩ (fun k hk => by rw [if_neg (fun h => hk h.1), zero_mul]), ← sel_sum7 (fun s => H (ix2 (row r s) l))]
  refine Finset.sum_congr rfl fun u _ => ?_
  have h1 : (8 * (r.val % 16) + u.val) / 8 = r.val % 16 := by omega
  have h2 : (8 * (r.val % 16) + u.val) % 8 = u.val := by omega
  simp only [h1, h2, true_and]
  congr 3
  refine Fin.ext ?_
  show 128 * (r.val / 16) + (8 * (r.val % 16) + u.val) = r.val * 8 + u.val
  omega

/-- The read-out of the last member. -/
theorem hi_ix (H : FVec Ideal S4096x128 .bf16) (r : Fin 512) (l : Fin 128) :
    rdHi (k0_pay58 b.x17) H (ix2 r l) = H (ix2 (row r 7) l) := by
  rw [sel_eq]
  show ∑ k : Fin 128, b.x17 (ix2 ⟨16 + r.val % 16, _⟩ k) * H (ix2 ⟨128 * (r.val / 16) + k.val, _⟩ l) = _
  rw [Finset.sum_congr rfl (fun k _ => by rw [h.hi ⟨r.val % 16, by omega⟩ k])]
  rw [Finset.sum_eq_single (⟨r.val % 16 * 8 + 7, by omega⟩ : Fin 128) (fun k _ hk => by rw [if_neg (fun e => hk (Fin.ext e)), zero_mul]) (fun h => absurd (Finset.mem_univ _) h)]
  rw [if_pos rfl, one_mul]
  congr 2
  refine Fin.ext ?_
  show 128 * (r.val / 16) + (r.val % 16 * 8 + 7) = r.val * 8 + 7
  omega

theorem fts13_ix (r : Fin 512) (s : Fin 8) (l : Fin 128) :
    b.fts13 (ix2 (row r s) l) = two (fun l => ∑ k, A.seq1 (gr t r) s k * A.We l k) (fun l => ∑ k, A.seq3 (gr t r) s k * A.We l k) l := by
  have h1 : (r.val * 8 + s.val) / 8 = r.val := by omega
  have h2 : (r.val * 8 + s.val) % 8 = s.val := by omega
  pointwise [fts13, fts1, k0_pay6, k0_pay7, row]
  simp only [h1, h2, h.x0, h.x2, h.x6, h.x7, two]
  split
  · simp only [mul_zero, Finset.sum_const_zero, add_zero]
  · simp only [mul_zero, Finset.sum_const_zero, zero_add]

theorem fts24_ix (r : Fin 512) (s : Fin 8) (l : Fin 128) :
    b.fts24 (ix2 (row r s) l) = two (fun l => ∑ k, A.seq2 (gr t r) s k * A.We l k) (fun l => ∑ k, A.seq4 (gr t r) s k * A.We l k) l := by
  have h1 : (r.val * 8 + s.val) / 8 = r.val := by omega
  have h2 : (r.val * 8 + s.val) % 8 = s.val := by omega
  pointwise [fts24, k0_pay8, row]
  simp only [h1, h2, h.x1, h.x3, h.x6, h.x7, two]
  split
  · simp only [mul_zero, Finset.sum_const_zero, add_zero]
  · simp only [mul_zero, Finset.sum_const_zero, zero_add]

theorem h13_ix (r : Fin 512) (s : Fin 8) (l : Fin 128) :
    b.h13 (ix2 (row r s) l) = two (h1 A (gr t r) s) (h3 A (gr t r) s) l := by
  rw [h13_eq]
  show max (agg (k0_pay4 b.x4) b.fts13 (ix2 (row r s) l) + b.x8 (ix2 0 l)) (b.x9 (ix2 0 0) * (agg (k0_pay4 b.x4) b.fts13 (ix2 (row r s) l) + b.x8 (ix2 0 l))) = _
  simp only [agg_diag, h.x4, fts13_ix h, h.x8, h.x9, two]
  split <;> rfl

theorem hb24_ix (r : Fin 512) (s : Fin 8) (l : Fin 128) :
    b.hb24 (ix2 (row r s) l) = two (h2 A (gr t r) s) (h4 A (gr t r) s) l := by
  rw [hb24_eq]
  show max (agg (k0_pay4 b.x5) b.fts24 (ix2 (row r s) l) + b.x8 (ix2 0 l)) (b.x9 (ix2 0 0) * (agg (k0_pay4 b.x5) b.fts24 (ix2 (row r s) l) + b.x8 (ix2 0 l))) = _
  simp only [agg_diag, h.x5, fts24_ix h, h.x8, h.x9, two]
  split <;> rfl

theorem hb13_ix (r : Fin 512) (s : Fin 8) (l : Fin 128) :
    k0_pay56 b.h13 (ix2 (row r s) l) = two (h1 A (gr t r) s) (h3 A (gr t r) s) l := h13_ix h r s l

/-- The decoder's weights read only the right lanes. -/
theorem decoded (f g : Fin 64 → EReal) (l : Fin 128) :
    (∑ k : Fin 128, two f g k * b.x10 (ix2 k l)) = ∑ k : Fin 64, g k * A.Wd l k := by
  simp only [h.x10]
  rw [sum_halves]
  have : ∀ k : Fin 64, ¬ (64 + k.val < 64) := fun k => by omega
  simp only [two, this, dite_true, dite_false, mul_zero, Finset.sum_const_zero, zero_add, Fin.isLt, Nat.add_sub_cancel_left, Fin.eta]

theorem ftsf1_ix (r : Fin 512) (s : Fin 8) (l : Fin 128) :
    b.ftsf1 (ix2 (row r s) l) = ∑ k, h3 A (gr t r) s k * A.Wd l k := by
  rw [← decoded h (h1 A (gr t r) s)]
  pointwise [ftsf1, k0_pay183]
  simp only [hb13_ix h]

theorem ftsf2_ix (r : Fin 512) (s : Fin 8) (l : Fin 128) :
    b.ftsf2 (ix2 (row r s) l) = ∑ k, h4 A (gr t r) s k * A.Wd l k := by
  rw [← decoded h (h2 A (gr t r) s)]
  pointwise [ftsf2, k0_pay184]
  simp only [hb24_ix h]

/-- The first reconstruction at an index. -/
theorem out1_ix (r : Fin 512) (s : Fin 8) (l : Fin 128) : b.out1 (ix3 r s l) = dec A (h3 A) A.adj1 (gr t r) s l := by
  have e : b.out1 (ix3 r s l) = b.f1 (ix2 (row r s) l) := by pointwise [out1, k0_pay235, row]
  rw [e, f1_eq]
  show max (agg (k0_pay4 b.x4) b.ftsf1 (ix2 (row r s) l) + b.x11 (ix2 0 l)) (b.x12 (ix2 0 0) * (agg (k0_pay4 b.x4) b.ftsf1 (ix2 (row r s) l) + b.x11 (ix2 0 l))) = _
  simp only [agg_diag, h.x4, ftsf1_ix h, h.x11, h.x12]
  rfl

/-- The second reconstruction at an index. -/
theorem out2_ix (r : Fin 512) (s : Fin 8) (l : Fin 128) : b.out2 (ix3 r s l) = dec A (h4 A) A.adj2 (gr t r) s l := by
  have e : b.out2 (ix3 r s l) = b.f2 (ix2 (row r s) l) := by pointwise [out2, k0_pay1, row]
  rw [e, f2_eq]
  show max (agg (k0_pay4 b.x5) b.ftsf2 (ix2 (row r s) l) + b.x11 (ix2 0 l)) (b.x12 (ix2 0 0) * (agg (k0_pay4 b.x5) b.ftsf2 (ix2 (row r s) l) + b.x11 (ix2 0 l))) = _
  simp only [agg_diag, h.x5, ftsf2_ix h, h.x11, h.x12]
  rfl

end Blk

end Cert.KernelIdeal.Fused

end
-- ==== Proof.Reads.lean ====
module

public import proofs.«01_k».proof.Proof.Host
public import proofs.«01_k».proof.Proof.Entry
public import proofs.«01_k».proof.Proof.Column
public import Idealize.ShloMosaic.Lib.Pipeline.ValueKit

/-!
# The blocks of a grid point

Each grid point reads one block of every array.  Here each block is read out of the memory: the
sequences and the adjacencies in blocks of 512 graphs, every other array whole.
-/

@[expose] public section

set_option maxRecDepth 16384

noncomputable section

namespace Cert.KernelIdeal.Fused

open Idealize.ShloMosaic Idealize.SL.Sem Cert.KernelIdeal Cert.KernelIdeal.Gen Cert.Model

variable (m : (ℓ : Loc nD τ sig) → Buf (Elt Ideal) ℓ) (c : Dev nD)

/-- The block of a sequence, or of an adjacency, is the one with the grid point's number. -/
theorem idx_lead : ∀ t : Fin cfg0.N, win0_0.index t = ![t.val, 0, 0] ∧ win0_1.index t = ![t.val, 0, 0]
    ∧ win0_2.index t = ![t.val, 0, 0] ∧ win0_3.index t = ![t.val, 0, 0]
    ∧ win0_4.index t = ![0, 0, t.val] ∧ win0_5.index t = ![0, 0, t.val] := by
  decide +kernel

/-- Every other array is one block. -/
theorem idx_whole : ∀ t : Fin cfg0.N, win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0] ∧ win0_16.index t = ![0, 0]
    ∧ win0_17.index t = ![0, 0] := by
  decide +kernel

variable (t : Fin cfg0.N)

theorem blk0 (r : Fin 512) (s : Fin 8) (k : Fin 128) (B : Fin 8192) (hB : B.val = 512 * t.val + r.val) :
    (iblk m c 0 t : S512x8x128.Idx → EReal) (ix3 r s k) = m ((c.tc : Thread nD τ).loc main_arg0) (ix3 B s k) := by
  blk_ext [iblk, V_main_arg0, idx_lead t]

theorem blk1 (r : Fin 512) (s : Fin 8) (k : Fin 128) (B : Fin 8192) (hB : B.val = 512 * t.val + r.val) :
    (iblk m c 1 t : S512x8x128.Idx → EReal) (ix3 r s k) = m ((c.tc : Thread nD τ).loc main_arg1) (ix3 B s k) := by
  blk_ext [iblk, V_main_arg1, idx_lead t]

theorem blk2 (r : Fin 512) (s : Fin 8) (k : Fin 128) (B : Fin 8192) (hB : B.val = 512 * t.val + r.val) :
    (iblk m c 2 t : S512x8x128.Idx → EReal) (ix3 r s k) = m ((c.tc : Thread nD τ).loc main_arg2) (ix3 B s k) := by
  blk_ext [iblk, V_main_arg2, idx_lead t]

theorem blk3 (r : Fin 512) (s : Fin 8) (k : Fin 128) (B : Fin 8192) (hB : B.val = 512 * t.val + r.val) :
    (iblk m c 3 t : S512x8x128.Idx → EReal) (ix3 r s k) = m ((c.tc : Thread nD τ).loc main_arg3) (ix3 B s k) := by
  blk_ext [iblk, V_main_arg3, idx_lead t]

theorem blk4 (r : Fin 512) (s u : Fin 8) (B : Fin 8192) (hB : B.val = 512 * t.val + r.val) :
    (iblk m c 4 t : S8x8x512.Idx → EReal) (ix3 s u r) = (V m c main_v45 : S8x8x8192.Idx → EReal) (ix3 s u B) := by
  blk_ext [iblk, idx_lead t]

theorem blk5 (r : Fin 512) (s u : Fin 8) (B : Fin 8192) (hB : B.val = 512 * t.val + r.val) :
    (iblk m c 5 t : S8x8x512.Idx → EReal) (ix3 s u r) = (V m c main_v46 : S8x8x8192.Idx → EReal) (ix3 s u B) := by
  blk_ext [iblk, idx_lead t]

theorem blk6 (k : Fin 128) (l : Fin 128) :
    (iblk m c 6 t : S128x128.Idx → EReal) (ix2 k l) = (V m c main_v47 : S128x128.Idx → EReal) (ix2 k l) := by
  blk_ext [iblk, idx_whole t]

theorem blk7 (k : Fin 128) (l : Fin 128) :
    (iblk m c 7 t : S128x128.Idx → EReal) (ix2 k l) = (V m c main_v48 : S128x128.Idx → EReal) (ix2 k l) := by
  blk_ext [iblk, idx_whole t]

theorem blk8 (k : Fin 1) (l : Fin 128) :
    (iblk m c 8 t : S1x128.Idx → EReal) (ix2 k l) = (V m c main_v6 : S1x128.Idx → EReal) (ix2 k l) := by
  blk_ext [iblk, idx_whole t]

theorem blk9 (k : Fin 1) (l : Fin 1) :
    (iblk m c 9 t : S1x1.Idx → EReal) (ix2 k l) = (V m c main_v49 : S1x1.Idx → EReal) (ix2 k l) := by
  blk_ext [iblk, idx_whole t]

theorem blk10 (k : Fin 128) (l : Fin 128) :
    (iblk m c 10 t : S128x128.Idx → EReal) (ix2 k l) = (V m c main_v50 : S128x128.Idx → EReal) (ix2 k l) := by
  blk_ext [iblk, idx_whole t]

theorem blk11 (k : Fin 1) (l : Fin 128) :
    (iblk m c 11 t : S1x128.Idx → EReal) (ix2 k l) = (V m c main_v51 : S1x128.Idx → EReal) (ix2 k l) := by
  blk_ext [iblk, idx_whole t]

theorem blk12 (k : Fin 1) (l : Fin 1) :
    (iblk m c 12 t : S1x1.Idx → EReal) (ix2 k l) = (V m c main_v52 : S1x1.Idx → EReal) (ix2 k l) := by
  blk_ext [iblk, idx_whole t]

theorem blk13 (k : Fin 128) (l : Fin 128) :
    (iblk m c 13 t : S128x128.Idx → EReal) (ix2 k l) = (V m c main_v14 : S128x128.Idx → EReal) (ix2 k l) := by
  blk_ext [iblk, idx_whole t]

theorem blk14 (k : Fin 1) (l : Fin 1) :
    (iblk m c 14 t : S1x1.Idx → EReal) (ix2 k l) = (V m c main_v53 : S1x1.Idx → EReal) (ix2 k l) := by
  blk_ext [iblk, idx_whole t]

theorem blk15 (k : Fin 128) (l : Fin 128) :
    (iblk m c 15 t : S128x128.Idx → EReal) (ix2 k l) = (V m c main_v18 : S128x128.Idx → EReal) (ix2 k l) := by
  blk_ext [iblk, idx_whole t]

theorem blk16 (k : Fin 1) (l : Fin 1) :
    (iblk m c 16 t : S1x1.Idx → EReal) (ix2 k l) = (V m c main_v54 : S1x1.Idx → EReal) (ix2 k l) := by
  blk_ext [iblk, idx_whole t]

theorem blk17 (k : Fin 32) (l : Fin 128) :
    (iblk m c 17 t : S32x128.Idx → EReal) (ix2 k l) = (V m c main_v44 : S32x128.Idx → EReal) (ix2 k l) := by
  blk_ext [iblk, idx_whole t]

set_option maxHeartbeats 4000000 in
/-- The blocks of a grid point are those the arguments give. -/
theorem reads_at (n : Fin 16) (hn : n.val = t.val) : Reads (blkAt m c t) (args m c) n where
  x0 r s k := blk0 m c t r s k (gr n r) (by show 512 * n.val + r.val = _; rw [hn])
  x1 r s k := blk1 m c t r s k (gr n r) (by show 512 * n.val + r.val = _; rw [hn])
  x2 r s k := blk2 m c t r s k (gr n r) (by show 512 * n.val + r.val = _; rw [hn])
  x3 r s k := blk3 m c t r s k (gr n r) (by show 512 * n.val + r.val = _; rw [hn])
  x4 r s u := (blk4 m c t r s u (gr n r) (by show 512 * n.val + r.val = _; rw [hn])).trans (congrFun (v45_eq m c) _)
  x5 r s u := (blk5 m c t r s u (gr n r) (by show 512 * n.val + r.val = _; rw [hn])).trans (congrFun (v46_eq m c) _)
  x6 k l := (blk6 m c t k l).trans (congrFun (v47_eq m c) _)
  x7 k l := (blk7 m c t k l).trans (congrFun (v48_eq m c) _)
  x8 l := (blk8 m c t 0 l).trans (congrFun (v6_eq m c) _)
  x9 := (blk9 m c t 0 0).trans (congrFun (v49_eq m c) _)
  x10 k l := (blk10 m c t k l).trans (congrFun (v50_eq m c) _)
  x11 l := (blk11 m c t 0 l).trans (congrFun (v51_eq m c) _)
  x12 := (blk12 m c t 0 0).trans (congrFun (v52_eq m c) _)
  x13 k l := (blk13 m c t k l).trans (congrFun (v14_eq m c) _)
  x14 := (blk14 m c t 0 0).trans (congrFun (v53_eq m c) _)
  x15 k l := (blk15 m c t k l).trans (congrFun (v18_eq m c) _)
  x16 := (blk16 m c t 0 0).trans (congrFun (v54_eq m c) _)
  lo r k := by
    refine ((blk17 m c t _ k).trans (congrFun (v44_eq m c) _)).trans ?_
    refine if_congr ?_ rfl rfl
    show (r.val < 16 ∧ k.val / 8 = r.val ∧ k.val % 8 < 7) ∨ (16 ≤ r.val ∧ k.val = (r.val - 16) * 8 + 7) ↔ _
    have := r.isLt
    omega
  hi r k := by
    refine ((blk17 m c t _ k).trans (congrFun (v44_eq m c) _)).trans ?_
    refine if_congr ?_ rfl rfl
    show (16 + r.val < 16 ∧ k.val / 8 = 16 + r.val ∧ k.val % 8 < 7) ∨ (16 ≤ 16 + r.val ∧ k.val = (16 + r.val - 16) * 8 + 7) ↔ _
    omega

theorem reads (n : Fin 16) : Reads (bk m c n.val) (args m c) n :=
  reads_at m c _ n (Nat.mod_eq_of_lt n.isLt).symm

end Cert.KernelIdeal.Fused

end
-- ==== Proof.Score.lean ====
/- The scores a grid point computes, from the arguments. -/
module

public import proofs.«01_k».proof.Proof.Entry

@[expose] public section

set_option maxRecDepth 16384

noncomputable section

namespace Cert.KernelIdeal.Fused

open Idealize.ShloMosaic Idealize.SL.Sem Cert.KernelIdeal Cert.KernelIdeal.Gen Cert.Model

/-- The word of a half denotes one half. -/
theorem half_eq : Ideal.ofBits .f32 0x3F000000#32 = ((2⁻¹ : ℝ) : EReal) := by
  simp [Ideal.ofBits, Ideal.ieee, -EReal.coe_mul]
  norm_num

namespace Blk

theorem seventh_eq : seventh = ((7⁻¹ : ℝ) : EReal) := IdealRules.named_const.ideal_named_scalar _ _ _ _ rfl

/-- A row whose right lanes vanish against the block matrix: only the corner counts. -/
theorem corner (f g : Fin 64 → EReal) (W : Fin 64 → Fin 64 → EReal) (l : Fin 128) :
    (∑ k : Fin 128, two f g k * two (fun k => two (fun l => W k l) (fun _ => 0) l) (fun _ => 0) k)
      = two (fun l => ∑ k, f k * W k l) (fun _ => 0) l := by
  rw [sum_halves]
  have : ∀ k : Fin 64, ¬ (64 + k.val < 64) := fun k => by omega
  simp only [two, this, dite_true, dite_false, mul_zero, Finset.sum_const_zero, add_zero, Fin.isLt, Fin.eta]
  split <;> simp only [mul_zero, Finset.sum_const_zero]

/-- Two rows of products whose right lanes vanish, summed over the lanes. -/
theorem lanes (f g c d c' d' : Fin 64 → EReal) :
    (∑ l : Fin 128, (two f (fun _ => 0) l * two c c' l + two g (fun _ => 0) l * two d d' l))
      = ∑ l : Fin 64, (f l * c l + g l * d l) := by
  rw [sum_halves]
  have : ∀ k : Fin 64, ¬ (64 + k.val < 64) := fun k => by omega
  simp only [two, this, dite_true, dite_false, zero_mul, Finset.sum_const_zero, add_zero, Fin.isLt, Fin.eta]

theorem lane (f c c' : Fin 64 → EReal) :
    (∑ l : Fin 128, two f (fun _ => 0) l * two c c' l) = ∑ l : Fin 64, f l * c l := by
  rw [sum_halves]
  have : ∀ k : Fin 64, ¬ (64 + k.val < 64) := fun k => by omega
  simp only [two, this, dite_true, dite_false, zero_mul, Finset.sum_const_zero, add_zero, Fin.isLt, Fin.eta]

theorem sb_any (b : Blk Ideal) (p q : FVec Ideal S1x128 .f32) (r : Fin 512) :
    b.sb p q (ix2 r 0) = (∑ x : Fin 128, ((b.m2 (ix2 r x) * if h : r.val < 1 then p (ix2 ⟨r.val, h⟩ x) else b.cc13 (ix2 ⟨r.val - 1, by omega⟩ x))
      + b.m1 (ix2 r x) * if h : r.val < 1 then q (ix2 ⟨r.val, h⟩ x) else b.cc24 (ix2 ⟨r.val - 1, by omega⟩ x))) * Ideal.ofBits .f32 0x3F000000#32 + b.hbias := by
  pointwise [sb, k0_pay176]

variable {b : Blk Ideal} {A : Args} {t : Fin 16} (h : Reads b A t)

include h

theorem cc13_ix (r : Fin 512) (l : Fin 128) : b.cc13 (ix2 r l) = two (mean (h1 A) (gr t r)) (mean (h3 A) (gr t r)) l := by
  rw [cc13_eq]
  show rdLo (k0_pay58 b.x17) (k0_pay56 b.h13) (ix2 r l) * seventh = _
  simp only [lo_ix h, hb13_ix h, seventh_eq, two]
  split <;> rfl

theorem cc24_ix (r : Fin 512) (l : Fin 128) : b.cc24 (ix2 r l) = two (mean (h2 A) (gr t r)) (mean (h4 A) (gr t r)) l := by
  rw [cc24_eq]
  show rdLo (k0_pay58 b.x17) b.hb24 (ix2 r l) * seventh = _
  simp only [lo_ix h, hb24_ix h, seventh_eq, two]
  split <;> rfl

theorem m1_ix (r : Fin 512) (l : Fin 128) : b.m1 (ix2 r l) = two (bil A.Wb2 (h1 A) (gr t r)) (fun _ => 0) l := by
  rw [m1_eq]
  show ∑ k : Fin 128, rdHi (k0_pay58 b.x17) (k0_pay56 b.h13) (ix2 r k) * b.x15 (ix2 k l) = _
  simp only [hi_ix h, hb13_ix h, h.x15, corner]
  rfl

theorem m2_ix (r : Fin 512) (l : Fin 128) : b.m2 (ix2 r l) = two (bil A.Wb1 (h2 A) (gr t r)) (fun _ => 0) l := by
  rw [m2_eq]
  show ∑ k : Fin 128, rdHi (k0_pay58 b.x17) b.hb24 (ix2 r k) * b.x13 (ix2 k l) = _
  simp only [hi_ix h, hb24_ix h, h.x13, corner]
  rfl

theorem hbias_eq : b.hbias = (A.bb1 + A.bb2) * ((2⁻¹ : ℝ) : EReal) := by
  rw [← half_eq, ← h.x14, ← h.x16]
  pointwise [hbias, k0_pay172]

/-- The score of a matching pair. -/
theorem sa_ix (r : Fin 512) : b.sa (ix2 r 0) = score A (gr t r) (gr t r) := by
  rw [sa_eq, hbias_eq h, ← score_sum]
  pointwise [k0_pay175]
  rw [half_eq]
  simp only [m2_ix h, m1_ix h, cc13_ix h, cc24_ix h, lanes]

/-- The score of a shifted pair inside the point. -/
theorem sb_ix (p q : FVec Ideal S1x128 .f32) (r : Fin 512) (hr : 0 < r.val) :
    b.sb p q (ix2 r 0) = score A (gr t r) (gr t ⟨r.val - 1, by omega⟩) := by
  rw [← score_sum, ← hbias_eq h, sb_any, half_eq]
  have : ¬ r.val < 1 := by omega
  simp only [this, dite_false, m2_ix h, m1_ix h, cc13_ix h, cc24_ix h]
  rw [lanes]

/-- The score of the point's first graph, against the means handed over. -/
theorem sb_first (p q : FVec Ideal S1x128 .f32) (B' : Fin 8192) (p' q' : Fin 64 → EReal)
    (hp : ∀ l, p (ix2 0 l) = two (mean (h1 A) B') p' l) (hq : ∀ l, q (ix2 0 l) = two (mean (h2 A) B') q' l) :
    b.sb p q (ix2 0 0) = score A (gr t 0) B' := by
  rw [← score_sum, ← hbias_eq h]
  pointwise [sb, k0_pay176]
  rw [half_eq]
  simp only [m2_ix h, m1_ix h, hp, hq, lanes]

theorem last13_ix (l : Fin 128) : b.last13 (ix2 0 l) = two (mean (h1 A) (gr t 511)) (mean (h3 A) (gr t 511)) l := by
  rw [← cc13_ix h]
  pointwise [last13, k0_pay179]

theorem last24_ix (l : Fin 128) : b.last24 (ix2 0 l) = two (mean (h2 A) (gr t 511)) (mean (h4 A) (gr t 511)) l := by
  rw [← cc24_ix h]
  pointwise [last24, k0_pay180, k0_pay181]

theorem m1first_ix (l : Fin 128) : b.m1first (ix2 0 l) = two (bil A.Wb2 (h1 A) (gr t 0)) (fun _ => 0) l := by
  rw [← m1_ix h]
  pointwise [m1first, k0_pay177]

theorem m2first_ix (l : Fin 128) : b.m2first (ix2 0 l) = two (bil A.Wb1 (h2 A) (gr t 0)) (fun _ => 0) l := by
  rw [← m2_ix h]
  pointwise [m2first, k0_pay178]

/-- The score that wraps around. -/
theorem wrap_ix (q1 q2 : FVec Ideal S1x128 .f32) (B : Fin 8192)
    (hq1 : ∀ l, q1 (ix2 0 l) = two (bil A.Wb2 (h1 A) B) (fun _ => 0) l) (hq2 : ∀ l, q2 (ix2 0 l) = two (bil A.Wb1 (h2 A) B) (fun _ => 0) l) :
    b.wrap q1 q2 (ix2 0 0) = score A B (gr t 511) := by
  rw [← score_chain, ← h.x14, ← h.x16]
  pointwise [wrap, k0_pay182]
  rw [half_eq]
  simp only [hq1, hq2, cc13_ix h, cc24_ix h, lane, s1, s2]

end Blk

end Cert.KernelIdeal.Fused

end
-- ==== Proof.ColumnVal.lean ====
/- The column of scores, row by row, from the arguments. -/
module

public import proofs.«01_k».proof.Proof.Score
public import proofs.«01_k».proof.Proof.Column

@[expose] public section

set_option maxRecDepth 16384

noncomputable section

namespace Cert.KernelIdeal.Fused

open Idealize.ShloMosaic Idealize.SL.Sem Cert.KernelIdeal Cert.KernelIdeal.Gen Cert.Model

variable {m : (ℓ : Loc nD τ sig) → Buf (Elt Ideal) ℓ} {c : Dev nD} {A : Args}

theorem sbAt_ix (h : ∀ t : Fin 16, Reads (bk m c t.val) A t) (t : Fin 16) (r : Fin 512) (h0 : ¬ (t.val = 0 ∧ r.val = 0)) :
    sbAt m c t.val (ix2 r 0) = score A (gr t r) (before (gr t r)) := by
  by_cases hr : r.val = 0
  · obtain ⟨tv, htv⟩ := t
    obtain ⟨n, rfl⟩ : ∃ n, tv = n + 1 := ⟨tv - 1, by have : ¬ (tv = 0 ∧ r.val = 0) := h0; omega⟩
    obtain rfl : r = 0 := Fin.ext hr
    have e : before (gr ⟨n + 1, by omega⟩ 0) = gr ⟨n, by omega⟩ 511 := by
      unfold before gr
      rw [if_neg (by show ¬ (512 * (n + 1) + 0 = 0); omega)]
      refine Fin.ext ?_
      show 512 * (n + 1) + 0 - 1 = 512 * n + 511
      omega
    rw [e]
    exact Blk.sb_first (h ⟨n + 1, by omega⟩) _ _ _ _ _ (Blk.last13_ix (h ⟨n, by omega⟩)) (Blk.last24_ix (h ⟨n, by omega⟩))
  · have e : before (gr t r) = gr t ⟨r.val - 1, by omega⟩ := by
      unfold before gr
      rw [if_neg (by show ¬ (512 * t.val + r.val = 0); omega)]
      refine Fin.ext ?_
      show 512 * t.val + r.val - 1 = 512 * t.val + (r.val - 1)
      omega
    rw [e]
    obtain ⟨n, hn⟩ := t
    cases n with
    | zero => exact Blk.sb_ix (h ⟨0, hn⟩) _ _ r (by omega)
    | succ n => exact Blk.sb_ix (h ⟨n + 1, hn⟩) _ _ r (by omega)

theorem column_ix (h : ∀ t : Fin 16, Reads (bk m c t.val) A t) (j : Fin 16384) : column m c (ix2 j 0) = ret A j := by
  show (if j.val = 8192 then wrapAt m c (ix2 0 0)
    else if j.val < 8192 then (bk m c (j.val / 512)).sa (ix2 ⟨j.val % 512, Nat.mod_lt _ (by decide)⟩ 0)
    else sbAt m c ((j.val - 8192) / 512) (ix2 ⟨(j.val - 8192) % 512, Nat.mod_lt _ (by decide)⟩ 0)) = _
  unfold ret
  by_cases h8 : j.val = 8192
  · rw [if_pos h8, dif_neg (by omega)]
    refine (Blk.wrap_ix (h 15) _ _ (gr 0 0) (Blk.m1first_ix (h 0)) (Blk.m2first_ix (h 0))).trans ?_
    have e : (⟨j.val - 8192, by omega⟩ : Fin 8192) = gr 0 0 := Fin.ext (by show j.val - 8192 = 512 * 0 + 0; omega)
    rw [e]
    rfl
  · rw [if_neg h8]
    by_cases hl : j.val < 8192
    · rw [if_pos hl, dif_pos hl]
      have e : (⟨j.val, hl⟩ : Fin 8192) = gr ⟨j.val / 512, by omega⟩ ⟨j.val % 512, by omega⟩ := Fin.ext (by show j.val = 512 * (j.val / 512) + j.val % 512; omega)
      rw [e]
      exact Blk.sa_ix (h ⟨j.val / 512, by omega⟩) _
    · rw [if_neg hl, dif_neg hl]
      have e : (⟨j.val - 8192, by omega⟩ : Fin 8192) = gr ⟨(j.val - 8192) / 512, by omega⟩ ⟨(j.val - 8192) % 512, by omega⟩ := Fin.ext (by show j.val - 8192 = 512 * ((j.val - 8192) / 512) + (j.val - 8192) % 512; omega)
      rw [e]
      exact sbAt_ix h ⟨(j.val - 8192) / 512, by omega⟩ ⟨(j.val - 8192) % 512, by omega⟩ (by show ¬ ((j.val - 8192) / 512 = 0 ∧ (j.val - 8192) % 512 = 0); omega)

end Cert.KernelIdeal.Fused

end
-- ==== Proof.After.lean ====
module

public import proofs.«01_k».proof.Proof.RunAll
public import proofs.«01_k».proof.Proof.Reads
public import proofs.«01_k».proof.Proof.ColumnVal

/-!
# The results of the kernel

After the run the two reconstructions and the column of scores hold, element by element, the
functions of the arguments that `Model` defines.
-/

@[expose] public section

set_option maxRecDepth 16384

noncomputable section

namespace Cert.KernelIdeal.Fused

open Idealize.ShloMosaic Idealize.ShloMosaic.TcCoe Idealize.SL.Sem Cert.KernelIdeal Cert.KernelIdeal.Gen Cert.Model
open Idealize.ShloMosaic.Pipeline (Dat RDat Cfg Window)

variable (m : (ℓ : Loc nD τ sig) → Buf (Elt Ideal) ℓ)

/-- The scores, as a function of the memory before the run. -/
def scoresVal (c : Dev nD) : FVec Ideal S16384x1 .f32 := fun i => ret (args m c) (i 0)

/-- The first reconstruction. -/
def rec1Val (c : Dev nD) : FVec Ideal S8192x8x128 .f32 := fun i => dec (args m c) (h3 (args m c)) (args m c).adj1 (i 0) (i 1) (i 2)

/-- The second reconstruction. -/
def rec2Val (c : Dev nD) : FVec Ideal S8192x8x128 .f32 := fun i => dec (args m c) (h4 (args m c)) (args m c).adj2 (i 0) (i 1) (i 2)

theorem column_scores (c : Dev nD) : column m c = scoresVal m c := by
  funext i
  idx_vars i
  exact column_ix (reads m c) _

/-- Every grid point leaves its block of the first reconstruction. -/
theorem left18 (c : Dev nD) (t : Fin cfg0.N) (X : (cfg0.win 18).block.Idx → Elt Ideal (cfg0.win 18).elt)
    (h : (rdat m c).Leaves 18 t X) : X = (blkAt m c t).out1 := by
  obtain ⟨Y, _, hX⟩ := h
  rw [Dat.toRRel_after_of_eq_false (w := (18 : Fin cfg0.W)) _ rfl] at hX
  exact (((Dat.Leaves.live_iff _ (.inr (flush0_18 t))).mp hX : X = _)).trans (after_18 m c t)

/-- Every grid point leaves its block of the second reconstruction. -/
theorem left19 (c : Dev nD) (t : Fin cfg0.N) (X : (cfg0.win 19).block.Idx → Elt Ideal (cfg0.win 19).elt)
    (h : (rdat m c).Leaves 19 t X) : X = (blkAt m c t).out2 := by
  obtain ⟨Y, _, hX⟩ := h
  rw [Dat.toRRel_after_of_eq_false (w := (19 : Fin cfg0.W)) _ rfl] at hX
  exact (((Dat.Leaves.live_iff _ (.inr (flush0_19 t))).mp hX : X = _)).trans (after_19 m c t)

/-- The last grid point leaves the whole column of scores. -/
theorem left20 (c : Dev nD) (t : Fin cfg0.N) (ht : t.val = 15) (X : (cfg0.win 20).block.Idx → Elt Ideal (cfg0.win 20).elt)
    (h : (rdat m c).Leaves 20 t X) : X = column m c := by
  have h' : Filled m c t.val X := Dat.toRRel_leaves (w := (20 : Fin cfg0.W)) _ rfl h
  rw [ht] at h'
  exact h'.eq

theorem idx_out : ∀ t : Fin cfg0.N, win0_18.index t = ![t.val, 0, 0] ∧ win0_19.index t = ![t.val, 0, 0] := by
  decide +kernel

theorem covers18 : (cfg0.win 18).Covers := by decide +kernel
theorem covers19 : (cfg0.win 19).Covers := by decide +kernel

/-- The last grid point. -/
def last : Fin cfg0.N := ⟨15, by rw [show cfg0.N = 16 from N_0]; decide⟩

/-- The last point writes the whole column back. -/
theorem whole20 : (cfg0.win 20).WholeAt last := by decide +kernel

theorem lt16 (t : Fin cfg0.N) : t.val < 16 := lt_of_lt_of_eq t.isLt (show cfg0.N = 16 from N_0)

/-- A block of the first reconstruction at an index. -/
theorem rec1_blk (c : Dev nD) (t : Fin cfg0.N) (r : Fin 512) (s : Fin 8) (l : Fin 128) :
    (blkAt m c t).out1 (ix3 r s l) = rec1Val m c (ix3 (gr ⟨t.val, lt16 t⟩ r) s l) :=
  Blk.out1_ix (reads_at m c t ⟨t.val, lt16 t⟩ rfl) r s l

/-- A block of the second reconstruction at an index. -/
theorem rec2_blk (c : Dev nD) (t : Fin cfg0.N) (r : Fin 512) (s : Fin 8) (l : Fin 128) :
    (blkAt m c t).out2 (ix3 r s l) = rec2Val m c (ix3 (gr ⟨t.val, lt16 t⟩ r) s l) :=
  Blk.out2_ix (reads_at m c t ⟨t.val, lt16 t⟩ rfl) r s l

set_option maxHeartbeats 2000000 in
/-- The results after the run. -/
theorem values (ρ : Dev nD → PrngReg) : θ_run defs (onTc (τ := τ) (main (F := Ideal))) ⟨m, fun _ => 0, ρ⟩ (fun r => ∀ c : Dev nD,
      r.2.mem ((c.tc : Thread nD τ).loc main_v55_0) = scoresVal m c
      ∧ r.2.mem ((c.tc : Thread nD τ).loc main_v55_1) = rec1Val m c
      ∧ r.2.mem ((c.tc : Thread nD τ).loc main_v55_2) = rec2Val m c) := by
  refine (θ_run defs _ _).mono (fun r h c => ?_) (run m ρ)
  obtain ⟨after, hL, hA⟩ := RDat.FramePost.exists_exact h c
  refine ⟨(hA 20).trans ?_, (hA 18).trans ?_, (hA 19).trans ?_⟩
  · refine Dat.arrAt_eq_of_after_last _ (20 : Fin cfg0.W) last whole20 _ (fun j => ?_)
    have e := left20 m c last rfl _ (hL 20 _ whole20.1)
    rw [RDat.withAfter_after, e, column_scores]
    rfl
  · refine Dat.arrAt_eq_of_covers _ (18 : Fin cfg0.W) _ covers18 (fun t _ y => ?_)
    have e := left18 m c t _ (hL 18 t (flush0_18 t))
    rw [RDat.withAfter_after, e]
    idx_vars y
    refine (rec1_blk m c t _ _ _).trans ?_
    blk_ext [idx_out t]
    exact congrArg (· + y0.val) (Nat.mul_comm 512 t.val)
  · refine Dat.arrAt_eq_of_covers _ (19 : Fin cfg0.W) _ covers19 (fun t _ y => ?_)
    have e := left19 m c t _ (hL 19 t (flush0_19 t))
    rw [RDat.withAfter_after, e]
    idx_vars y
    refine (rec2_blk m c t _ _ _).trans ?_
    blk_ext [idx_out t]
    exact congrArg (· + y0.val) (Nat.mul_comm 512 t.val)

end Cert.KernelIdeal.Fused

end
-- ==== Proof.Ref.lean ====
module

public import proofs.«01_k».proof.Proof.Gen.ReferenceIdeal.Run
public import proofs.«01_k».proof.Proof.Model
public import Idealize.ShloMosaic.Lib.Pipeline.ValueKit

/-!
# The reference's values

The reference's results over extended reals, in stages, each stage read at an index: encoder,
decoder, mean, bilinear score, shift, and the two rounds of scores averaged.
-/

@[expose] public section

set_option maxRecDepth 16384

noncomputable section

namespace Cert.ReferenceIdeal.Staged

open Idealize.ShloMosaic Idealize.SL.Sem Cert.ReferenceIdeal Cert.ReferenceIdeal.Facts₀ Cert.ReferenceIdeal.Facts Cert.Model

attribute [local instance] Cert.ReferenceIdeal.Gen.facts

/-- An encoder before its activation. -/
def encZ (a : FVec Ideal S8192x8x8 .f32) (x : FVec Ideal S8192x8x128 .f32) (W : FVec Ideal S64x128 .f32) (b : FVec Ideal S64 .f32) : FVec Ideal S8192x8x64 .f32 :=
  addf (Host.dotGeneral dot_S8192x8x8_S8192x8x64_S8192x8x64_2_1_1_2_0_0 none a (Host.dotGeneral dot_S8192x8x128_S64x128_S8192x8x64_2_1_01_0_n_n none x W))
    (broadcastInDim S8192x8x64 ![0, 1, 2] bcast_S1x1x64_S8192x8x64_0_1_2 (broadcastInDim S1x1x64 ![2] bcast_S64_S1x1x64_2 b))

/-- The activation at the encoder's width. -/
def actE (z : FVec Ideal S8192x8x64 .f32) (s : FVec Ideal S1 .f32) : FVec Ideal S8192x8x64 .f32 :=
  select (cmpf .oge z (broadcastInDim S8192x8x64 ![] bcast_S_S8192x8x64 (constant S_ .f32 0x00000000#32))) z
    (mulf (broadcastInDim S8192x8x64 ![0, 1, 2] bcast_S1x1x1_S8192x8x64_0_1_2 (broadcastInDim S1x1x1 ![2] bcast_S1_S1x1x1_2 s)) z)

/-- A decoder before its activation. -/
def decZ (a : FVec Ideal S8192x8x8 .f32) (h : FVec Ideal S8192x8x64 .f32) (W : FVec Ideal S128x64 .f32) (b : FVec Ideal S128 .f32) : FVec Ideal S8192x8x128 .f32 :=
  addf (Host.dotGeneral dot_S8192x8x8_S8192x8x128_S8192x8x128_2_1_1_2_0_0 none a (Host.dotGeneral dot_S8192x8x64_S128x64_S8192x8x128_2_1_01_0_n_n none h W))
    (broadcastInDim S8192x8x128 ![0, 1, 2] bcast_S1x1x128_S8192x8x128_0_1_2 (broadcastInDim S1x1x128 ![2] bcast_S128_S1x1x128_2 b))

/-- The activation at the decoder's width. -/
def actD (z : FVec Ideal S8192x8x128 .f32) (s : FVec Ideal S1 .f32) : FVec Ideal S8192x8x128 .f32 :=
  select (cmpf .oge z (broadcastInDim S8192x8x128 ![] bcast_S_S8192x8x128 (constant S_ .f32 0x00000000#32))) z
    (mulf (broadcastInDim S8192x8x128 ![0, 1, 2] bcast_S1x1x1_S8192x8x128_0_1_2 (broadcastInDim S1x1x1 ![2] bcast_S1_S1x1x1_2 s)) z)

/-- The mean of each graph's first seven members. -/
def meanR (h : FVec Ideal S8192x8x64 .f32) : FVec Ideal S8192x64 .f32 :=
  Host.divf (Host.reduceAdd (extractStridedSlice S8192x7x64 ![0, 0, 0] h slices_S8192x8x64_S8192x7x64_0_0_0) (constant S_ .f32 0x00000000#32)
    reducesTo_S8192x7x64_S8192x64_d1 h_S_) (broadcastInDim S8192x64 ![] bcast_S_S8192x64 (constant S_ .f32 0x40E00000#32))

/-- Each graph's last member. -/
def lastR (h : FVec Ideal S8192x8x64 .f32) : FVec Ideal S8192x64 .f32 :=
  shapeCast _ (extractStridedSlice S8192x1x64 ![0, 7, 0] h slices_S8192x8x64_S8192x1x64_0_7_0) shapeCasts_S8192x1x64_S8192x64

/-- A bilinear score of each graph. -/
def bilR (c : FVec Ideal S8192x64 .f32) (W : FVec Ideal S1x64x64 .f32) (x : FVec Ideal S8192x64 .f32) (b : FVec Ideal S1 .f32) : FVec Ideal S8192x1 .f32 :=
  addf (Host.dotGeneral dot_S8192x64_S1x64x8192_S8192x1_1_1_n_0_0_2 none c (Host.dotGeneral dot_S1x64x64_S8192x64_S1x64x8192_1_1_02_0_n_n none W x))
    (broadcastInDim S8192x1 ![0, 1] bcast_S1x1_S8192x1_0_1 (broadcastInDim S1x1 ![1] bcast_S1_S1x1_1 b))

/-- Every row moved one down, the last to the front. -/
def shiftR (c : FVec Ideal S8192x64 .f32) : FVec Ideal S8192x64 .f32 :=
  concatenate S8192x64 0 [⟨S1x64, (extractStridedSlice S1x64 ![8191, 0] c slices_S8192x64_S1x64_8191_0)⟩,
    ⟨S8191x64, (extractStridedSlice S8191x64 ![0, 0] c slices_S8192x64_S8191x64_0_0)⟩] concatenates_S1x64_S8191x64_S8192x64_d0

/-- Two rounds of scores, one below the other. -/
def roundsR (p q : FVec Ideal S8192x1 .f32) : FVec Ideal S16384x1 .f32 :=
  concatenate S16384x1 0 [⟨S8192x1, p⟩, ⟨S8192x1, q⟩] concatenates_S8192x1_S8192x1_S16384x1_d0

/-- Two columns averaged. -/
def avgR (p q : FVec Ideal S16384x1 .f32) : FVec Ideal S16384x1 .f32 :=
  broadcastInDim S16384x1 ![0] bcast_S16384_S16384x1_0 (Host.divf (Host.reduceAdd
    (concatenate S16384x2 1 [⟨S16384x1, p⟩, ⟨S16384x1, q⟩] concatenates_S16384x1_S16384x1_S16384x2_d1) (constant S_ .f32 0x00000000#32) reducesTo_S16384x2_S16384_d1 h_S_)
    (broadcastInDim S16384 ![] bcast_S_S16384 (constant S_ .f32 0x40000000#32)))

section Indices

theorem seven_eq : Ideal.ofBits .f32 0x40E00000#32 = ((7 : ℝ) : EReal) := by
  simp [Ideal.ofBits, Ideal.ieee, -EReal.coe_mul]
  norm_num

theorem two_eq : Ideal.ofBits .f32 0x40000000#32 = ((2 : ℝ) : EReal) := by
  simp [Ideal.ofBits, Ideal.ieee, -EReal.coe_mul]
  norm_num

theorem encZ_ix (a : FVec Ideal S8192x8x8 .f32) (x : FVec Ideal S8192x8x128 .f32) (W : FVec Ideal S64x128 .f32) (b : FVec Ideal S64 .f32)
    (B : Fin 8192) (s : Fin 8) (l : Fin 64) :
    encZ a x W b (ix3 B s l) = (∑ t : Fin 8, a (ix3 B s t) * ∑ k : Fin 128, x (ix3 B t k) * W (ix2 l k)) + b (ix1 l) := by
  pointwise [encZ]

theorem actE_ix (z : FVec Ideal S8192x8x64 .f32) (s : FVec Ideal S1 .f32) (B : Fin 8192) (r : Fin 8) (l : Fin 64) :
    actE z s (ix3 B r l) = if 0 ≤ z (ix3 B r l) then z (ix3 B r l) else s (ix1 0) * z (ix3 B r l) := by
  pointwise [actE]

theorem decZ_ix (a : FVec Ideal S8192x8x8 .f32) (h : FVec Ideal S8192x8x64 .f32) (W : FVec Ideal S128x64 .f32) (b : FVec Ideal S128 .f32)
    (B : Fin 8192) (s : Fin 8) (l : Fin 128) :
    decZ a h W b (ix3 B s l) = (∑ t : Fin 8, a (ix3 B s t) * ∑ k : Fin 64, h (ix3 B t k) * W (ix2 l k)) + b (ix1 l) := by
  pointwise [decZ]

theorem actD_ix (z : FVec Ideal S8192x8x128 .f32) (s : FVec Ideal S1 .f32) (B : Fin 8192) (r : Fin 8) (l : Fin 128) :
    actD z s (ix3 B r l) = if 0 ≤ z (ix3 B r l) then z (ix3 B r l) else s (ix1 0) * z (ix3 B r l) := by
  pointwise [actD]

theorem meanR_ix (h : FVec Ideal S8192x8x64 .f32) (B : Fin 8192) (l : Fin 64) :
    meanR h (ix2 B l) = (∑ s : Fin 7, h (ix3 B s.castSucc l)) * ((7⁻¹ : ℝ) : EReal) := by
  pointwise [meanR]
  rw [show (1088421888#32 : BitVec 32) = 0x40E00000#32 from rfl, seven_eq, Ideal.div_coe (by norm_num), one_div]
  rfl

theorem lastR_ix (h : FVec Ideal S8192x8x64 .f32) (B : Fin 8192) (l : Fin 64) :
    lastR h (ix2 B l) = h (ix3 B 7 l) := by
  pointwise [lastR]

theorem bilR_ix (c : FVec Ideal S8192x64 .f32) (W : FVec Ideal S1x64x64 .f32) (x : FVec Ideal S8192x64 .f32) (b : FVec Ideal S1 .f32) (B : Fin 8192) :
    bilR c W x b (ix2 B 0) = (∑ l : Fin 64, c (ix2 B l) * ∑ k : Fin 64, W (ix3 0 k l) * x (ix2 B k)) + b (ix1 0) := by
  pointwise [bilR]

theorem shiftR_ix (c : FVec Ideal S8192x64 .f32) (B : Fin 8192) (l : Fin 64) :
    shiftR c (ix2 B l) = c (ix2 (before B) l) := by
  pointwise [shiftR]
  unfold before
  by_cases h : B.val = 0
  · rw [dif_pos (by omega), if_pos h]
    congr 2
    exact Fin.ext (by show 8191 + B.val = 8191; omega)
  · rw [dif_neg (by omega), if_neg h]

theorem roundsR_ix (p q : FVec Ideal S8192x1 .f32) (j : Fin 16384) :
    roundsR p q (ix2 j 0) = if h : j.val < 8192 then p (ix2 ⟨j.val, h⟩ 0) else q (ix2 ⟨j.val - 8192, by omega⟩ 0) := by
  pointwise [roundsR]

theorem avgR_ix (p q : FVec Ideal S16384x1 .f32) (j : Fin 16384) :
    avgR p q (ix2 j 0) = (p (ix2 j 0) + q (ix2 j 0)) * ((2⁻¹ : ℝ) : EReal) := by
  pointwise [avgR]
  rw [show (1073741824#32 : BitVec 32) = 0x40000000#32 from rfl, two_eq, Ideal.div_coe (by norm_num), one_div, Fin.sum_univ_one, Fin.sum_univ_one]

end Indices

end Cert.ReferenceIdeal.Staged

end
-- ==== Proof.RefVal.lean ====
module

public import proofs.«01_k».proof.Proof.Ref

/-!
# The reference's results as functions of its arguments

With both slopes at most one, the reference's results are, element by element, the functions of the
arguments that `Model` defines.
-/

@[expose] public section

set_option maxRecDepth 16384

noncomputable section

namespace Cert.ReferenceIdeal.Staged

open Idealize.ShloMosaic Idealize.ShloMosaic.TcCoe Idealize.SL.Sem Cert.ReferenceIdeal Cert.ReferenceIdeal.Value Cert.Model

attribute [local instance] Cert.ReferenceIdeal.Gen.facts

/-- The reference's arguments, read out of the memory before its run. -/
def args (m : (ℓ : Loc nD τ sig) → Buf (Elt Ideal) ℓ) (c : Dev nD) : Args where
  seq1 B s k := m ((c.tc : Thread nD τ).loc main_arg0) (ix3 B s k)
  seq2 B s k := m ((c.tc : Thread nD τ).loc main_arg1) (ix3 B s k)
  seq3 B s k := m ((c.tc : Thread nD τ).loc main_arg2) (ix3 B s k)
  seq4 B s k := m ((c.tc : Thread nD τ).loc main_arg3) (ix3 B s k)
  adj1 B s u := m ((c.tc : Thread nD τ).loc main_arg4) (ix3 B s u)
  adj2 B s u := m ((c.tc : Thread nD τ).loc main_arg5) (ix3 B s u)
  We l k := m ((c.tc : Thread nD τ).loc main_arg6) (ix2 l k)
  be l := m ((c.tc : Thread nD τ).loc main_arg7) (ix1 l)
  ae := m ((c.tc : Thread nD τ).loc main_arg8) (ix1 0)
  Wd l k := m ((c.tc : Thread nD τ).loc main_arg9) (ix2 l k)
  bd l := m ((c.tc : Thread nD τ).loc main_arg10) (ix1 l)
  ad := m ((c.tc : Thread nD τ).loc main_arg11) (ix1 0)
  Wb1 k l := m ((c.tc : Thread nD τ).loc main_arg12) (ix3 0 k l)
  bb1 := m ((c.tc : Thread nD τ).loc main_arg13) (ix1 0)
  Wb2 k l := m ((c.tc : Thread nD τ).loc main_arg14) (ix3 0 k l)
  bb2 := m ((c.tc : Thread nD τ).loc main_arg15) (ix1 0)

variable (m : (ℓ : Loc nD τ sig) → Buf (Elt Ideal) ℓ) (c : Dev nD)

def e1 : FVec Ideal S8192x8x64 .f32 := actE (encZ (m ((c.tc : Thread nD τ).loc main_arg4)) (m ((c.tc : Thread nD τ).loc main_arg0)) (m ((c.tc : Thread nD τ).loc main_arg6)) (m ((c.tc : Thread nD τ).loc main_arg7))) (m ((c.tc : Thread nD τ).loc main_arg8))

def e2 : FVec Ideal S8192x8x64 .f32 := actE (encZ (m ((c.tc : Thread nD τ).loc main_arg5)) (m ((c.tc : Thread nD τ).loc main_arg1)) (m ((c.tc : Thread nD τ).loc main_arg6)) (m ((c.tc : Thread nD τ).loc main_arg7))) (m ((c.tc : Thread nD τ).loc main_arg8))

def e3 : FVec Ideal S8192x8x64 .f32 := actE (encZ (m ((c.tc : Thread nD τ).loc main_arg4)) (m ((c.tc : Thread nD τ).loc main_arg2)) (m ((c.tc : Thread nD τ).loc main_arg6)) (m ((c.tc : Thread nD τ).loc main_arg7))) (m ((c.tc : Thread nD τ).loc main_arg8))

def e4 : FVec Ideal S8192x8x64 .f32 := actE (encZ (m ((c.tc : Thread nD τ).loc main_arg5)) (m ((c.tc : Thread nD τ).loc main_arg3)) (m ((c.tc : Thread nD τ).loc main_arg6)) (m ((c.tc : Thread nD τ).loc main_arg7))) (m ((c.tc : Thread nD τ).loc main_arg8))

theorem e1_ix (ha : (args m c).ae ≤ 1) (B : Fin 8192) (s : Fin 8) (l : Fin 64) : e1 m c (ix3 B s l) = h1 (args m c) B s l := by
  rw [e1, actE_ix, encZ_ix]
  exact (prelu_eq ha _).symm

theorem e2_ix (ha : (args m c).ae ≤ 1) (B : Fin 8192) (s : Fin 8) (l : Fin 64) : e2 m c (ix3 B s l) = h2 (args m c) B s l := by
  rw [e2, actE_ix, encZ_ix]
  exact (prelu_eq ha _).symm

theorem e3_ix (ha : (args m c).ae ≤ 1) (B : Fin 8192) (s : Fin 8) (l : Fin 64) : e3 m c (ix3 B s l) = h3 (args m c) B s l := by
  rw [e3, actE_ix, encZ_ix]
  exact (prelu_eq ha _).symm

theorem e4_ix (ha : (args m c).ae ≤ 1) (B : Fin 8192) (s : Fin 8) (l : Fin 64) : e4 m c (ix3 B s l) = h4 (args m c) B s l := by
  rw [e4, actE_ix, encZ_ix]
  exact (prelu_eq ha _).symm

/-- The first reconstruction, staged. -/
theorem rec1_staged : res_main_v54 m c = actD (decZ (m ((c.tc : Thread nD τ).loc main_arg4)) (e3 m c) (m ((c.tc : Thread nD τ).loc main_arg9)) (m ((c.tc : Thread nD τ).loc main_arg10))) (m ((c.tc : Thread nD τ).loc main_arg11)) := rfl

theorem rec1_ix (ha : (args m c).ae ≤ 1) (hd : (args m c).ad ≤ 1) (B : Fin 8192) (s : Fin 8) (l : Fin 128) :
    (res_main_v54 m c : FVec Ideal S8192x8x128 .f32) (ix3 B s l) = dec (args m c) (h3 (args m c)) (args m c).adj1 B s l := by
  rw [rec1_staged, actD_ix, decZ_ix]
  simp only [e3_ix m c ha]
  exact (prelu_eq hd _).symm

/-- The second reconstruction, staged. -/
theorem rec2_staged : res_main_v65 m c = actD (decZ (m ((c.tc : Thread nD τ).loc main_arg5)) (e4 m c) (m ((c.tc : Thread nD τ).loc main_arg9)) (m ((c.tc : Thread nD τ).loc main_arg10))) (m ((c.tc : Thread nD τ).loc main_arg11)) := rfl

theorem rec2_ix (ha : (args m c).ae ≤ 1) (hd : (args m c).ad ≤ 1) (B : Fin 8192) (s : Fin 8) (l : Fin 128) :
    (res_main_v65 m c : FVec Ideal S8192x8x128 .f32) (ix3 B s l) = dec (args m c) (h4 (args m c)) (args m c).adj2 B s l := by
  rw [rec2_staged, actD_ix, decZ_ix]
  simp only [e4_ix m c ha]
  exact (prelu_eq hd _).symm

/-- The scores, staged. -/
theorem scores_staged : res_main_v110 m c = avgR
    (roundsR (bilR (meanR (e1 m c)) (m ((c.tc : Thread nD τ).loc main_arg12)) (lastR (e2 m c)) (m ((c.tc : Thread nD τ).loc main_arg13)))
      (bilR (shiftR (meanR (e1 m c))) (m ((c.tc : Thread nD τ).loc main_arg12)) (lastR (e2 m c)) (m ((c.tc : Thread nD τ).loc main_arg13))))
    (roundsR (bilR (meanR (e2 m c)) (m ((c.tc : Thread nD τ).loc main_arg14)) (lastR (e1 m c)) (m ((c.tc : Thread nD τ).loc main_arg15)))
      (bilR (shiftR (meanR (e2 m c))) (m ((c.tc : Thread nD τ).loc main_arg14)) (lastR (e1 m c)) (m ((c.tc : Thread nD τ).loc main_arg15)))) := rfl

theorem mean1_ix (ha : (args m c).ae ≤ 1) (B : Fin 8192) (l : Fin 64) : meanR (e1 m c) (ix2 B l) = mean (h1 (args m c)) B l := by
  rw [meanR_ix]
  simp only [e1_ix m c ha]
  rfl

theorem mean2_ix (ha : (args m c).ae ≤ 1) (B : Fin 8192) (l : Fin 64) : meanR (e2 m c) (ix2 B l) = mean (h2 (args m c)) B l := by
  rw [meanR_ix]
  simp only [e2_ix m c ha]
  rfl

/-- A first score, of graph `B` against the means `x` that are those of graph `B'`. -/
theorem bil1_ix (ha : (args m c).ae ≤ 1) (x : FVec Ideal S8192x64 .f32) (B B' : Fin 8192) (hx : ∀ l, x (ix2 B l) = mean (h1 (args m c)) B' l) :
    bilR x (m ((c.tc : Thread nD τ).loc main_arg12)) (lastR (e2 m c)) (m ((c.tc : Thread nD τ).loc main_arg13)) (ix2 B 0) = s1 (args m c) B B' + (args m c).bb1 := by
  rw [bilR_ix]
  simp only [hx, lastR_ix, e2_ix m c ha]
  refine congrArg (· + (args m c).bb1) (Finset.sum_congr rfl fun l _ => (mul_comm _ _).trans (congrArg (· * _) (Finset.sum_congr rfl fun k _ => mul_comm _ _)))

/-- A second score. -/
theorem bil2_ix (ha : (args m c).ae ≤ 1) (x : FVec Ideal S8192x64 .f32) (B B' : Fin 8192) (hx : ∀ l, x (ix2 B l) = mean (h2 (args m c)) B' l) :
    bilR x (m ((c.tc : Thread nD τ).loc main_arg14)) (lastR (e1 m c)) (m ((c.tc : Thread nD τ).loc main_arg15)) (ix2 B 0) = s2 (args m c) B B' + (args m c).bb2 := by
  rw [bilR_ix]
  simp only [hx, lastR_ix, e1_ix m c ha]
  refine congrArg (· + (args m c).bb2) (Finset.sum_congr rfl fun l _ => (mul_comm _ _).trans (congrArg (· * _) (Finset.sum_congr rfl fun k _ => mul_comm _ _)))

theorem scores_ix (ha : (args m c).ae ≤ 1) (j : Fin 16384) : (res_main_v110 m c : FVec Ideal S16384x1 .f32) (ix2 j 0) = ret (args m c) j := by
  rw [scores_staged, avgR_ix, roundsR_ix, roundsR_ix]
  unfold ret
  by_cases h : j.val < 8192
  · rw [dif_pos h, dif_pos h, dif_pos h, bil1_ix m c ha _ _ _ (fun l => mean1_ix m c ha _ l), bil2_ix m c ha _ _ _ (fun l => mean2_ix m c ha _ l)]
    rfl
  · rw [dif_neg h, dif_neg h, dif_neg h, bil1_ix m c ha _ _ _ (fun l => (shiftR_ix _ _ l).trans (mean1_ix m c ha _ l)),
      bil2_ix m c ha _ _ _ (fun l => (shiftR_ix _ _ l).trans (mean2_ix m c ha _ l))]
    rfl

end Cert.ReferenceIdeal.Staged

end
-- ==== Proof.Slopes.lean ====
module

public import proofs.«01_k».proof.Pre_slopes_at_most_one
public import Idealize.ShloMosaic.Lib.Pipeline.ValueKit

/-!
# The precondition

The precondition, read: both slopes are at most one.
-/

@[expose] public section

noncomputable section

namespace Cert.Pre_slopes_at_most_one

open Idealize.ShloMosaic

/-- The side conditions of the precondition's operations. -/
theorem facts : Facts where
  bcast_S_S1 := by decide
  reducesTo_S1_S_d0 := by decide
  h_S_ := by decide

/-- A conjunction over one element, and then with another such. -/
theorem both_of_and (p q : Fin 1 → Prop) [∀ k, Decidable (p k)] [∀ k, Decidable (q k)]
    (h : IntOp.andi (Finset.fold IntOp.andi (1#1) (fun k => BitVec.ofBool (decide (p k))) Finset.univ)
      (Finset.fold IntOp.andi (1#1) (fun k => BitVec.ofBool (decide (q k))) Finset.univ) = 1#1) : p 0 ∧ q 0 := by
  rw [show (Finset.univ : Finset (Fin 1)) = {0} from rfl, Finset.fold_singleton, Finset.fold_singleton] at h
  by_cases hp : p 0 <;> by_cases hq : q 0 <;> simp only [hp, hq, decide_true, decide_false] at h
  · exact ⟨hp, hq⟩
  all_goals exact absurd h (by decide)

attribute [local instance] facts

/-- Where the precondition's test answers yes, both slopes are at most one. -/
theorem fn_ix (x0 x1 x2 x3 : FVec Ideal S8192x8x128 .f32) (x4 x5 : FVec Ideal S8192x8x8 .f32) (x6 : FVec Ideal S64x128 .f32) (x7 : FVec Ideal S64 .f32)
    (x8 : FVec Ideal S1 .f32) (x9 : FVec Ideal S128x64 .f32) (x10 : FVec Ideal S128 .f32) (x11 : FVec Ideal S1 .f32) (x12 : FVec Ideal S1x64x64 .f32)
    (x13 : FVec Ideal S1 .f32) (x14 : FVec Ideal S1x64x64 .f32) (x15 : FVec Ideal S1 .f32) (i : S_.Idx) (h : fn x0 x1 x2 x3 x4 x5 x6 x7 x8 x9 x10 x11 x12 x13 x14 x15 i = 1#1) :
    x8 (ix1 0) ≤ 1 ∧ x11 (ix1 0) ≤ 1 := by
  revert h
  pointwise [fn]
  exact both_of_and (fun k => x8 (ix1 k) ≤ 1) (fun k => x11 (ix1 k) ≤ 1)

end Cert.Pre_slopes_at_most_one

end
-- ==== Proof.Algebraic.lean ====
module

public import proofs.«01_k».proof.Defs
public import proofs.«01_k».proof.Proof.After
public import proofs.«01_k».proof.Proof.RefVal
public import proofs.«01_k».proof.Proof.Slopes

/-!
# The kernel computes what the reference computes

Over extended reals, with both slopes at most one, all three results of the kernel are the
reference's.
-/

@[expose] public section

set_option maxRecDepth 16384

noncomputable section

namespace Cert.Together

open Idealize.ShloMosaic Idealize.SL.Sem Cert.Model

attribute [local instance] Cert.KernelIdeal.Gen.facts Cert.ReferenceIdeal.Gen.facts Cert.Pre_slopes_at_most_one.facts

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The precondition of the kernel's memory bounds the slopes among its arguments. -/
theorem slopes (h : Cert.Pre_KernelIdeal_slopes_at_most_one m) (c : Dev Cert.KernelIdeal.nD) :
    (Cert.KernelIdeal.Fused.args m c).ae ≤ 1 ∧ (Cert.KernelIdeal.Fused.args m c).ad ≤ 1 :=
  Cert.Pre_slopes_at_most_one.fn_ix _ _ _ _ _ _ _ _ _ _ _ _ _ _ _ _ (fun a => a.elim0) (congrFun (h c) _)

/-- Memories that agree on the arguments give the same arguments. -/
theorem args_eq (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.Staged.args m' c = Cert.KernelIdeal.Fused.args m c := by
  obtain ⟨a0, a1, a2, a3, a4, a5, a6, a7, a8, a9, a10, a11, a12, a13, a14, a15⟩ := h
  unfold Cert.ReferenceIdeal.Staged.args Cert.KernelIdeal.Fused.args
  rw [a0, a1, a2, a3, a4, a5, a6, a7, a8, a9, a10, a11, a12, a13, a14, a15]

/-- The scores agree. -/
theorem scores_eq (c : Dev Cert.KernelIdeal.nD) (e : Cert.ReferenceIdeal.Staged.args m' c = Cert.KernelIdeal.Fused.args m c)
    (ha : (Cert.KernelIdeal.Fused.args m c).ae ≤ 1) :
    (Cert.ReferenceIdeal.Value.res_main_v110 m' c : FVec Ideal Cert.ReferenceIdeal.S16384x1 .f32) = Cert.KernelIdeal.Fused.scoresVal m c := by
  rw [← e] at ha
  funext i
  obtain ⟨j, rfl⟩ : ∃ j : Fin 16384, i = ix2 j 0 := ⟨i 0, by idx_vars i; exact congrArg (ix2 _) (Subsingleton.elim _ _)⟩
  refine (Cert.ReferenceIdeal.Staged.scores_ix m' c ha j).trans ?_
  rw [e]
  rfl

/-- The first reconstructions agree. -/
theorem rec1_eq (c : Dev Cert.KernelIdeal.nD) (e : Cert.ReferenceIdeal.Staged.args m' c = Cert.KernelIdeal.Fused.args m c)
    (ha : (Cert.KernelIdeal.Fused.args m c).ae ≤ 1) (hd : (Cert.KernelIdeal.Fused.args m c).ad ≤ 1) :
    (Cert.ReferenceIdeal.Value.res_main_v54 m' c : FVec Ideal Cert.ReferenceIdeal.S8192x8x128 .f32) = Cert.KernelIdeal.Fused.rec1Val m c := by
  rw [← e] at ha hd
  funext i
  idx_vars i
  refine (Cert.ReferenceIdeal.Staged.rec1_ix m' c ha hd _ _ _).trans ?_
  rw [e]
  rfl

/-- The second reconstructions agree. -/
theorem rec2_eq (c : Dev Cert.KernelIdeal.nD) (e : Cert.ReferenceIdeal.Staged.args m' c = Cert.KernelIdeal.Fused.args m c)
    (ha : (Cert.KernelIdeal.Fused.args m c).ae ≤ 1) (hd : (Cert.KernelIdeal.Fused.args m c).ad ≤ 1) :
    (Cert.ReferenceIdeal.Value.res_main_v65 m' c : FVec Ideal Cert.ReferenceIdeal.S8192x8x128 .f32) = Cert.KernelIdeal.Fused.rec2Val m c := by
  rw [← e] at ha hd
  funext i
  idx_vars i
  refine (Cert.ReferenceIdeal.Staged.rec2_ix m' c ha hd _ _ _).trans ?_
  rw [e]
  rfl

/-- The algebraic claim: every result of the kernel is the reference's. -/
theorem algebraic : Cert.algebraic_KernelIdeal_ReferenceIdeal_pre_slopes_at_most_one := by
  intro m g m' g' hpre hagree
  refine ⟨Cert.KernelIdeal.Fused.scoresVal m, Cert.KernelIdeal.Fused.rec1Val m, Cert.KernelIdeal.Fused.rec2Val m, ?_, ?_⟩
  · refine (θ_run Cert.KernelIdeal.defs _ _).mono (fun r h c => ?_)
      (θ_run_and (Cert.KernelIdeal.Fused.values m g) (Cert.KernelIdeal.Fused.unchanged m g))
    exact ⟨(h.1 c).1, (h.1 c).2.1, (h.1 c).2.2, h.2 c⟩
  · refine (θ_run Cert.ReferenceIdeal.defs _ _).mono (fun r h c => ?_) (Cert.ReferenceIdeal.Value.run (F := Ideal) m' g')
    have ha := slopes m hpre c
    have e := args_eq m m' c (hagree c)
    exact ⟨(h c).1.trans (scores_eq m m' c e ha.1), (h c).2.1.trans (rec1_eq m m' c e ha.1 ha.2), (h c).2.2.1.trans (rec2_eq m m' c e ha.1 ha.2), (h c).2.2.2⟩

end Cert.Together

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim. -/
theorem claim : Cert.Claim :=
  ⟨Cert.Kernel.Gen.facts, Cert.KernelIdeal.Gen.facts, Cert.ReferenceIdeal.Gen.facts, Cert.Pre_slopes_at_most_one.facts,
    Cert.Alone.frame_p, Cert.Alone.frame_pi, fun m g _ => Cert.Alone.frame_pi m g trivial,
    Cert.Alone.frame_ri, fun m g _ => Cert.Alone.frame_ri m g trivial, Cert.Alone.preserves, Cert.Together.algebraic⟩

end Cert.Proof

end
